-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_x_wq_wk_KernelIdeal [hPre_finite_x_wq_wk_KernelIdeal : Cert.Pre_finite_x_wq_wk_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_x_wq_wk_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_x_wq_wk_ReferenceIdeal [hPre_finite_x_wq_wk_ReferenceIdeal : Cert.Pre_finite_x_wq_wk_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_x_wq_wk_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_x_wq_wk_KernelIdeal [hKernelIdeal : Cert.KernelIdeal.Facts] [hPre_finite_x_wq_wk_KernelIdeal : Cert.Pre_finite_x_wq_wk_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_x_wq_wk_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_x_wq_wk_ReferenceIdeal [hReferenceIdeal : Cert.ReferenceIdeal.Facts] [hPre_finite_x_wq_wk_ReferenceIdeal : Cert.Pre_finite_x_wq_wk_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_x_wq_wk_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "scale_log2e" .f32 0x3E38AA3B#32 (((8 * (Real.log 2))⁻¹ : ℝ) : EReal)

def algebraic_KernelIdeal_ReferenceIdeal_pre_finite_x_wq_wk_KernelIdeal [hKernelIdeal : Cert.KernelIdeal.Facts] [hReferenceIdeal : Cert.ReferenceIdeal.Facts] [hPre_finite_x_wq_wk_KernelIdeal : Cert.Pre_finite_x_wq_wk_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_x_wq_wk_KernelIdeal m →
    (∀ c : Dev Cert.KernelIdeal.nD,
      m ((c.tc : Thread Cert.KernelIdeal.nD Cert.KernelIdeal.τ).loc Cert.KernelIdeal.main_arg0) = Layout.block ⟨3, ![2, 128, 512]⟩ ⟨3, ![2, 1024, 512]⟩ 1 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![512, 256]⟩ ⟨2, ![512, 2048]⟩ 1 8 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![512, 256]⟩ ⟨2, ![512, 2048]⟩ 1 8 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![512, 256]⟩ ⟨2, ![512, 2048]⟩ 1 8 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![256, 512]⟩ ⟨2, ![2048, 512]⟩ 0 8 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v80)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![2, 128, 512]⟩ ⟨3, ![2, 1024, 512]⟩ 1 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v80) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_x_wq_wk_KernelIdeal : Cert.Pre_finite_x_wq_wk_KernelIdeal.Facts) (hPre_finite_x_wq_wk_ReferenceIdeal : Cert.Pre_finite_x_wq_wk_ReferenceIdeal.Facts),
    quiescent_Kernel (hKernel := hKernel)
    ∧ quiescent_KernelIdeal (hKernelIdeal := hKernelIdeal)
    ∧ quiescent_KernelIdeal_pre_finite_x_wq_wk_KernelIdeal (hKernelIdeal := hKernelIdeal) (hPre_finite_x_wq_wk_KernelIdeal := hPre_finite_x_wq_wk_KernelIdeal)
    ∧ quiescent_ReferenceIdeal (hReferenceIdeal := hReferenceIdeal)
    ∧ quiescent_ReferenceIdeal_pre_finite_x_wq_wk_ReferenceIdeal (hReferenceIdeal := hReferenceIdeal) (hPre_finite_x_wq_wk_ReferenceIdeal := hPre_finite_x_wq_wk_ReferenceIdeal)
    ∧ preserves_Kernel_KernelIdeal
    ∧ algebraic_KernelIdeal_ReferenceIdeal_pre_finite_x_wq_wk_KernelIdeal (hKernelIdeal := hKernelIdeal) (hReferenceIdeal := hReferenceIdeal) (hPre_finite_x_wq_wk_KernelIdeal := hPre_finite_x_wq_wk_KernelIdeal)
-- ==== Pre_finite_x_wq_wk_KernelIdeal.lean ====
abbrev S2x128x512 : Shape := ⟨3, ![2, 128, 512]⟩
abbrev S512x256 : Shape := ⟨2, ![512, 256]⟩
abbrev S256x512 : Shape := ⟨2, ![256, 512]⟩
abbrev S_ : Shape := ⟨0, ![]⟩

class Facts : Prop where
  bcast_S_S2x128x512 : S_.BroadcastsInDim S2x128x512 (![] : Fin 0 → Fin S2x128x512.rank)
  reducesTo_S2x128x512_S_d0_1_2 : S2x128x512.ReducesTo [0, 1, 2] S_
  h_S_ : 0 < S_.numel
  bcast_S_S512x256 : S_.BroadcastsInDim S512x256 (![] : Fin 0 → Fin S512x256.rank)
  reducesTo_S512x256_S_d0_1 : S512x256.ReducesTo [0, 1] S_

variable [Facts]

def fn {F : FTy → Type} [FloatOps F] (main_arg0 : FVec F S2x128x512 .f32) (main_arg1 : FVec F S512x256 .f32) (main_arg2 : FVec F S512x256 .f32) (main_arg3 : FVec F S512x256 .f32) (main_arg4 : FVec F S256x512 .f32) : IVec S_ 1 :=
  let main_v0 : FVec F S2x128x512 .f32 := Host.absf main_arg0
  let main_cst : FVec F S_ .f32 := constant S_ .f32 0x7F800000#32
  let main_v1 : FVec F S2x128x512 .f32 := broadcastInDim S2x128x512 ![] bcast_S_S2x128x512 main_cst
  let main_v2 : IVec S2x128x512 1 := cmpf .olt main_v0 main_v1
  let main_c : IVec S_ 1 := constantI S_ 1 1#1
  let main_v3 : IVec S_ 1 := (fun x v => Host.reduce IntOp.andi x v reducesTo_S2x128x512_S_d0_1_2 h_S_) main_v2 main_c
  let main_v4 : FVec F S512x256 .f32 := Host.absf main_arg1
  let main_cst_0 : FVec F S_ .f32 := constant S_ .f32 0x7F800000#32
  let main_v5 : FVec F S512x256 .f32 := broadcastInDim S512x256 ![] bcast_S_S512x256 main_cst_0
  let main_v6 : IVec S512x256 1 := cmpf .olt main_v4 main_v5
  let main_c_1 : IVec S_ 1 := constantI S_ 1 1#1
  let main_v7 : IVec S_ 1 := (fun x v => Host.reduce IntOp.andi x v reducesTo_S512x256_S_d0_1 h_S_) main_v6 main_c_1
  let main_v8 : IVec S_ 1 := andi main_v3 main_v7
  let main_v9 : FVec F S512x256 .f32 := Host.absf main_arg2
  let main_cst_2 : FVec F S_ .f32 := constant S_ .f32 0x7F800000#32
  let main_v10 : FVec F S512x256 .f32 := broadcastInDim S512x256 ![] bcast_S_S512x256 main_cst_2
  let main_v11 : IVec S512x256 1 := cmpf .olt main_v9 main_v10
  let main_c_3 : IVec S_ 1 := constantI S_ 1 1#1
  let main_v12 : IVec S_ 1 := (fun x v => Host.reduce IntOp.andi x v reducesTo_S512x256_S_d0_1 h_S_) main_v11 main_c_3
  let main_v13 : IVec S_ 1 := andi main_v8 main_v12
  main_v13
-- ==== Pre_finite_x_wq_wk_ReferenceIdeal.lean ====
abbrev S2x1024x512 : Shape := ⟨3, ![2, 1024, 512]⟩
abbrev S512x2048 : Shape := ⟨2, ![512, 2048]⟩
abbrev S2048x512 : Shape := ⟨2, ![2048, 512]⟩
abbrev S_ : Shape := ⟨0, ![]⟩

class Facts : Prop where
  bcast_S_S2x1024x512 : S_.BroadcastsInDim S2x1024x512 (![] : Fin 0 → Fin S2x1024x512.rank)
  reducesTo_S2x1024x512_S_d0_1_2 : S2x1024x512.ReducesTo [0, 1, 2] S_
  h_S_ : 0 < S_.numel
  bcast_S_S512x2048 : S_.BroadcastsInDim S512x2048 (![] : Fin 0 → Fin S512x2048.rank)
  reducesTo_S512x2048_S_d0_1 : S512x2048.ReducesTo [0, 1] S_

variable [Facts]

def fn {F : FTy → Type} [FloatOps F] (main_arg0 : FVec F S2x1024x512 .f32) (main_arg1 : FVec F S512x2048 .f32) (main_arg2 : FVec F S512x2048 .f32) (main_arg3 : FVec F S512x2048 .f32) (main_arg4 : FVec F S2048x512 .f32) : IVec S_ 1 :=
  let main_v0 : FVec F S2x1024x512 .f32 := Host.absf main_arg0
  let main_cst : FVec F S_ .f32 := constant S_ .f32 0x7F800000#32
  let main_v1 : FVec F S2x1024x512 .f32 := broadcastInDim S2x1024x512 ![] bcast_S_S2x1024x512 main_cst
  let main_v2 : IVec S2x1024x512 1 := cmpf .olt main_v0 main_v1
  let main_c : IVec S_ 1 := constantI S_ 1 1#1
  let main_v3 : IVec S_ 1 := (fun x v => Host.reduce IntOp.andi x v reducesTo_S2x1024x512_S_d0_1_2 h_S_) main_v2 main_c
  let main_v4 : FVec F S512x2048 .f32 := Host.absf main_arg1
  let main_cst_0 : FVec F S_ .f32 := constant S_ .f32 0x7F800000#32
  let main_v5 : FVec F S512x2048 .f32 := broadcastInDim S512x2048 ![] bcast_S_S512x2048 main_cst_0
  let main_v6 : IVec S512x2048 1 := cmpf .olt main_v4 main_v5
  let main_c_1 : IVec S_ 1 := constantI S_ 1 1#1
  let main_v7 : IVec S_ 1 := (fun x v => Host.reduce IntOp.andi x v reducesTo_S512x2048_S_d0_1 h_S_) main_v6 main_c_1
  let main_v8 : IVec S_ 1 := andi main_v3 main_v7
  let main_v9 : FVec F S512x2048 .f32 := Host.absf main_arg2
  let main_cst_2 : FVec F S_ .f32 := constant S_ .f32 0x7F800000#32
  let main_v10 : FVec F S512x2048 .f32 := broadcastInDim S512x2048 ![] bcast_S_S512x2048 main_cst_2
  let main_v11 : IVec S512x2048 1 := cmpf .olt main_v9 main_v10
  let main_c_3 : IVec S_ 1 := constantI S_ 1 1#1
  let main_v12 : IVec S_ 1 := (fun x v => Host.reduce IntOp.andi x v reducesTo_S512x2048_S_d0_1 h_S_) main_v11 main_c_3
  let main_v13 : IVec S_ 1 := andi main_v8 main_v12
  main_v13
-- ==== Kernel.lean ====
abbrev S2x128x512 : Shape := ⟨3, ![2, 128, 512]⟩
abbrev S512x256 : Shape := ⟨2, ![512, 256]⟩
abbrev S256x512 : Shape := ⟨2, ![256, 512]⟩
abbrev S8x2x128x512 : Shape := ⟨4, ![8, 2, 128, 512]⟩
abbrev S2x1024x256 : Shape := ⟨3, ![2, 1024, 256]⟩
abbrev S1024x256 : Shape := ⟨2, ![1024, 256]⟩
abbrev S4x2x128x512 : Shape := ⟨4, ![4, 2, 128, 512]⟩
abbrev S3x2x128x512 : Shape := ⟨4, ![3, 2, 128, 512]⟩
abbrev S7x2x128x512 : Shape := ⟨4, ![7, 2, 128, 512]⟩
abbrev S7 : Shape := ⟨1, ![7]⟩
abbrev S1x2x128x512 : Shape := ⟨4, ![1, 2, 128, 512]⟩
abbrev S256x256 : Shape := ⟨2, ![256, 256]⟩
abbrev S_ : Shape := ⟨0, ![]⟩
abbrev S1 : Shape := ⟨1, ![1]⟩
abbrev S128x256 : Shape := ⟨2, ![128, 256]⟩
abbrev S1x128x256 : Shape := ⟨3, ![1, 128, 256]⟩
abbrev S128x64 : Shape := ⟨2, ![128, 64]⟩
abbrev S1x1024x64 : Shape := ⟨3, ![1, 1024, 64]⟩
abbrev S1024x64 : Shape := ⟨2, ![1024, 64]⟩
abbrev S128x1024 : Shape := ⟨2, ![128, 1024]⟩
abbrev S128 : Shape := ⟨1, ![128]⟩
abbrev S128x1 : Shape := ⟨2, ![128, 1]⟩
abbrev S128x512 : Shape := ⟨2, ![128, 512]⟩
abbrev S1x1x128x512 : Shape := ⟨4, ![1, 1, 128, 512]⟩
abbrev S1x128x512 : Shape := ⟨3, ![1, 128, 512]⟩

abbrev nBuf : Space → Nat
  | .hbm => 6
  | .vmem => 15
  | .smem => 0
  | _ => 0

abbrev bufTy : (tb : Table) → Fin (tcTables nBuf tb) → BufTy
  | .hbm, ⟨0, _⟩ => ⟨S2x128x512, .f32⟩
  | .hbm, ⟨1, _⟩ => ⟨S512x256, .f32⟩
  | .hbm, ⟨2, _⟩ => ⟨S512x256, .f32⟩
  | .hbm, ⟨3, _⟩ => ⟨S512x256, .f32⟩
  | .hbm, ⟨4, _⟩ => ⟨S256x512, .f32⟩
  | .hbm, ⟨5, _⟩ => ⟨S2x128x512, .f32⟩
  | .local _ .vmem, ⟨0, _⟩ => ⟨S2x128x512, .f32⟩
  | .local _ .vmem, ⟨1, _⟩ => ⟨S512x256, .f32⟩
  | .local _ .vmem, ⟨2, _⟩ => ⟨S512x256, .f32⟩
  | .local _ .vmem, ⟨3, _⟩ => ⟨S512x256, .f32⟩
  | .local _ .vmem, ⟨4, _⟩ => ⟨S256x512, .f32⟩
  | .local _ .vmem, ⟨5, _⟩ => ⟨S2x128x512, .f32⟩
  | .local _ .vmem, ⟨6, _⟩ => ⟨S8x2x128x512, .bf16⟩
  | .local _ .vmem, ⟨7, _⟩ => ⟨S2x1024x256, .bf16⟩
  | .local _ .vmem, ⟨8, _⟩ => ⟨S2x1024x256, .bf16⟩
  | .local _ .vmem, ⟨9, _⟩ => ⟨S2x1024x256, .bf16⟩
  | .local _ .vmem, ⟨10, _⟩ => ⟨S1024x256, .f32⟩
  | .local _ .vmem, ⟨11, _⟩ => ⟨S1024x256, .f32⟩
  | .local _ .vmem, ⟨12, _⟩ => ⟨S4x2x128x512, .bf16⟩
  | .local _ .vmem, ⟨13, _⟩ => ⟨S3x2x128x512, .bf16⟩
  | .local _ .vmem, ⟨14, _⟩ => ⟨S7x2x128x512, .bf16⟩
  | _, _ => ⟨S2x128x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 1 → Bool
  | ⟨0, _⟩ => false
  | _ => false

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  (ofTc nBuf bufTy 1 34 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_scratch4 : Ref sig .tc := ⟨.vmem, 10, rfl⟩
abbrev cc0_scratch5 : Ref sig .tc := ⟨.vmem, 11, rfl⟩
abbrev cc0_scratch6 : Ref sig .tc := ⟨.vmem, 12, rfl⟩
abbrev cc0_scratch7 : Ref sig .tc := ⟨.vmem, 13, rfl⟩
abbrev cc0_scratch8 : Ref sig .tc := ⟨.vmem, 14, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 8
abbrev τ : Topo := Topo.v7x

variable {F : FTy → Type} [FloatOps F]

abbrev grid0 : Pipeline.Grid := .none

def k0_off1 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v28 : Index := Scalar.indexCast v2
  let c0_15 : Index := 0#32
  let c0_16 : Index := 0#32
  let c0_17 : Index := 0#32
  ![v28.toNat, 0, 0, 0]
def k0_dev1 (d0 : Dev nD) : Nat :=
  let c0_i32_63 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_62 : BitVec 32 := 1#32
  let v155 : BitVec 32 := Scalar.muli v13 c1_i32_62
  let v156 : BitVec 32 := Scalar.addi c0_i32_63 v155
  v156.toNat
def k0_dev2 (d0 : Dev nD) : Nat :=
  let c0_i32_66 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_65 : BitVec 32 := 1#32
  let v157 : BitVec 32 := Scalar.muli v24 c1_i32_65
  let v158 : BitVec 32 := Scalar.addi c0_i32_66 v157
  v158.toNat
def k0_off2 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_72 : BitVec 32 := 0#32
  let c0_i32_73 : BitVec 32 := 0#32
  let c0_i32_74 : BitVec 32 := 0#32
  ![v2.toNat, 0, 0, 0]
def k0_dev3 (d0 : Dev nD) : Nat :=
  let c0_i32_71 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_70 : BitVec 32 := 1#32
  let v159 : BitVec 32 := Scalar.muli v24 c1_i32_70
  let v160 : BitVec 32 := Scalar.addi c0_i32_71 v159
  v160.toNat
def k0_dev4 (d0 : Dev nD) : Nat :=
  let c0_i32_80 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_79 : BitVec 32 := 1#32
  let v169 : BitVec 32 := Scalar.muli v13 c1_i32_79
  let v170 : BitVec 32 := Scalar.addi c0_i32_80 v169
  v170.toNat
def k0_off3 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c128_i32 : BitVec 32 := 128#32
  let v179 : BitVec 32 := Scalar.muli v2 c128_i32
  let v180 : Index := Scalar.indexCast v179
  let c0_87 : Index := 0#32
  ![v180.toNat, 0]
def k0_off4 (d0 : Dev nD) : Fin 3 → Nat :=
  let c0_98 : Index := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c128_i32 : BitVec 32 := 128#32
  let v179 : BitVec 32 := Scalar.muli v2 c128_i32
  let v209 : Index := Scalar.indexCast v179
  let c0_99 : Index := 0#32
  ![0, v209.toNat, 0]
def k0_off5 (d0 : Dev nD) : Fin 3 → Nat :=
  let c1 : Index := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c128_i32 : BitVec 32 := 128#32
  let v179 : BitVec 32 := Scalar.muli v2 c128_i32
  let v224 : Index := Scalar.indexCast v179
  let c0_104 : Index := 0#32
  ![1, v224.toNat, 0]
def k0_off6 (d0 : Dev nD) (c1_i32_129 : BitVec 32) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v254 : BitVec 32 := Scalar.subi v2 c1_i32_129
  let c8_i32_130 : BitVec 32 := 8#32
  let c0_i32_131 : BitVec 32 := 0#32
  let v255 : BitVec 1 := Scalar.cmpi .eq c8_i32_130 c0_i32_131
  let c1_i32_132 : BitVec 32 := 1#32
  let v256 : BitVec 32 := Scalar.select v255 c1_i32_132 c8_i32_130
  let v257 : BitVec 32 := Scalar.remsi v254 v256
  let c0_i32_134 : BitVec 32 := 0#32
  let v259 : BitVec 1 := Scalar.cmpi .slt v257 c0_i32_134
  let c0_i32_135 : BitVec 32 := 0#32
  let v260 : BitVec 1 := Scalar.cmpi .slt v256 c0_i32_135
  let v261 : BitVec 1 := Scalar.xori v259 v260
  let c0_i32_133 : BitVec 32 := 0#32
  let v258 : BitVec 1 := Scalar.cmpi .ne v257 c0_i32_133
  let v262 : BitVec 1 := Scalar.andi v261 v258
  let v263 : BitVec 32 := Scalar.addi v257 v256
  let v264 : BitVec 32 := Scalar.select v262 v263 v257
  let c0_i32_140 : BitVec 32 := 0#32
  let c0_i32_141 : BitVec 32 := 0#32
  let c0_i32_142 : BitVec 32 := 0#32
  ![v264.toNat, 0, 0, 0]
def k0_dev5 (d0 : Dev nD) : Nat :=
  let c0_i32_139 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_138 : BitVec 32 := 1#32
  let v265 : BitVec 32 := Scalar.muli v24 c1_i32_138
  let v266 : BitVec 32 := Scalar.addi c0_i32_139 v265
  v266.toNat
def k0_off7 (d0 : Dev nD) (c1_i32_146 : BitVec 32) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v275 : BitVec 32 := Scalar.addi v2 c1_i32_146
  let c8_i32_147 : BitVec 32 := 8#32
  let c0_i32_148 : BitVec 32 := 0#32
  let v276 : BitVec 1 := Scalar.cmpi .eq c8_i32_147 c0_i32_148
  let c1_i32_149 : BitVec 32 := 1#32
  let v277 : BitVec 32 := Scalar.select v276 c1_i32_149 c8_i32_147
  let v278 : BitVec 32 := Scalar.remsi v275 v277
  let c0_i32_151 : BitVec 32 := 0#32
  let v280 : BitVec 1 := Scalar.cmpi .slt v278 c0_i32_151
  let c0_i32_152 : BitVec 32 := 0#32
  let v281 : BitVec 1 := Scalar.cmpi .slt v277 c0_i32_152
  let v282 : BitVec 1 := Scalar.xori v280 v281
  let c0_i32_150 : BitVec 32 := 0#32
  let v279 : BitVec 1 := Scalar.cmpi .ne v278 c0_i32_150
  let v283 : BitVec 1 := Scalar.andi v282 v279
  let v284 : BitVec 32 := Scalar.addi v278 v277
  let v285 : BitVec 32 := Scalar.select v283 v284 v278
  let c0_i32_156 : BitVec 32 := 0#32
  let c0_i32_157 : BitVec 32 := 0#32
  let c0_i32_158 : BitVec 32 := 0#32
  ![v285.toNat, 0, 0, 0]
def k0_dev6 (d0 : Dev nD) : Nat :=
  let c0_i32_155 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_154 : BitVec 32 := 1#32
  let v286 : BitVec 32 := Scalar.muli v13 c1_i32_154
  let v287 : BitVec 32 := Scalar.addi c0_i32_155 v286
  v287.toNat
def k0_off8 (d0 : Dev nD) (c1_i32_162 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v296 : BitVec 32 := Scalar.subi v2 c1_i32_162
  let c8_i32_163 : BitVec 32 := 8#32
  let c0_i32_164 : BitVec 32 := 0#32
  let v297 : BitVec 1 := Scalar.cmpi .eq c8_i32_163 c0_i32_164
  let c1_i32_165 : BitVec 32 := 1#32
  let v298 : BitVec 32 := Scalar.select v297 c1_i32_165 c8_i32_163
  let v299 : BitVec 32 := Scalar.remsi v296 v298
  let c0_i32_167 : BitVec 32 := 0#32
  let v301 : BitVec 1 := Scalar.cmpi .slt v299 c0_i32_167
  let c0_i32_168 : BitVec 32 := 0#32
  let v302 : BitVec 1 := Scalar.cmpi .slt v298 c0_i32_168
  let v303 : BitVec 1 := Scalar.xori v301 v302
  let c0_i32_166 : BitVec 32 := 0#32
  let v300 : BitVec 1 := Scalar.cmpi .ne v299 c0_i32_166
  let v304 : BitVec 1 := Scalar.andi v303 v300
  let v305 : BitVec 32 := Scalar.addi v299 v298
  let v306 : BitVec 32 := Scalar.select v304 v305 v299
  let c128_i32_169 : BitVec 32 := 128#32
  let v307 : BitVec 32 := Scalar.muli v306 c128_i32_169
  let v308 : Index := Scalar.indexCast v307
  let c0_170 : Index := 0#32
  ![v308.toNat, 0]
def k0_off9 (d0 : Dev nD) (c1_i32_162 : BitVec 32) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v296 : BitVec 32 := Scalar.subi v2 c1_i32_162
  let c8_i32_163 : BitVec 32 := 8#32
  let c0_i32_164 : BitVec 32 := 0#32
  let v297 : BitVec 1 := Scalar.cmpi .eq c8_i32_163 c0_i32_164
  let c1_i32_165 : BitVec 32 := 1#32
  let v298 : BitVec 32 := Scalar.select v297 c1_i32_165 c8_i32_163
  let v299 : BitVec 32 := Scalar.remsi v296 v298
  let c0_i32_167 : BitVec 32 := 0#32
  let v301 : BitVec 1 := Scalar.cmpi .slt v299 c0_i32_167
  let c0_i32_168 : BitVec 32 := 0#32
  let v302 : BitVec 1 := Scalar.cmpi .slt v298 c0_i32_168
  let v303 : BitVec 1 := Scalar.xori v301 v302
  let c0_i32_166 : BitVec 32 := 0#32
  let v300 : BitVec 1 := Scalar.cmpi .ne v299 c0_i32_166
  let v304 : BitVec 1 := Scalar.andi v303 v300
  let v305 : BitVec 32 := Scalar.addi v299 v298
  let v306 : BitVec 32 := Scalar.select v304 v305 v299
  let v314 : Index := Scalar.indexCast v306
  let c0_172 : Index := 0#32
  let c0_173 : Index := 0#32
  let c0_174 : Index := 0#32
  ![v314.toNat, 0, 0, 0]
def k0_off10 (d0 : Dev nD) (c1_i32_162 : BitVec 32) : Fin 3 → Nat :=
  let c0_181 : Index := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v296 : BitVec 32 := Scalar.subi v2 c1_i32_162
  let c8_i32_163 : BitVec 32 := 8#32
  let c0_i32_164 : BitVec 32 := 0#32
  let v297 : BitVec 1 := Scalar.cmpi .eq c8_i32_163 c0_i32_164
  let c1_i32_165 : BitVec 32 := 1#32
  let v298 : BitVec 32 := Scalar.select v297 c1_i32_165 c8_i32_163
  let v299 : BitVec 32 := Scalar.remsi v296 v298
  let c0_i32_167 : BitVec 32 := 0#32
  let v301 : BitVec 1 := Scalar.cmpi .slt v299 c0_i32_167
  let c0_i32_168 : BitVec 32 := 0#32
  let v302 : BitVec 1 := Scalar.cmpi .slt v298 c0_i32_168
  let v303 : BitVec 1 := Scalar.xori v301 v302
  let c0_i32_166 : BitVec 32 := 0#32
  let v300 : BitVec 1 := Scalar.cmpi .ne v299 c0_i32_166
  let v304 : BitVec 1 := Scalar.andi v303 v300
  let v305 : BitVec 32 := Scalar.addi v299 v298
  let v306 : BitVec 32 := Scalar.select v304 v305 v299
  let c128_i32_169 : BitVec 32 := 128#32
  let v307 : BitVec 32 := Scalar.muli v306 c128_i32_169
  let v337 : Index := Scalar.indexCast v307
  let c0_182 : Index := 0#32
  ![0, v337.toNat, 0]
def k0_off11 (d0 : Dev nD) (c1_i32_162 : BitVec 32) : Fin 3 → Nat :=
  let c1_187 : Index := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v296 : BitVec 32 := Scalar.subi v2 c1_i32_162
  let c8_i32_163 : BitVec 32 := 8#32
  let c0_i32_164 : BitVec 32 := 0#32
  let v297 : BitVec 1 := Scalar.cmpi .eq c8_i32_163 c0_i32_164
  let c1_i32_165 : BitVec 32 := 1#32
  let v298 : BitVec 32 := Scalar.select v297 c1_i32_165 c8_i32_163
  let v299 : BitVec 32 := Scalar.remsi v296 v298
  let c0_i32_167 : BitVec 32 := 0#32
  let v301 : BitVec 1 := Scalar.cmpi .slt v299 c0_i32_167
  let c0_i32_168 : BitVec 32 := 0#32
  let v302 : BitVec 1 := Scalar.cmpi .slt v298 c0_i32_168
  let v303 : BitVec 1 := Scalar.xori v301 v302
  let c0_i32_166 : BitVec 32 := 0#32
  let v300 : BitVec 1 := Scalar.cmpi .ne v299 c0_i32_166
  let v304 : BitVec 1 := Scalar.andi v303 v300
  let v305 : BitVec 32 := Scalar.addi v299 v298
  let v306 : BitVec 32 := Scalar.select v304 v305 v299
  let c128_i32_169 : BitVec 32 := 128#32
  let v307 : BitVec 32 := Scalar.muli v306 c128_i32_169
  let v352 : Index := Scalar.indexCast v307
  let c0_188 : Index := 0#32
  ![1, v352.toNat, 0]
def k0_off12 (d0 : Dev nD) (c1_i32_193 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v366 : BitVec 32 := Scalar.addi v2 c1_i32_193
  let c8_i32_194 : BitVec 32 := 8#32
  let c0_i32_195 : BitVec 32 := 0#32
  let v367 : BitVec 1 := Scalar.cmpi .eq c8_i32_194 c0_i32_195
  let c1_i32_196 : BitVec 32 := 1#32
  let v368 : BitVec 32 := Scalar.select v367 c1_i32_196 c8_i32_194
  let v369 : BitVec 32 := Scalar.remsi v366 v368
  let c0_i32_198 : BitVec 32 := 0#32
  let v371 : BitVec 1 := Scalar.cmpi .slt v369 c0_i32_198
  let c0_i32_199 : BitVec 32 := 0#32
  let v372 : BitVec 1 := Scalar.cmpi .slt v368 c0_i32_199
  let v373 : BitVec 1 := Scalar.xori v371 v372
  let c0_i32_197 : BitVec 32 := 0#32
  let v370 : BitVec 1 := Scalar.cmpi .ne v369 c0_i32_197
  let v374 : BitVec 1 := Scalar.andi v373 v370
  let v375 : BitVec 32 := Scalar.addi v369 v368
  let v376 : BitVec 32 := Scalar.select v374 v375 v369
  let c128_i32_200 : BitVec 32 := 128#32
  let v377 : BitVec 32 := Scalar.muli v376 c128_i32_200
  let v378 : Index := Scalar.indexCast v377
  let c0_201 : Index := 0#32
  ![v378.toNat, 0]
def k0_off13 (d0 : Dev nD) (c1_i32_193 : BitVec 32) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v366 : BitVec 32 := Scalar.addi v2 c1_i32_193
  let c8_i32_194 : BitVec 32 := 8#32
  let c0_i32_195 : BitVec 32 := 0#32
  let v367 : BitVec 1 := Scalar.cmpi .eq c8_i32_194 c0_i32_195
  let c1_i32_196 : BitVec 32 := 1#32
  let v368 : BitVec 32 := Scalar.select v367 c1_i32_196 c8_i32_194
  let v369 : BitVec 32 := Scalar.remsi v366 v368
  let c0_i32_198 : BitVec 32 := 0#32
  let v371 : BitVec 1 := Scalar.cmpi .slt v369 c0_i32_198
  let c0_i32_199 : BitVec 32 := 0#32
  let v372 : BitVec 1 := Scalar.cmpi .slt v368 c0_i32_199
  let v373 : BitVec 1 := Scalar.xori v371 v372
  let c0_i32_197 : BitVec 32 := 0#32
  let v370 : BitVec 1 := Scalar.cmpi .ne v369 c0_i32_197
  let v374 : BitVec 1 := Scalar.andi v373 v370
  let v375 : BitVec 32 := Scalar.addi v369 v368
  let v376 : BitVec 32 := Scalar.select v374 v375 v369
  let v384 : Index := Scalar.indexCast v376
  let c0_203 : Index := 0#32
  let c0_204 : Index := 0#32
  let c0_205 : Index := 0#32
  ![v384.toNat, 0, 0, 0]
def k0_off14 (d0 : Dev nD) (c1_i32_193 : BitVec 32) : Fin 3 → Nat :=
  let c0_212 : Index := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v366 : BitVec 32 := Scalar.addi v2 c1_i32_193
  let c8_i32_194 : BitVec 32 := 8#32
  let c0_i32_195 : BitVec 32 := 0#32
  let v367 : BitVec 1 := Scalar.cmpi .eq c8_i32_194 c0_i32_195
  let c1_i32_196 : BitVec 32 := 1#32
  let v368 : BitVec 32 := Scalar.select v367 c1_i32_196 c8_i32_194
  let v369 : BitVec 32 := Scalar.remsi v366 v368
  let c0_i32_198 : BitVec 32 := 0#32
  let v371 : BitVec 1 := Scalar.cmpi .slt v369 c0_i32_198
  let c0_i32_199 : BitVec 32 := 0#32
  let v372 : BitVec 1 := Scalar.cmpi .slt v368 c0_i32_199
  let v373 : BitVec 1 := Scalar.xori v371 v372
  let c0_i32_197 : BitVec 32 := 0#32
  let v370 : BitVec 1 := Scalar.cmpi .ne v369 c0_i32_197
  let v374 : BitVec 1 := Scalar.andi v373 v370
  let v375 : BitVec 32 := Scalar.addi v369 v368
  let v376 : BitVec 32 := Scalar.select v374 v375 v369
  let c128_i32_200 : BitVec 32 := 128#32
  let v377 : BitVec 32 := Scalar.muli v376 c128_i32_200
  let v407 : Index := Scalar.indexCast v377
  let c0_213 : Index := 0#32
  ![0, v407.toNat, 0]
def k0_off15 (d0 : Dev nD) (c1_i32_193 : BitVec 32) : Fin 3 → Nat :=
  let c1_218 : Index := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v366 : BitVec 32 := Scalar.addi v2 c1_i32_193
  let c8_i32_194 : BitVec 32 := 8#32
  let c0_i32_195 : BitVec 32 := 0#32
  let v367 : BitVec 1 := Scalar.cmpi .eq c8_i32_194 c0_i32_195
  let c1_i32_196 : BitVec 32 := 1#32
  let v368 : BitVec 32 := Scalar.select v367 c1_i32_196 c8_i32_194
  let v369 : BitVec 32 := Scalar.remsi v366 v368
  let c0_i32_198 : BitVec 32 := 0#32
  let v371 : BitVec 1 := Scalar.cmpi .slt v369 c0_i32_198
  let c0_i32_199 : BitVec 32 := 0#32
  let v372 : BitVec 1 := Scalar.cmpi .slt v368 c0_i32_199
  let v373 : BitVec 1 := Scalar.xori v371 v372
  let c0_i32_197 : BitVec 32 := 0#32
  let v370 : BitVec 1 := Scalar.cmpi .ne v369 c0_i32_197
  let v374 : BitVec 1 := Scalar.andi v373 v370
  let v375 : BitVec 32 := Scalar.addi v369 v368
  let v376 : BitVec 32 := Scalar.select v374 v375 v369
  let c128_i32_200 : BitVec 32 := 128#32
  let v377 : BitVec 32 := Scalar.muli v376 c128_i32_200
  let v422 : Index := Scalar.indexCast v377
  let c0_219 : Index := 0#32
  ![1, v422.toNat, 0]
def k0_dev7 (d0 : Dev nD) : Nat :=
  let c0_i32_254 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_253 : BitVec 32 := 1#32
  let v463 : BitVec 32 := Scalar.muli v24 c1_i32_253
  let v464 : BitVec 32 := Scalar.addi c0_i32_254 v463
  v464.toNat
def k0_dev8 (d0 : Dev nD) : Nat :=
  let c0_i32_270 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_269 : BitVec 32 := 1#32
  let v484 : BitVec 32 := Scalar.muli v13 c1_i32_269
  let v485 : BitVec 32 := Scalar.addi c0_i32_270 v484
  v485.toNat
def k0_dev9 (d0 : Dev nD) : Nat :=
  let c0_i32_368 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_367 : BitVec 32 := 1#32
  let v661 : BitVec 32 := Scalar.muli v24 c1_i32_367
  let v662 : BitVec 32 := Scalar.addi c0_i32_368 v661
  v662.toNat
def k0_dev10 (d0 : Dev nD) : Nat :=
  let c0_i32_741 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_740 : BitVec 32 := 1#32
  let v1241 : BitVec 32 := Scalar.muli v24 c1_i32_740
  let v1242 : BitVec 32 := Scalar.addi c0_i32_741 v1241
  v1242.toNat
def k0_dev11 (d0 : Dev nD) : Nat :=
  let c0_i32_761 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_760 : BitVec 32 := 1#32
  let v1259 : BitVec 32 := Scalar.muli v13 c1_i32_760
  let v1260 : BitVec 32 := Scalar.addi c0_i32_761 v1259
  v1260.toNat
def k0_off16 (d0 : Dev nD) (c0_i32_769 : BitVec 32) : Fin 3 → Nat :=
  let c0_777 : Index := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_768 : BitVec 32 := 3#32
  let v1269 : BitVec 32 := Scalar.addi v2 c3_i32_768
  let v1270 : BitVec 32 := Scalar.subi v1269 c0_i32_769
  let c8_i32_770 : BitVec 32 := 8#32
  let c0_i32_771 : BitVec 32 := 0#32
  let v1271 : BitVec 1 := Scalar.cmpi .eq c8_i32_770 c0_i32_771
  let c1_i32_772 : BitVec 32 := 1#32
  let v1272 : BitVec 32 := Scalar.select v1271 c1_i32_772 c8_i32_770
  let v1273 : BitVec 32 := Scalar.remsi v1270 v1272
  let c0_i32_774 : BitVec 32 := 0#32
  let v1275 : BitVec 1 := Scalar.cmpi .slt v1273 c0_i32_774
  let c0_i32_775 : BitVec 32 := 0#32
  let v1276 : BitVec 1 := Scalar.cmpi .slt v1272 c0_i32_775
  let v1277 : BitVec 1 := Scalar.xori v1275 v1276
  let c0_i32_773 : BitVec 32 := 0#32
  let v1274 : BitVec 1 := Scalar.cmpi .ne v1273 c0_i32_773
  let v1278 : BitVec 1 := Scalar.andi v1277 v1274
  let v1279 : BitVec 32 := Scalar.addi v1273 v1272
  let v1280 : BitVec 32 := Scalar.select v1278 v1279 v1273
  let c128_i32_776 : BitVec 32 := 128#32
  let v1281 : BitVec 32 := Scalar.muli v1280 c128_i32_776
  let v1282 : Index := Scalar.indexCast v1281
  let c0_778 : Index := 0#32
  ![0, v1282.toNat, 0]
def k0_off17 (d0 : Dev nD) (c0_i32_769 : BitVec 32) : Fin 3 → Nat :=
  let c1_821 : Index := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_768 : BitVec 32 := 3#32
  let v1269 : BitVec 32 := Scalar.addi v2 c3_i32_768
  let v1270 : BitVec 32 := Scalar.subi v1269 c0_i32_769
  let c8_i32_770 : BitVec 32 := 8#32
  let c0_i32_771 : BitVec 32 := 0#32
  let v1271 : BitVec 1 := Scalar.cmpi .eq c8_i32_770 c0_i32_771
  let c1_i32_772 : BitVec 32 := 1#32
  let v1272 : BitVec 32 := Scalar.select v1271 c1_i32_772 c8_i32_770
  let v1273 : BitVec 32 := Scalar.remsi v1270 v1272
  let c0_i32_774 : BitVec 32 := 0#32
  let v1275 : BitVec 1 := Scalar.cmpi .slt v1273 c0_i32_774
  let c0_i32_775 : BitVec 32 := 0#32
  let v1276 : BitVec 1 := Scalar.cmpi .slt v1272 c0_i32_775
  let v1277 : BitVec 1 := Scalar.xori v1275 v1276
  let c0_i32_773 : BitVec 32 := 0#32
  let v1274 : BitVec 1 := Scalar.cmpi .ne v1273 c0_i32_773
  let v1278 : BitVec 1 := Scalar.andi v1277 v1274
  let v1279 : BitVec 32 := Scalar.addi v1273 v1272
  let v1280 : BitVec 32 := Scalar.select v1278 v1279 v1273
  let c128_i32_820 : BitVec 32 := 128#32
  let v1351 : BitVec 32 := Scalar.muli v1280 c128_i32_820
  let v1352 : Index := Scalar.indexCast v1351
  let c0_822 : Index := 0#32
  ![1, v1352.toNat, 0]
def k0_off18 (d0 : Dev nD) (c0_i32_865 : BitVec 32) : Fin 3 → Nat :=
  let c0_873 : Index := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_864 : BitVec 32 := 2#32
  let v1421 : BitVec 32 := Scalar.subi v2 c2_i32_864
  let v1422 : BitVec 32 := Scalar.addi v1421 c0_i32_865
  let c8_i32_866 : BitVec 32 := 8#32
  let c0_i32_867 : BitVec 32 := 0#32
  let v1423 : BitVec 1 := Scalar.cmpi .eq c8_i32_866 c0_i32_867
  let c1_i32_868 : BitVec 32 := 1#32
  let v1424 : BitVec 32 := Scalar.select v1423 c1_i32_868 c8_i32_866
  let v1425 : BitVec 32 := Scalar.remsi v1422 v1424
  let c0_i32_870 : BitVec 32 := 0#32
  let v1427 : BitVec 1 := Scalar.cmpi .slt v1425 c0_i32_870
  let c0_i32_871 : BitVec 32 := 0#32
  let v1428 : BitVec 1 := Scalar.cmpi .slt v1424 c0_i32_871
  let v1429 : BitVec 1 := Scalar.xori v1427 v1428
  let c0_i32_869 : BitVec 32 := 0#32
  let v1426 : BitVec 1 := Scalar.cmpi .ne v1425 c0_i32_869
  let v1430 : BitVec 1 := Scalar.andi v1429 v1426
  let v1431 : BitVec 32 := Scalar.addi v1425 v1424
  let v1432 : BitVec 32 := Scalar.select v1430 v1431 v1425
  let c128_i32_872 : BitVec 32 := 128#32
  let v1433 : BitVec 32 := Scalar.muli v1432 c128_i32_872
  let v1434 : Index := Scalar.indexCast v1433
  let c0_874 : Index := 0#32
  ![0, v1434.toNat, 0]
def k0_off19 (d0 : Dev nD) (c0_i32_865 : BitVec 32) : Fin 3 → Nat :=
  let c1_917 : Index := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_864 : BitVec 32 := 2#32
  let v1421 : BitVec 32 := Scalar.subi v2 c2_i32_864
  let v1422 : BitVec 32 := Scalar.addi v1421 c0_i32_865
  let c8_i32_866 : BitVec 32 := 8#32
  let c0_i32_867 : BitVec 32 := 0#32
  let v1423 : BitVec 1 := Scalar.cmpi .eq c8_i32_866 c0_i32_867
  let c1_i32_868 : BitVec 32 := 1#32
  let v1424 : BitVec 32 := Scalar.select v1423 c1_i32_868 c8_i32_866
  let v1425 : BitVec 32 := Scalar.remsi v1422 v1424
  let c0_i32_870 : BitVec 32 := 0#32
  let v1427 : BitVec 1 := Scalar.cmpi .slt v1425 c0_i32_870
  let c0_i32_871 : BitVec 32 := 0#32
  let v1428 : BitVec 1 := Scalar.cmpi .slt v1424 c0_i32_871
  let v1429 : BitVec 1 := Scalar.xori v1427 v1428
  let c0_i32_869 : BitVec 32 := 0#32
  let v1426 : BitVec 1 := Scalar.cmpi .ne v1425 c0_i32_869
  let v1430 : BitVec 1 := Scalar.andi v1429 v1426
  let v1431 : BitVec 32 := Scalar.addi v1425 v1424
  let v1432 : BitVec 32 := Scalar.select v1430 v1431 v1425
  let c128_i32_916 : BitVec 32 := 128#32
  let v1503 : BitVec 32 := Scalar.muli v1432 c128_i32_916
  let v1504 : Index := Scalar.indexCast v1503
  let c0_918 : Index := 0#32
  ![1, v1504.toNat, 0]
def k0_dev12 (d0 : Dev nD) : Nat :=
  let c0_i32_1012 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1011 : BitVec 32 := 1#32
  let v1613 : BitVec 32 := Scalar.muli v24 c1_i32_1011
  let v1614 : BitVec 32 := Scalar.addi c0_i32_1012 v1613
  v1614.toNat
def k0_dev13 (d0 : Dev nD) : Nat :=
  let c0_i32_1032 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1031 : BitVec 32 := 1#32
  let v1631 : BitVec 32 := Scalar.muli v13 c1_i32_1031
  let v1632 : BitVec 32 := Scalar.addi c0_i32_1032 v1631
  v1632.toNat
def k0_dev14 (d0 : Dev nD) : Nat :=
  let c0_i32_1282 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1281 : BitVec 32 := 1#32
  let v1985 : BitVec 32 := Scalar.muli v24 c1_i32_1281
  let v1986 : BitVec 32 := Scalar.addi c0_i32_1282 v1985
  v1986.toNat
def k0_dev15 (d0 : Dev nD) : Nat :=
  let c0_i32_1302 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1301 : BitVec 32 := 1#32
  let v2003 : BitVec 32 := Scalar.muli v13 c1_i32_1301
  let v2004 : BitVec 32 := Scalar.addi c0_i32_1302 v2003
  v2004.toNat
def k0_dev16 (d0 : Dev nD) : Nat :=
  let c0_i32_1449 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1448 : BitVec 32 := 1#32
  let v2197 : BitVec 32 := Scalar.muli v24 c1_i32_1448
  let v2198 : BitVec 32 := Scalar.addi c0_i32_1449 v2197
  v2198.toNat
abbrev stage0_0 : Fin 1 → Memref sig .tc .vmem S2x128x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S512x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x128x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== KernelIdeal.lean ====
variable {F : FTy → Type} [FloatOps F] [Named F]
def κ : String → Option EReal := fun
  | "scale_log2e" => some (((8 * (Real.log 2))⁻¹ : ℝ) : EReal)
  | _ => none
-- ==== ReferenceIdeal.lean ====
abbrev S2x1024x512 : Shape := ⟨3, ![2, 1024, 512]⟩
abbrev S512x2048 : Shape := ⟨2, ![512, 2048]⟩
abbrev S2048x512 : Shape := ⟨2, ![2048, 512]⟩
abbrev S32 : Shape := ⟨1, ![32]⟩
abbrev S_ : Shape := ⟨0, ![]⟩
abbrev S1024 : Shape := ⟨1, ![1024]⟩
abbrev S1024x1 : Shape := ⟨2, ![1024, 1]⟩
abbrev S1x32 : Shape := ⟨2, ![1, 32]⟩
abbrev S1024x32 : Shape := ⟨2, ![1024, 32]⟩
abbrev S1024x32x2 : Shape := ⟨3, ![1024, 32, 2]⟩
abbrev S1024x64 : Shape := ⟨2, ![1024, 64]⟩
abbrev S2x1024x2048 : Shape := ⟨3, ![2, 1024, 2048]⟩
abbrev S2x1024x32x64 : Shape := ⟨4, ![2, 1024, 32, 64]⟩
abbrev S2x1024x32x32x2 : Shape := ⟨5, ![2, 1024, 32, 32, 2]⟩
abbrev S2x1024x32x32x1 : Shape := ⟨5, ![2, 1024, 32, 32, 1]⟩
abbrev S2x1024x32x32 : Shape := ⟨4, ![2, 1024, 32, 32]⟩
abbrev S1x1024x1x64 : Shape := ⟨4, ![1, 1024, 1, 64]⟩
abbrev S2x32x1024x1024 : Shape := ⟨4, ![2, 32, 1024, 1024]⟩
abbrev S2x32x1024 : Shape := ⟨3, ![2, 32, 1024]⟩
abbrev S2x32x1024x1 : Shape := ⟨4, ![2, 32, 1024, 1]⟩
abbrev S2x32x64x1024 : Shape := ⟨4, ![2, 32, 64, 1024]⟩

abbrev nBuf : Space → Nat
  | .hbm => 94
  | .vmem => 0
  | .smem => 0
  | _ => 0

abbrev bufTy : (tb : Table) → Fin (tcTables nBuf tb) → BufTy
  | .hbm, ⟨0, _⟩ => ⟨S2x1024x512, .f32⟩
  | .hbm, ⟨1, _⟩ => ⟨S512x2048, .f32⟩
  | .hbm, ⟨2, _⟩ => ⟨S512x2048, .f32⟩
  | .hbm, ⟨3, _⟩ => ⟨S512x2048, .f32⟩
  | .hbm, ⟨4, _⟩ => ⟨S2048x512, .f32⟩
  | .hbm, ⟨5, _⟩ => ⟨S32, .i32⟩
  | .hbm, ⟨6, _⟩ => ⟨S_, .i32⟩
  | .hbm, ⟨7, _⟩ => ⟨S32, .i32⟩
  | .hbm, ⟨8, _⟩ => ⟨S32, .i32⟩
  | .hbm, ⟨9, _⟩ => ⟨S_, .i32⟩
  | .hbm, ⟨10, _⟩ => ⟨S32, .i32⟩
  | .hbm, ⟨11, _⟩ => ⟨S32, .i32⟩
  | .hbm, ⟨12, _⟩ => ⟨S32, .f32⟩
  | .hbm, ⟨13, _⟩ => ⟨S_, .f32⟩
  | .hbm, ⟨14, _⟩ => ⟨S32, .f32⟩
  | .hbm, ⟨15, _⟩ => ⟨S32, .f32⟩
  | .hbm, ⟨16, _⟩ => ⟨S_, .f32⟩
  | .hbm, ⟨17, _⟩ => ⟨S32, .f32⟩
  | .hbm, ⟨18, _⟩ => ⟨S32, .f32⟩
  | .hbm, ⟨19, _⟩ => ⟨S_, .f32⟩
  | .hbm, ⟨20, _⟩ => ⟨S32, .f32⟩
  | .hbm, ⟨21, _⟩ => ⟨S32, .f32⟩
  | .hbm, ⟨22, _⟩ => ⟨S1024, .i32⟩
  | .hbm, ⟨23, _⟩ => ⟨S1024x1, .i32⟩
  | .hbm, ⟨24, _⟩ => ⟨S1x32, .f32⟩
  | .hbm, ⟨25, _⟩ => ⟨S1024x1, .f32⟩
  | .hbm, ⟨26, _⟩ => ⟨S1024x32, .f32⟩
  | .hbm, ⟨27, _⟩ => ⟨S1024x32, .f32⟩
  | .hbm, ⟨28, _⟩ => ⟨S1024x32, .f32⟩
  | .hbm, ⟨29, _⟩ => ⟨S1024x32, .f32⟩
  | .hbm, ⟨30, _⟩ => ⟨S1024x32x2, .f32⟩
  | .hbm, ⟨31, _⟩ => ⟨S1024x64, .f32⟩
  | .hbm, ⟨32, _⟩ => ⟨S1024x32, .f32⟩
  | .hbm, ⟨33, _⟩ => ⟨S1024x32x2, .f32⟩
  | .hbm, ⟨34, _⟩ => ⟨S1024x64, .f32⟩
  | .hbm, ⟨35, _⟩ => ⟨S2x1024x2048, .f32⟩
  | .hbm, ⟨36, _⟩ => ⟨S2x1024x32x64, .f32⟩
  | .hbm, ⟨37, _⟩ => ⟨S2x1024x32x32x2, .f32⟩
  | .hbm, ⟨38, _⟩ => ⟨S2x1024x32x32x1, .f32⟩
  | .hbm, ⟨39, _⟩ => ⟨S2x1024x32x32, .f32⟩
  | .hbm, ⟨40, _⟩ => ⟨S2x1024x32x32, .f32⟩
  | .hbm, ⟨41, _⟩ => ⟨S2x1024x32x32x1, .f32⟩
  | .hbm, ⟨42, _⟩ => ⟨S2x1024x32x32, .f32⟩
  | .hbm, ⟨43, _⟩ => ⟨S2x1024x32x32x1, .f32⟩
  | .hbm, ⟨44, _⟩ => ⟨S2x1024x32x32x1, .f32⟩
  | .hbm, ⟨45, _⟩ => ⟨S2x1024x32x32x2, .f32⟩
  | .hbm, ⟨46, _⟩ => ⟨S2x1024x32x64, .f32⟩
  | .hbm, ⟨47, _⟩ => ⟨S1x1024x1x64, .f32⟩
  | .hbm, ⟨48, _⟩ => ⟨S2x1024x32x64, .f32⟩
  | .hbm, ⟨49, _⟩ => ⟨S2x1024x32x64, .f32⟩
  | .hbm, ⟨50, _⟩ => ⟨S1x1024x1x64, .f32⟩
  | .hbm, ⟨51, _⟩ => ⟨S2x1024x32x64, .f32⟩
  | .hbm, ⟨52, _⟩ => ⟨S2x1024x32x64, .f32⟩
  | .hbm, ⟨53, _⟩ => ⟨S2x1024x32x64, .f32⟩
  | .hbm, ⟨54, _⟩ => ⟨S2x1024x2048, .f32⟩
  | .hbm, ⟨55, _⟩ => ⟨S2x1024x32x64, .f32⟩
  | .hbm, ⟨56, _⟩ => ⟨S2x1024x32x32x2, .f32⟩
  | .hbm, ⟨57, _⟩ => ⟨S2x1024x32x32x1, .f32⟩
  | .hbm, ⟨58, _⟩ => ⟨S2x1024x32x32, .f32⟩
  | .hbm, ⟨59, _⟩ => ⟨S2x1024x32x32, .f32⟩
  | .hbm, ⟨60, _⟩ => ⟨S2x1024x32x32x1, .f32⟩
  | .hbm, ⟨61, _⟩ => ⟨S2x1024x32x32, .f32⟩
  | .hbm, ⟨62, _⟩ => ⟨S2x1024x32x32x1, .f32⟩
  | .hbm, ⟨63, _⟩ => ⟨S2x1024x32x32x1, .f32⟩
  | .hbm, ⟨64, _⟩ => ⟨S2x1024x32x32x2, .f32⟩
  | .hbm, ⟨65, _⟩ => ⟨S2x1024x32x64, .f32⟩
  | .hbm, ⟨66, _⟩ => ⟨S1x1024x1x64, .f32⟩
  | .hbm, ⟨67, _⟩ => ⟨S2x1024x32x64, .f32⟩
  | .hbm, ⟨68, _⟩ => ⟨S2x1024x32x64, .f32⟩
  | .hbm, ⟨69, _⟩ => ⟨S1x1024x1x64, .f32⟩
  | .hbm, ⟨70, _⟩ => ⟨S2x1024x32x64, .f32⟩
  | .hbm, ⟨71, _⟩ => ⟨S2x1024x32x64, .f32⟩
  | .hbm, ⟨72, _⟩ => ⟨S2x1024x32x64, .f32⟩
  | .hbm, ⟨73, _⟩ => ⟨S2x1024x2048, .f32⟩
  | .hbm, ⟨74, _⟩ => ⟨S2x1024x32x64, .f32⟩
  | .hbm, ⟨75, _⟩ => ⟨S2x32x1024x1024, .f32⟩
  | .hbm, ⟨76, _⟩ => ⟨S_, .f32⟩
  | .hbm, ⟨77, _⟩ => ⟨S2x32x1024x1024, .f32⟩
  | .hbm, ⟨78, _⟩ => ⟨S2x32x1024x1024, .f32⟩
  | .hbm, ⟨79, _⟩ => ⟨S_, .f32⟩
  | .hbm, ⟨80, _⟩ => ⟨S2x32x1024, .f32⟩
  | .hbm, ⟨81, _⟩ => ⟨S2x32x1024x1, .f32⟩
  | .hbm, ⟨82, _⟩ => ⟨S2x32x1024x1024, .f32⟩
  | .hbm, ⟨83, _⟩ => ⟨S2x32x1024x1024, .f32⟩
  | .hbm, ⟨84, _⟩ => ⟨S2x32x1024x1024, .f32⟩
  | .hbm, ⟨85, _⟩ => ⟨S_, .f32⟩
  | .hbm, ⟨86, _⟩ => ⟨S2x32x1024, .f32⟩
  | .hbm, ⟨87, _⟩ => ⟨S2x32x1024x1, .f32⟩
  | .hbm, ⟨88, _⟩ => ⟨S2x32x1024x1024, .f32⟩
  | .hbm, ⟨89, _⟩ => ⟨S2x32x1024x1024, .f32⟩
  | .hbm, ⟨90, _⟩ => ⟨S2x32x64x1024, .f32⟩
  | .hbm, ⟨91, _⟩ => ⟨S2x1024x32x64, .f32⟩
  | .hbm, ⟨92, _⟩ => ⟨S2x1024x2048, .f32⟩
  | .hbm, ⟨93, _⟩ => ⟨S2x1024x512, .f32⟩
  | _, _ => ⟨S2x1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_cst_3 : Ref sig .tc := ⟨.hbm, 76, rfl⟩
abbrev main_v66 : Ref sig .tc := ⟨.hbm, 77, rfl⟩
abbrev main_v67 : Ref sig .tc := ⟨.hbm, 78, rfl⟩
abbrev main_cst_4 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_cst_5 : Ref sig .tc := ⟨.hbm, 85, rfl⟩
abbrev main_v73 : Ref sig .tc := ⟨.hbm, 86, rfl⟩
abbrev main_v74 : Ref sig .tc := ⟨.hbm, 87, rfl⟩
abbrev main_v75 : Ref sig .tc := ⟨.hbm, 88, rfl⟩
abbrev main_v76 : Ref sig .tc := ⟨.hbm, 89, rfl⟩
abbrev main_v77 : Ref sig .tc := ⟨.hbm, 90, rfl⟩
abbrev main_v78 : Ref sig .tc := ⟨.hbm, 91, rfl⟩
abbrev main_v79 : Ref sig .tc := ⟨.hbm, 92, rfl⟩
abbrev main_v80 : Ref sig .tc := ⟨.hbm, 93, rfl⟩

abbrev nD : Nat := 1
abbrev τ : Topo := Topo.v7x

variable {F : FTy → Type} [FloatOps F]
-- ==== Proof.Program.lean ====
/- The kernel's body written as a composition of a few repeated pieces: computing the q, k, v rows of one chunk
   of the gathered activations, the attention of one chunk of query rows, starting a copy to a neighbour, and
   waiting on a copy. `body_eq` (module `BodyEq`) says that the printed body is that composition. -/
module

public import proofs.«01_k».proof.Proof.Gen.KernelIdeal.Skeleton

@[expose] public section

noncomputable section

namespace Cert.Proof

open Idealize.ShloMosaic Idealize.ShloMosaic.TcCoe
open Idealize.SL Idealize.SL.Sem
open Cert.KernelIdeal Cert.KernelIdeal.Gen

/-! ## The buffers -/

/-- The gathered activations, one slot per device. -/
abbrev xgM : Memref sig .tc .vmem S8x2x128x512 .bf16 := Memref.whole cc0_scratch0
/-- The queries of every position (this device's heads). -/
abbrev qM : Memref sig .tc .vmem S2x1024x256 .bf16 := Memref.whole cc0_scratch1
/-- The keys. -/
abbrev kM : Memref sig .tc .vmem S2x1024x256 .bf16 := Memref.whole cc0_scratch2
/-- The values. -/
abbrev vM : Memref sig .tc .vmem S2x1024x256 .bf16 := Memref.whole cc0_scratch3
/-- The cosines of the rotary angles. -/
abbrev cosM : Memref sig .tc .vmem S1024x256 .f32 := Memref.whole cc0_scratch4
/-- Their sines, with the sign of the lane. -/
abbrev sinM : Memref sig .tc .vmem S1024x256 .f32 := Memref.whole cc0_scratch5
/-- The partial sums sent to the right, one slot per step. -/
abbrev rM : Memref sig .tc .vmem S4x2x128x512 .bf16 := Memref.whole cc0_scratch6
/-- The partial sums sent to the left. -/
abbrev lM : Memref sig .tc .vmem S3x2x128x512 .bf16 := Memref.whole cc0_scratch7
/-- The partial sums received, one slot per transfer. -/
abbrev cM : Memref sig .tc .vmem S7x2x128x512 .bf16 := Memref.whole cc0_scratch8

variable {F : FTy → Type} [FloatOps F] [Named F]

/-- Programs of the TensorCore. -/
abbrev PG (F : FTy → Type) [FloatOps F] (α : Type) := Prog (TpuEff nD τ sig (Elt F) Λ₀ .tc) α

/-! ## Slots and semaphores -/

/-- One slot of the gathered activations. -/
abbrev xSlot (o : Fin 4 → Nat) (h : ∀ a, o a + S1x2x128x512.size a ≤ S8x2x128x512.size a) :
    Memref sig .tc .vmem S2x128x512 .bf16 :=
  (xgM.slice (Rect.unit (s := S8x2x128x512) o S1x2x128x512.size h) (fun _ => rfl)).squeeze S2x128x512
    squeezes_S1x2x128x512_S2x128x512

/-- One slot of the partial sums sent to the right. -/
abbrev rSlot (o : Fin 4 → Nat) (h : ∀ a, o a + S1x2x128x512.size a ≤ S4x2x128x512.size a) :
    Memref sig .tc .vmem S2x128x512 .bf16 :=
  (rM.slice (Rect.unit (s := S4x2x128x512) o S1x2x128x512.size h) (fun _ => rfl)).squeeze S2x128x512
    squeezes_S1x2x128x512_S2x128x512

/-- One slot of the partial sums sent to the left. -/
abbrev lSlot (o : Fin 4 → Nat) (h : ∀ a, o a + S1x2x128x512.size a ≤ S3x2x128x512.size a) :
    Memref sig .tc .vmem S2x128x512 .bf16 :=
  (lM.slice (Rect.unit (s := S3x2x128x512) o S1x2x128x512.size h) (fun _ => rfl)).squeeze S2x128x512
    squeezes_S1x2x128x512_S2x128x512

/-- One slot of the partial sums received. -/
abbrev cSlot (o : Fin 4 → Nat) (h : ∀ a, o a + S1x2x128x512.size a ≤ S7x2x128x512.size a) :
    Memref sig .tc .vmem S2x128x512 .bf16 :=
  (cM.slice (Rect.unit (s := S7x2x128x512) o S1x2x128x512.size h) (fun _ => rfl)).squeeze S2x128x512
    squeezes_S1x2x128x512_S2x128x512

/-- One semaphore of a row of seven. -/
abbrev semAt (m : DmaSems sig S7) (o : Fin 1 → Nat) (h : ∀ a, o a + S1.size a ≤ S7.size a) : DmaSem sig :=
  ((m.slice (Rect.unit (s := S7) o S1.size h)).squeeze S_ squeezes_S1_S_).sem

/-- Starts the copy of `src` into `dst` on device `d`. -/
abbrev send (d : Dev nD) (src dst : Memref sig .tc .vmem S2x128x512 .bf16) (s₁ s₂ : DmaSem sig)
    (hs : src.view.WordExact) (hd : dst.view.WordExact) : PG F PUnit :=
  Prog.lift (.enqueueDma src (.remote (Dev.tc d) dst (.dma s₁)) (.dma s₂) hs hd ⟨⟨rfl, Or.inl rfl⟩, trivial⟩)

/-- Starts gathering transfer `i`: slot `o` goes to the same slot of device `d`. -/
abbrev agSend (i : Fin 1 → Nat) (hi : ∀ a, i a + S1.size a ≤ S7.size a) (d : Dev nD) {o : Fin 4 → Nat}
    (h : ∀ a, o a + S1x2x128x512.size a ≤ S8x2x128x512.size a)
    (w : (Rect.unit (s := S8x2x128x512) o S1x2x128x512.size h).WholeWords (EltTy.packing .bf16)) : PG F PUnit :=
  send d (xSlot o h) (xSlot o h) (semAt cc0_scratch9 i hi) (semAt cc0_scratch10 i hi)
    (((Memref.isWhole_whole cc0_scratch0).wordExact_slice rfl _ w).reshape _ _)
    (((Memref.isWhole_whole cc0_scratch0).wordExact_slice rfl _ w).reshape _ _)

/-- Waits on semaphore `i` of a row, for one slot of the gathered activations. -/
abbrev agWait (m : DmaSems sig S7) (i : Fin 1 → Nat) (hi : ∀ a, i a + S1.size a ≤ S7.size a) {o : Fin 4 → Nat}
    (h : ∀ a, o a + S1x2x128x512.size a ≤ S8x2x128x512.size a)
    (w : (Rect.unit (s := S8x2x128x512) o S1x2x128x512.size h).WholeWords (EltTy.packing .bf16)) : PG F PUnit :=
  Prog.lift (.waitDma2 (semAt m i hi) (xSlot o h) (xSlot o h)
    (((Memref.isWhole_whole cc0_scratch0).wordExact_slice rfl _ w).reshape _ _)
    (((Memref.isWhole_whole cc0_scratch0).wordExact_slice rfl _ w).reshape _ _))

/-! ## The start: the own rows, the angle tables, the weights, the barrier -/

/-- The table of cosines. -/
def cosV : FVec F S1024x256 .f32 :=
  k0_pay6 k0_pay2 (k0_pay3 (iota .tc S1024x256 32 [1] iota_S1024x256_d1_w32) 64#32) k0_pay4
/-- The table of sines. -/
def sinV : FVec F S1024x256 .f32 :=
  k0_pay7 (iota .tc S1024x256 32 [1] iota_S1024x256_d1_w32) k0_pay2
    (k0_pay3 (iota .tc S1024x256 32 [1] iota_S1024x256_d1_w32) 64#32) k0_pay4
/-- The matrix that swaps each pair of neighbouring lanes. -/
def permV : FVec F S256x256 .bf16 :=
  k0_pay9 (iota .tc S256x256 32 [0] iota_S256x256_d0_w32) (iota .tc S256x256 32 [1] iota_S256x256_d1_w32)
    k0_pay8 2#32 (Scalar.cmpi .eq 2#32 0#32) 1#32

/-- Stores the own activations and the two tables. -/
def initP (d0 : Dev nD) (m0 : Memref sig .tc .vmem S2x128x512 .f32) : PG F PUnit := do
  let x ← Prog.lift (.load m0 (Rect.unit (s := S2x128x512) ![0, 0, 0] S2x128x512.size inb_S2x128x512_S2x128x512_0_0_0).toLoadRect (View.loadsAt_vmem h_S2x128x512))
  let _ ← Prog.lift (.load xgM (Rect.unit (s := S8x2x128x512) (k0_off1 d0) S1x2x128x512.size (k0_off1_inb d0)).toLoadRect (View.loadsAt_vmem h_S1x2x128x512))
  Prog.lift (.store xgM (Rect.unit (s := S8x2x128x512) (k0_off1 d0) S1x2x128x512.size (k0_off1_inb d0)) (k0_pay1 x) Finset.univ (View.stores_vmem h_S1x2x128x512 ((Memref.isWhole_whole cc0_scratch0).storeExact_slice rfl _ (k0_off1_packedbf16 d0)) (fun _ => rfl)) (.inl rfl))
  let _ ← Prog.lift (.load cosM (Rect.unit (s := S1024x256) ![0, 0] S1024x256.size inb_S1024x256_S1024x256_0_0).toLoadRect (View.loadsAt_vmem h_S1024x256))
  Prog.lift (.store cosM (Rect.unit (s := S1024x256) ![0, 0] S1024x256.size inb_S1024x256_S1024x256_0_0) cosV Finset.univ (View.stores_vmem_bits_univ h_S1024x256 rfl) (.inl rfl))
  let _ ← Prog.lift (.load sinM (Rect.unit (s := S1024x256) ![0, 0] S1024x256.size inb_S1024x256_S1024x256_0_0).toLoadRect (View.loadsAt_vmem h_S1024x256))
  Prog.lift (.store sinM (Rect.unit (s := S1024x256) ![0, 0] S1024x256.size inb_S1024x256_S1024x256_0_0) sinV Finset.univ (View.stores_vmem_bits_univ h_S1024x256 rfl) (.inl rfl))

/-- Loads a weight of 512 rows. -/
abbrev wLoad (m : Memref sig .tc .vmem S512x256 .f32) : PG F (Vec F S512x256 .f32) :=
  Prog.lift (.load m (Rect.unit (s := S512x256) ![0, 0] S512x256.size inb_S512x256_S512x256_0_0).toLoadRect (View.loadsAt_vmem h_S512x256))
/-- Loads the output weight. -/
abbrev woLoad (m : Memref sig .tc .vmem S256x512 .f32) : PG F (Vec F S256x512 .f32) :=
  Prog.lift (.load m (Rect.unit (s := S256x512) ![0, 0] S256x512.size inb_S256x512_S256x512_0_0).toLoadRect (View.loadsAt_vmem h_S256x512))

/-- Signals both neighbours. -/
def barSig (d0 : Dev nD) : PG F PUnit := do
  semSignalWord (⟨k0_dev1 d0, k0_dev1_lt d0⟩ : Dev nD) (SemArray.scalar (sig.barrier 0 rfl) : Sems sig S_).sem 1#32
  semSignalWord (⟨k0_dev2 d0, k0_dev2_lt d0⟩ : Dev nD) (SemArray.scalar (sig.barrier 0 rfl) : Sems sig S_).sem 1#32

/-! ## One chunk of rows: q, k, v -/

/-- The evidence for one 128-row block of a batch of the q, k, v buffers. -/
abbrev InbQ (o : Fin 3 → Nat) : Prop := ∀ a, o a + S1x128x256.size a ≤ S2x1024x256.size a
/-- A store of such a block writes whole rows. -/
abbrev PackQ {o : Fin 3 → Nat} (h : InbQ o) : Prop :=
  (Rect.unit (s := S2x1024x256) o S1x128x256.size h).PackedRows (EltTy.packing .bf16)

/-- Replaces one block of a q, k or v buffer (whose view is `whole b`). -/
def putQ (m : Memref sig .tc .vmem S2x1024x256 .bf16) (hm : m.IsWhole) {o : Fin 3 → Nat} (h : InbQ o) (p : PackQ h)
    (w : FVec F S1x128x256 .bf16) : PG F PUnit := do
  let _ ← Prog.lift (.load m (Rect.unit (s := S2x1024x256) o S1x128x256.size h).toLoadRect (View.loadsAt_vmem h_S1x128x256))
  Prog.lift (.store m (Rect.unit (s := S2x1024x256) o S1x128x256.size h) w Finset.univ (View.stores_vmem h_S1x128x256 (hm.storeExact_slice rfl _ p) (fun _ => rfl)) (.inl rfl))

section Values
variable (wq wk wv : FVec F S512x256 .bf16) (c s : Vec F S128x256 .f32) (x : Vec F S1x2x128x512 .bf16)

/-- The query rows of batch 0 of a chunk. -/
def qV0 : FVec F S1x128x256 .bf16 := k0_pay21 permV wq (k0_pay14 c) (k0_pay15 s) (k0_pay16 x)
/-- The key rows of batch 0. -/
def kV0 : FVec F S1x128x256 .bf16 := k0_pay22 permV wk (k0_pay14 c) (k0_pay15 s) (k0_pay16 x)
/-- The value rows of batch 0. -/
def vV0 : FVec F S1x128x256 .bf16 := k0_pay23 wv (k0_pay16 x)
/-- The query rows of batch 1. -/
def qV1 : FVec F S1x128x256 .bf16 := k0_pay24 permV wq (k0_pay14 c) (k0_pay15 s) (k0_pay16 x)
/-- The key rows of batch 1. -/
def kV1 : FVec F S1x128x256 .bf16 := k0_pay26 (k0_pay25 permV wk (k0_pay14 c) (k0_pay15 s) (k0_pay16 x))
/-- The value rows of batch 1. -/
def vV1 : FVec F S1x128x256 .bf16 := k0_pay27 (k0_pay20 wv (k0_pay16 x))
end Values

/-- The q, k, v rows of one chunk, from the chunk's activations and angles. -/
def qkvP (wq wk wv : FVec F S512x256 .bf16) {oc : Fin 2 → Nat} {ox : Fin 4 → Nat} {oa ob : Fin 3 → Nat}
    (hc : ∀ a, oc a + S128x256.size a ≤ S1024x256.size a)
    (hx : ∀ a, ox a + S1x2x128x512.size a ≤ S8x2x128x512.size a)
    (ha : InbQ oa) (pa : PackQ ha) (hb : InbQ ob) (pb : PackQ hb) : PG F PUnit := do
  let c ← Prog.lift (.load cosM (Rect.unit (s := S1024x256) oc S128x256.size hc).toLoadRect (View.loadsAt_vmem h_S128x256))
  let s ← Prog.lift (.load sinM (Rect.unit (s := S1024x256) oc S128x256.size hc).toLoadRect (View.loadsAt_vmem h_S128x256))
  let x ← Prog.lift (.load xgM (Rect.unit (s := S8x2x128x512) ox S1x2x128x512.size hx).toLoadRect (View.loadsAt_vmem h_S1x2x128x512))
  putQ qM (Memref.isWhole_whole _) ha pa (qV0 wq c s x)
  putQ kM (Memref.isWhole_whole _) ha pa (kV0 wk c s x)
  putQ vM (Memref.isWhole_whole _) ha pa (vV0 wv x)
  putQ qM (Memref.isWhole_whole _) hb pb (qV1 wq c s x)
  putQ kM (Memref.isWhole_whole _) hb pb (kV1 wk c s x)
  putQ vM (Memref.isWhole_whole _) hb pb (vV1 wv x)

/-! ## The attention of one chunk of query rows -/

/-- The attention of 128 query rows of one batch with the four heads' keys and values, times the output weight. -/
def attV (wo : FVec F S256x512 .bf16) (q : Vec F S1x128x256 .bf16) (k0 v0 k1 v1 k2 v2 k3 v3 : Vec F S1x1024x64 .bf16) :
    FVec F S128x512 .f32 :=
  k0_pay174 wo (k0_pay170 q) (k0_pay171 q k0 v0) (k0_pay172 q k1 v1) (k0_pay173 q) k2 v2 k3 v3

/-- One head's columns of the keys or values of a batch. -/
abbrev InbH (b : Nat) : Prop := ∀ l, l ≤ 192 → ∀ a, (![b, 0, l] : Fin 3 → Nat) a + S1x1024x64.size a ≤ S2x1024x256.size a

theorem inbH (b : Nat) (hb : b < 2) : InbH b := by
  intro l hl a
  fin_cases a
  · change b + 1 ≤ 2; omega
  · change 0 + 1024 ≤ 1024; omega
  · change l + 64 ≤ 256; omega

/-- Loads one head's columns of one batch. -/
abbrev headLoad (m : Memref sig .tc .vmem S2x1024x256 .bf16) (b l : Nat) (h : InbH b) (hl : l ≤ 192) :
    PG F (Vec F S1x1024x64 .bf16) :=
  Prog.lift (.load m (Rect.unit (s := S2x1024x256) ![b, 0, l] S1x1024x64.size (h l hl)).toLoadRect (View.loadsAt_vmem h_S1x1024x64))

/-- The attention of one batch of a chunk of query rows. -/
def attP (wo : FVec F S256x512 .bf16) {o : Fin 3 → Nat} (h : InbQ o) (b : Nat) (hb : InbH b) : PG F (FVec F S128x512 .f32) := do
  let q ← Prog.lift (.load qM (Rect.unit (s := S2x1024x256) o S1x128x256.size h).toLoadRect (View.loadsAt_vmem h_S1x128x256))
  let k0 ← headLoad kM b 0 hb (by decide)
  let v0 ← headLoad vM b 0 hb (by decide)
  let k1 ← headLoad kM b 64 hb (by decide)
  let v1 ← headLoad vM b 64 hb (by decide)
  let k2 ← headLoad kM b 128 hb (by decide)
  let v2 ← headLoad vM b 128 hb (by decide)
  let k3 ← headLoad kM b 192 hb (by decide)
  let v3 ← headLoad vM b 192 hb (by decide)
  pure (attV wo q k0 v0 k1 v1 k2 v2 k3 v3)

/-! ## The partial sums -/

/-- A partial sum as it is stored for sending. -/
def packV (a : FVec F S128x512 .f32) : FVec F S1x1x128x512 .bf16 := k0_pay165 a
/-- A received partial sum added to the own share. -/
def addV (a : FVec F S128x512 .f32) (r : Vec F S1x1x128x512 .bf16) : FVec F S128x512 .f32 := k0_pay193 a r
/-- The result of one batch: what came from the left, what came from the right, the own share. -/
def outV (a : FVec F S128x512 .f32) (r l : Vec F S1x1x128x512 .bf16) : FVec F S1x128x512 .f32 := k0_pay274 a r l

/-- Stores a partial sum into one batch of one slot of the sums sent to the right. -/
def putR (o : Fin 4 → Nat) (h : ∀ a, o a + S1x1x128x512.size a ≤ S4x2x128x512.size a)
    (p : (Rect.unit (s := S4x2x128x512) o S1x1x128x512.size h).PackedRows (EltTy.packing .bf16))
    (w : FVec F S1x1x128x512 .bf16) : PG F PUnit := do
  let _ ← Prog.lift (.load rM (Rect.unit (s := S4x2x128x512) o S1x1x128x512.size h).toLoadRect (View.loadsAt_vmem h_S1x1x128x512))
  Prog.lift (.store rM (Rect.unit (s := S4x2x128x512) o S1x1x128x512.size h) w Finset.univ (View.stores_vmem h_S1x1x128x512 ((Memref.isWhole_whole cc0_scratch6).storeExact_slice rfl _ p) (fun _ => rfl)) (.inl rfl))

/-- Stores a partial sum into one batch of one slot of the sums sent to the left. -/
def putL (o : Fin 4 → Nat) (h : ∀ a, o a + S1x1x128x512.size a ≤ S3x2x128x512.size a)
    (p : (Rect.unit (s := S3x2x128x512) o S1x1x128x512.size h).PackedRows (EltTy.packing .bf16))
    (w : FVec F S1x1x128x512 .bf16) : PG F PUnit := do
  let _ ← Prog.lift (.load lM (Rect.unit (s := S3x2x128x512) o S1x1x128x512.size h).toLoadRect (View.loadsAt_vmem h_S1x1x128x512))
  Prog.lift (.store lM (Rect.unit (s := S3x2x128x512) o S1x1x128x512.size h) w Finset.univ (View.stores_vmem h_S1x1x128x512 ((Memref.isWhole_whole cc0_scratch7).storeExact_slice rfl _ p) (fun _ => rfl)) (.inl rfl))

/-- Loads one batch of one received slot. -/
abbrev cLoad (o : Fin 4 → Nat) (h : ∀ a, o a + S1x1x128x512.size a ≤ S7x2x128x512.size a) : PG F (Vec F S1x1x128x512 .bf16) :=
  Prog.lift (.load cM (Rect.unit (s := S7x2x128x512) o S1x1x128x512.size h).toLoadRect (View.loadsAt_vmem h_S1x1x128x512))

/-- Starts sending slot `o` of the sums for the right into slot `o'` of the received sums of device `d`. -/
abbrev rSend (i : Fin 1 → Nat) (hi : ∀ a, i a + S1.size a ≤ S7.size a) (d : Dev nD) {o o' : Fin 4 → Nat}
    (h : ∀ a, o a + S1x2x128x512.size a ≤ S4x2x128x512.size a)
    (w : (Rect.unit (s := S4x2x128x512) o S1x2x128x512.size h).WholeWords (EltTy.packing .bf16))
    (h' : ∀ a, o' a + S1x2x128x512.size a ≤ S7x2x128x512.size a)
    (w' : (Rect.unit (s := S7x2x128x512) o' S1x2x128x512.size h').WholeWords (EltTy.packing .bf16)) : PG F PUnit :=
  send d (rSlot o h) (cSlot o' h') (semAt cc0_scratch11 i hi) (semAt cc0_scratch12 i hi)
    (((Memref.isWhole_whole cc0_scratch6).wordExact_slice rfl _ w).reshape _ _)
    (((Memref.isWhole_whole cc0_scratch8).wordExact_slice rfl _ w').reshape _ _)

/-- The same for the sums for the left. -/
abbrev lSend (i : Fin 1 → Nat) (hi : ∀ a, i a + S1.size a ≤ S7.size a) (d : Dev nD) {o o' : Fin 4 → Nat}
    (h : ∀ a, o a + S1x2x128x512.size a ≤ S3x2x128x512.size a)
    (w : (Rect.unit (s := S3x2x128x512) o S1x2x128x512.size h).WholeWords (EltTy.packing .bf16))
    (h' : ∀ a, o' a + S1x2x128x512.size a ≤ S7x2x128x512.size a)
    (w' : (Rect.unit (s := S7x2x128x512) o' S1x2x128x512.size h').WholeWords (EltTy.packing .bf16)) : PG F PUnit :=
  send d (lSlot o h) (cSlot o' h') (semAt cc0_scratch11 i hi) (semAt cc0_scratch12 i hi)
    (((Memref.isWhole_whole cc0_scratch7).wordExact_slice rfl _ w).reshape _ _)
    (((Memref.isWhole_whole cc0_scratch8).wordExact_slice rfl _ w').reshape _ _)

/-- Waits on a semaphore for one slot. -/
abbrev slotWait (s : DmaSem sig) (a b : Memref sig .tc .vmem S2x128x512 .bf16) (ha : a.view.WordExact) (hb : b.view.WordExact) :
    PG F PUnit := Prog.lift (.waitDma2 s a b ha hb)

/-- Stores one batch of the result. -/
def putO (m : Memref sig .tc .vmem S2x128x512 .f32) (o : Fin 3 → Nat) (h : ∀ a, o a + S1x128x512.size a ≤ S2x128x512.size a)
    (w : FVec F S1x128x512 .f32) : PG F PUnit := do
  let _ ← Prog.lift (.load m (Rect.unit (s := S2x128x512) o S1x128x512.size h).toLoadRect (View.loadsAt_vmem h_S1x128x512))
  Prog.lift (.store m (Rect.unit (s := S2x128x512) o S1x128x512.size h) w Finset.univ (View.stores_vmem_bits_univ h_S1x128x512 rfl) (.inl rfl))

/-! ## The phases -/

/-- The first step of the gathering: the own chunk goes both ways while its rows are computed. -/
def agP0 (d0 : Dev nD) (wq wk wv : FVec F S512x256 .bf16) : PG F PUnit := do
  agSend ![0] inb_S7_S1_0 (⟨k0_dev3 d0, k0_dev3_lt d0⟩ : Dev nD) (k0_off2_inb d0) (k0_off2_wordsbf16 d0)
  agSend ![4] inb_S7_S1_4 (⟨k0_dev4 d0, k0_dev4_lt d0⟩ : Dev nD) (k0_off2_inb d0) (k0_off2_wordsbf16 d0)
  qkvP wq wk wv (k0_off3_inb d0) (k0_off1_inb d0) (k0_off4_inb d0) (k0_off4_packedbf16 d0) (k0_off5_inb d0) (k0_off5_packedbf16 d0)
  agWait cc0_scratch10 ![0] inb_S7_S1_0 (k0_off2_inb d0) (k0_off2_wordsbf16 d0)
  agWait cc0_scratch10 ![4] inb_S7_S1_4 (k0_off2_inb d0) (k0_off2_wordsbf16 d0)

/-- Step 1 of the gathering: the chunks received at distance 1 are passed on and their rows computed. -/
def agP1 (d0 : Dev nD) (wq wk wv : FVec F S512x256 .bf16) : PG F PUnit := do
  agSend ![1] inb_S7_S1_1 (⟨k0_dev5 d0, k0_dev5_lt d0⟩ : Dev nD) (k0_off6_inb d0 0) (k0_off6_wordsbf16 d0 0)
  agSend ![5] inb_S7_S1_5 (⟨k0_dev6 d0, k0_dev6_lt d0⟩ : Dev nD) (k0_off7_inb d0 0) (k0_off7_wordsbf16 d0 0)
  qkvP wq wk wv (k0_off8_inb d0 0) (k0_off9_inb d0 0) (k0_off10_inb d0 0) (k0_off10_packedbf16 d0 0) (k0_off11_inb d0 0) (k0_off11_packedbf16 d0 0)
  qkvP wq wk wv (k0_off12_inb d0 0) (k0_off13_inb d0 0) (k0_off14_inb d0 0) (k0_off14_packedbf16 d0 0) (k0_off15_inb d0 0) (k0_off15_packedbf16 d0 0)
  agWait cc0_scratch10 ![1] inb_S7_S1_1 (k0_off6_inb d0 0) (k0_off6_wordsbf16 d0 0)
  agWait cc0_scratch10 ![5] inb_S7_S1_5 (k0_off7_inb d0 0) (k0_off7_wordsbf16 d0 0)

/-- Step 2 of the gathering: the chunks received at distance 2 are passed on and their rows computed. -/
def agP2 (d0 : Dev nD) (wq wk wv : FVec F S512x256 .bf16) : PG F PUnit := do
  agSend ![2] inb_S7_S1_2 (⟨k0_dev7 d0, k0_dev7_lt d0⟩ : Dev nD) (k0_off6_inb d0 1) (k0_off6_wordsbf16 d0 1)
  agSend ![6] inb_S7_S1_6 (⟨k0_dev8 d0, k0_dev8_lt d0⟩ : Dev nD) (k0_off7_inb d0 1) (k0_off7_wordsbf16 d0 1)
  qkvP wq wk wv (k0_off8_inb d0 1) (k0_off9_inb d0 1) (k0_off10_inb d0 1) (k0_off10_packedbf16 d0 1) (k0_off11_inb d0 1) (k0_off11_packedbf16 d0 1)
  qkvP wq wk wv (k0_off12_inb d0 1) (k0_off13_inb d0 1) (k0_off14_inb d0 1) (k0_off14_packedbf16 d0 1) (k0_off15_inb d0 1) (k0_off15_packedbf16 d0 1)
  agWait cc0_scratch10 ![2] inb_S7_S1_2 (k0_off6_inb d0 1) (k0_off6_wordsbf16 d0 1)
  agWait cc0_scratch10 ![6] inb_S7_S1_6 (k0_off7_inb d0 1) (k0_off7_wordsbf16 d0 1)

/-- Step 3 of the gathering: the chunks received at distance 3 are passed on and their rows computed. -/
def agP3 (d0 : Dev nD) (wq wk wv : FVec F S512x256 .bf16) : PG F PUnit := do
  agSend ![3] inb_S7_S1_3 (⟨k0_dev9 d0, k0_dev9_lt d0⟩ : Dev nD) (k0_off6_inb d0 2) (k0_off6_wordsbf16 d0 2)
  qkvP wq wk wv (k0_off8_inb d0 2) (k0_off9_inb d0 2) (k0_off10_inb d0 2) (k0_off10_packedbf16 d0 2) (k0_off11_inb d0 2) (k0_off11_packedbf16 d0 2)
  qkvP wq wk wv (k0_off12_inb d0 2) (k0_off13_inb d0 2) (k0_off14_inb d0 2) (k0_off14_packedbf16 d0 2) (k0_off15_inb d0 2) (k0_off15_packedbf16 d0 2)
  agWait cc0_scratch10 ![3] inb_S7_S1_3 (k0_off6_inb d0 2) (k0_off6_wordsbf16 d0 2)

/-- The chunk at distance 4, and the sends' ends. -/
def agP4 (d0 : Dev nD) (wq wk wv : FVec F S512x256 .bf16) : PG F PUnit := do
  qkvP wq wk wv (k0_off8_inb d0 3) (k0_off9_inb d0 3) (k0_off10_inb d0 3) (k0_off10_packedbf16 d0 3) (k0_off11_inb d0 3) (k0_off11_packedbf16 d0 3)
  agWait cc0_scratch9 ![0] inb_S7_S1_0 (k0_off2_inb d0) (k0_off2_wordsbf16 d0)
  agWait cc0_scratch9 ![4] inb_S7_S1_4 (k0_off2_inb d0) (k0_off2_wordsbf16 d0)
  agWait cc0_scratch9 ![1] inb_S7_S1_1 (k0_off6_inb d0 0) (k0_off6_wordsbf16 d0 0)
  agWait cc0_scratch9 ![5] inb_S7_S1_5 (k0_off7_inb d0 0) (k0_off7_wordsbf16 d0 0)
  agWait cc0_scratch9 ![2] inb_S7_S1_2 (k0_off6_inb d0 1) (k0_off6_wordsbf16 d0 1)
  agWait cc0_scratch9 ![6] inb_S7_S1_6 (k0_off7_inb d0 1) (k0_off7_wordsbf16 d0 1)
  agWait cc0_scratch9 ![3] inb_S7_S1_3 (k0_off6_inb d0 2) (k0_off6_wordsbf16 d0 2)

/-- The first step of the scattering: the two farthest chunks' shares are sent. -/
def rsP0 (d0 : Dev nD) (wo : FVec F S256x512 .bf16) : PG F PUnit := do
  let a0 ← attP wo (k0_off14_inb d0 3) 0 (inbH 0 (by decide))
  let a1 ← attP wo (k0_off15_inb d0 3) 1 (inbH 1 (by decide))
  let b0 ← attP wo (k0_off10_inb d0 2) 0 (inbH 0 (by decide))
  let b1 ← attP wo (k0_off11_inb d0 2) 1 (inbH 1 (by decide))
  putR ![0, 0, 0, 0] inb_S4x2x128x512_S1x1x128x512_0_0_0_0 packedbf16_S4x2x128x512_S1x1x128x512_0_0_0_0 (packV a0)
  putR ![0, 1, 0, 0] inb_S4x2x128x512_S1x1x128x512_0_1_0_0 packedbf16_S4x2x128x512_S1x1x128x512_0_1_0_0 (packV a1)
  rSend ![0] inb_S7_S1_0 (⟨k0_dev10 d0, k0_dev10_lt d0⟩ : Dev nD) inb_S4x2x128x512_S1x2x128x512_0_0_0_0 wordsbf16_S4x2x128x512_S1x2x128x512_0_0_0_0 inb_S7x2x128x512_S1x2x128x512_0_0_0_0 wordsbf16_S7x2x128x512_S1x2x128x512_0_0_0_0
  putL ![0, 0, 0, 0] inb_S3x2x128x512_S1x1x128x512_0_0_0_0 packedbf16_S3x2x128x512_S1x1x128x512_0_0_0_0 (packV b0)
  putL ![0, 1, 0, 0] inb_S3x2x128x512_S1x1x128x512_0_1_0_0 packedbf16_S3x2x128x512_S1x1x128x512_0_1_0_0 (packV b1)
  lSend ![4] inb_S7_S1_4 (⟨k0_dev11 d0, k0_dev11_lt d0⟩ : Dev nD) inb_S3x2x128x512_S1x2x128x512_0_0_0_0 wordsbf16_S3x2x128x512_S1x2x128x512_0_0_0_0 inb_S7x2x128x512_S1x2x128x512_4_0_0_0 wordsbf16_S7x2x128x512_S1x2x128x512_4_0_0_0

/-- Step 1 of the scattering: the received sums with the own shares added are sent on. -/
def rsP1 (d0 : Dev nD) (wo : FVec F S256x512 .bf16) : PG F PUnit := do
  let a0 ← attP wo (k0_off16_inb d0 0) 0 (inbH 0 (by decide))
  let a1 ← attP wo (k0_off17_inb d0 0) 1 (inbH 1 (by decide))
  let b0 ← attP wo (k0_off18_inb d0 0) 0 (inbH 0 (by decide))
  let b1 ← attP wo (k0_off19_inb d0 0) 1 (inbH 1 (by decide))
  slotWait (semAt cc0_scratch12 ![4] inb_S7_S1_4) (lSlot ![0, 0, 0, 0] inb_S3x2x128x512_S1x2x128x512_0_0_0_0) (cSlot ![4, 0, 0, 0] inb_S7x2x128x512_S1x2x128x512_4_0_0_0) (((Memref.isWhole_whole cc0_scratch7).wordExact_slice rfl _ wordsbf16_S3x2x128x512_S1x2x128x512_0_0_0_0).reshape _ _) (((Memref.isWhole_whole cc0_scratch8).wordExact_slice rfl _ wordsbf16_S7x2x128x512_S1x2x128x512_4_0_0_0).reshape _ _)
  slotWait (semAt cc0_scratch12 ![0] inb_S7_S1_0) (rSlot ![0, 0, 0, 0] inb_S4x2x128x512_S1x2x128x512_0_0_0_0) (cSlot ![0, 0, 0, 0] inb_S7x2x128x512_S1x2x128x512_0_0_0_0) (((Memref.isWhole_whole cc0_scratch6).wordExact_slice rfl _ wordsbf16_S4x2x128x512_S1x2x128x512_0_0_0_0).reshape _ _) (((Memref.isWhole_whole cc0_scratch8).wordExact_slice rfl _ wordsbf16_S7x2x128x512_S1x2x128x512_0_0_0_0).reshape _ _)
  let c0 ← cLoad ![0, 0, 0, 0] inb_S7x2x128x512_S1x1x128x512_0_0_0_0
  let c1 ← cLoad ![0, 1, 0, 0] inb_S7x2x128x512_S1x1x128x512_0_1_0_0
  let e0 ← cLoad ![4, 0, 0, 0] inb_S7x2x128x512_S1x1x128x512_4_0_0_0
  let e1 ← cLoad ![4, 1, 0, 0] inb_S7x2x128x512_S1x1x128x512_4_1_0_0
  putR ![1, 0, 0, 0] inb_S4x2x128x512_S1x1x128x512_1_0_0_0 packedbf16_S4x2x128x512_S1x1x128x512_1_0_0_0 (packV (addV a0 c0))
  putR ![1, 1, 0, 0] inb_S4x2x128x512_S1x1x128x512_1_1_0_0 packedbf16_S4x2x128x512_S1x1x128x512_1_1_0_0 (packV (addV a1 c1))
  rSend ![1] inb_S7_S1_1 (⟨k0_dev12 d0, k0_dev12_lt d0⟩ : Dev nD) inb_S4x2x128x512_S1x2x128x512_1_0_0_0 wordsbf16_S4x2x128x512_S1x2x128x512_1_0_0_0 inb_S7x2x128x512_S1x2x128x512_1_0_0_0 wordsbf16_S7x2x128x512_S1x2x128x512_1_0_0_0
  putL ![1, 0, 0, 0] inb_S3x2x128x512_S1x1x128x512_1_0_0_0 packedbf16_S3x2x128x512_S1x1x128x512_1_0_0_0 (packV (addV b0 e0))
  putL ![1, 1, 0, 0] inb_S3x2x128x512_S1x1x128x512_1_1_0_0 packedbf16_S3x2x128x512_S1x1x128x512_1_1_0_0 (packV (addV b1 e1))
  lSend ![5] inb_S7_S1_5 (⟨k0_dev13 d0, k0_dev13_lt d0⟩ : Dev nD) inb_S3x2x128x512_S1x2x128x512_1_0_0_0 wordsbf16_S3x2x128x512_S1x2x128x512_1_0_0_0 inb_S7x2x128x512_S1x2x128x512_5_0_0_0 wordsbf16_S7x2x128x512_S1x2x128x512_5_0_0_0

/-- Step 2 of the scattering: the received sums with the own shares added are sent on. -/
def rsP2 (d0 : Dev nD) (wo : FVec F S256x512 .bf16) : PG F PUnit := do
  let a0 ← attP wo (k0_off16_inb d0 1) 0 (inbH 0 (by decide))
  let a1 ← attP wo (k0_off17_inb d0 1) 1 (inbH 1 (by decide))
  let b0 ← attP wo (k0_off18_inb d0 1) 0 (inbH 0 (by decide))
  let b1 ← attP wo (k0_off19_inb d0 1) 1 (inbH 1 (by decide))
  slotWait (semAt cc0_scratch12 ![5] inb_S7_S1_5) (lSlot ![1, 0, 0, 0] inb_S3x2x128x512_S1x2x128x512_1_0_0_0) (cSlot ![5, 0, 0, 0] inb_S7x2x128x512_S1x2x128x512_5_0_0_0) (((Memref.isWhole_whole cc0_scratch7).wordExact_slice rfl _ wordsbf16_S3x2x128x512_S1x2x128x512_1_0_0_0).reshape _ _) (((Memref.isWhole_whole cc0_scratch8).wordExact_slice rfl _ wordsbf16_S7x2x128x512_S1x2x128x512_5_0_0_0).reshape _ _)
  slotWait (semAt cc0_scratch12 ![1] inb_S7_S1_1) (rSlot ![1, 0, 0, 0] inb_S4x2x128x512_S1x2x128x512_1_0_0_0) (cSlot ![1, 0, 0, 0] inb_S7x2x128x512_S1x2x128x512_1_0_0_0) (((Memref.isWhole_whole cc0_scratch6).wordExact_slice rfl _ wordsbf16_S4x2x128x512_S1x2x128x512_1_0_0_0).reshape _ _) (((Memref.isWhole_whole cc0_scratch8).wordExact_slice rfl _ wordsbf16_S7x2x128x512_S1x2x128x512_1_0_0_0).reshape _ _)
  let c0 ← cLoad ![1, 0, 0, 0] inb_S7x2x128x512_S1x1x128x512_1_0_0_0
  let c1 ← cLoad ![1, 1, 0, 0] inb_S7x2x128x512_S1x1x128x512_1_1_0_0
  let e0 ← cLoad ![5, 0, 0, 0] inb_S7x2x128x512_S1x1x128x512_5_0_0_0
  let e1 ← cLoad ![5, 1, 0, 0] inb_S7x2x128x512_S1x1x128x512_5_1_0_0
  putR ![2, 0, 0, 0] inb_S4x2x128x512_S1x1x128x512_2_0_0_0 packedbf16_S4x2x128x512_S1x1x128x512_2_0_0_0 (packV (addV a0 c0))
  putR ![2, 1, 0, 0] inb_S4x2x128x512_S1x1x128x512_2_1_0_0 packedbf16_S4x2x128x512_S1x1x128x512_2_1_0_0 (packV (addV a1 c1))
  rSend ![2] inb_S7_S1_2 (⟨k0_dev14 d0, k0_dev14_lt d0⟩ : Dev nD) inb_S4x2x128x512_S1x2x128x512_2_0_0_0 wordsbf16_S4x2x128x512_S1x2x128x512_2_0_0_0 inb_S7x2x128x512_S1x2x128x512_2_0_0_0 wordsbf16_S7x2x128x512_S1x2x128x512_2_0_0_0
  putL ![2, 0, 0, 0] inb_S3x2x128x512_S1x1x128x512_2_0_0_0 packedbf16_S3x2x128x512_S1x1x128x512_2_0_0_0 (packV (addV b0 e0))
  putL ![2, 1, 0, 0] inb_S3x2x128x512_S1x1x128x512_2_1_0_0 packedbf16_S3x2x128x512_S1x1x128x512_2_1_0_0 (packV (addV b1 e1))
  lSend ![6] inb_S7_S1_6 (⟨k0_dev15 d0, k0_dev15_lt d0⟩ : Dev nD) inb_S3x2x128x512_S1x2x128x512_2_0_0_0 wordsbf16_S3x2x128x512_S1x2x128x512_2_0_0_0 inb_S7x2x128x512_S1x2x128x512_6_0_0_0 wordsbf16_S7x2x128x512_S1x2x128x512_6_0_0_0

/-- Step 3 of the scattering, to the right only. -/
def rsP3 (d0 : Dev nD) (wo : FVec F S256x512 .bf16) : PG F PUnit := do
  let a0 ← attP wo (k0_off16_inb d0 2) 0 (inbH 0 (by decide))
  let a1 ← attP wo (k0_off17_inb d0 2) 1 (inbH 1 (by decide))
  slotWait (semAt cc0_scratch12 ![6] inb_S7_S1_6) (lSlot ![2, 0, 0, 0] inb_S3x2x128x512_S1x2x128x512_2_0_0_0) (cSlot ![6, 0, 0, 0] inb_S7x2x128x512_S1x2x128x512_6_0_0_0) (((Memref.isWhole_whole cc0_scratch7).wordExact_slice rfl _ wordsbf16_S3x2x128x512_S1x2x128x512_2_0_0_0).reshape _ _) (((Memref.isWhole_whole cc0_scratch8).wordExact_slice rfl _ wordsbf16_S7x2x128x512_S1x2x128x512_6_0_0_0).reshape _ _)
  slotWait (semAt cc0_scratch12 ![2] inb_S7_S1_2) (rSlot ![2, 0, 0, 0] inb_S4x2x128x512_S1x2x128x512_2_0_0_0) (cSlot ![2, 0, 0, 0] inb_S7x2x128x512_S1x2x128x512_2_0_0_0) (((Memref.isWhole_whole cc0_scratch6).wordExact_slice rfl _ wordsbf16_S4x2x128x512_S1x2x128x512_2_0_0_0).reshape _ _) (((Memref.isWhole_whole cc0_scratch8).wordExact_slice rfl _ wordsbf16_S7x2x128x512_S1x2x128x512_2_0_0_0).reshape _ _)
  let c0 ← cLoad ![2, 0, 0, 0] inb_S7x2x128x512_S1x1x128x512_2_0_0_0
  let c1 ← cLoad ![2, 1, 0, 0] inb_S7x2x128x512_S1x1x128x512_2_1_0_0
  putR ![3, 0, 0, 0] inb_S4x2x128x512_S1x1x128x512_3_0_0_0 packedbf16_S4x2x128x512_S1x1x128x512_3_0_0_0 (packV (addV a0 c0))
  putR ![3, 1, 0, 0] inb_S4x2x128x512_S1x1x128x512_3_1_0_0 packedbf16_S4x2x128x512_S1x1x128x512_3_1_0_0 (packV (addV a1 c1))
  rSend ![3] inb_S7_S1_3 (⟨k0_dev16 d0, k0_dev16_lt d0⟩ : Dev nD) inb_S4x2x128x512_S1x2x128x512_3_0_0_0 wordsbf16_S4x2x128x512_S1x2x128x512_3_0_0_0 inb_S7x2x128x512_S1x2x128x512_3_0_0_0 wordsbf16_S7x2x128x512_S1x2x128x512_3_0_0_0

/-- The own chunk: the sums received from both sides and the own share are the result; the sends' ends. -/
def rsP4 (d0 : Dev nD) (m5 : Memref sig .tc .vmem S2x128x512 .f32) (wo : FVec F S256x512 .bf16) : PG F PUnit := do
  let a0 ← attP wo (k0_off16_inb d0 3) 0 (inbH 0 (by decide))
  let a1 ← attP wo (k0_off17_inb d0 3) 1 (inbH 1 (by decide))
  slotWait (semAt cc0_scratch12 ![3] inb_S7_S1_3) (rSlot ![3, 0, 0, 0] inb_S4x2x128x512_S1x2x128x512_3_0_0_0) (cSlot ![3, 0, 0, 0] inb_S7x2x128x512_S1x2x128x512_3_0_0_0) (((Memref.isWhole_whole cc0_scratch6).wordExact_slice rfl _ wordsbf16_S4x2x128x512_S1x2x128x512_3_0_0_0).reshape _ _) (((Memref.isWhole_whole cc0_scratch8).wordExact_slice rfl _ wordsbf16_S7x2x128x512_S1x2x128x512_3_0_0_0).reshape _ _)
  let c0 ← cLoad ![3, 0, 0, 0] inb_S7x2x128x512_S1x1x128x512_3_0_0_0
  let e0 ← cLoad ![6, 0, 0, 0] inb_S7x2x128x512_S1x1x128x512_6_0_0_0
  putO m5 ![0, 0, 0] inb_S2x128x512_S1x128x512_0_0_0 (outV a0 c0 e0)
  let c1 ← cLoad ![3, 1, 0, 0] inb_S7x2x128x512_S1x1x128x512_3_1_0_0
  let e1 ← cLoad ![6, 1, 0, 0] inb_S7x2x128x512_S1x1x128x512_6_1_0_0
  putO m5 ![1, 0, 0] inb_S2x128x512_S1x128x512_1_0_0 (outV a1 c1 e1)
  slotWait (semAt cc0_scratch11 ![0] inb_S7_S1_0) (cSlot ![0, 0, 0, 0] inb_S7x2x128x512_S1x2x128x512_0_0_0_0) (rSlot ![0, 0, 0, 0] inb_S4x2x128x512_S1x2x128x512_0_0_0_0) (((Memref.isWhole_whole cc0_scratch8).wordExact_slice rfl _ wordsbf16_S7x2x128x512_S1x2x128x512_0_0_0_0).reshape _ _) (((Memref.isWhole_whole cc0_scratch6).wordExact_slice rfl _ wordsbf16_S4x2x128x512_S1x2x128x512_0_0_0_0).reshape _ _)
  slotWait (semAt cc0_scratch11 ![4] inb_S7_S1_4) (cSlot ![4, 0, 0, 0] inb_S7x2x128x512_S1x2x128x512_4_0_0_0) (lSlot ![0, 0, 0, 0] inb_S3x2x128x512_S1x2x128x512_0_0_0_0) (((Memref.isWhole_whole cc0_scratch8).wordExact_slice rfl _ wordsbf16_S7x2x128x512_S1x2x128x512_4_0_0_0).reshape _ _) (((Memref.isWhole_whole cc0_scratch7).wordExact_slice rfl _ wordsbf16_S3x2x128x512_S1x2x128x512_0_0_0_0).reshape _ _)
  slotWait (semAt cc0_scratch11 ![1] inb_S7_S1_1) (cSlot ![1, 0, 0, 0] inb_S7x2x128x512_S1x2x128x512_1_0_0_0) (rSlot ![1, 0, 0, 0] inb_S4x2x128x512_S1x2x128x512_1_0_0_0) (((Memref.isWhole_whole cc0_scratch8).wordExact_slice rfl _ wordsbf16_S7x2x128x512_S1x2x128x512_1_0_0_0).reshape _ _) (((Memref.isWhole_whole cc0_scratch6).wordExact_slice rfl _ wordsbf16_S4x2x128x512_S1x2x128x512_1_0_0_0).reshape _ _)
  slotWait (semAt cc0_scratch11 ![5] inb_S7_S1_5) (cSlot ![5, 0, 0, 0] inb_S7x2x128x512_S1x2x128x512_5_0_0_0) (lSlot ![1, 0, 0, 0] inb_S3x2x128x512_S1x2x128x512_1_0_0_0) (((Memref.isWhole_whole cc0_scratch8).wordExact_slice rfl _ wordsbf16_S7x2x128x512_S1x2x128x512_5_0_0_0).reshape _ _) (((Memref.isWhole_whole cc0_scratch7).wordExact_slice rfl _ wordsbf16_S3x2x128x512_S1x2x128x512_1_0_0_0).reshape _ _)
  slotWait (semAt cc0_scratch11 ![2] inb_S7_S1_2) (cSlot ![2, 0, 0, 0] inb_S7x2x128x512_S1x2x128x512_2_0_0_0) (rSlot ![2, 0, 0, 0] inb_S4x2x128x512_S1x2x128x512_2_0_0_0) (((Memref.isWhole_whole cc0_scratch8).wordExact_slice rfl _ wordsbf16_S7x2x128x512_S1x2x128x512_2_0_0_0).reshape _ _) (((Memref.isWhole_whole cc0_scratch6).wordExact_slice rfl _ wordsbf16_S4x2x128x512_S1x2x128x512_2_0_0_0).reshape _ _)
  slotWait (semAt cc0_scratch11 ![6] inb_S7_S1_6) (cSlot ![6, 0, 0, 0] inb_S7x2x128x512_S1x2x128x512_6_0_0_0) (lSlot ![2, 0, 0, 0] inb_S3x2x128x512_S1x2x128x512_2_0_0_0) (((Memref.isWhole_whole cc0_scratch8).wordExact_slice rfl _ wordsbf16_S7x2x128x512_S1x2x128x512_6_0_0_0).reshape _ _) (((Memref.isWhole_whole cc0_scratch7).wordExact_slice rfl _ wordsbf16_S3x2x128x512_S1x2x128x512_2_0_0_0).reshape _ _)
  slotWait (semAt cc0_scratch11 ![3] inb_S7_S1_3) (cSlot ![3, 0, 0, 0] inb_S7x2x128x512_S1x2x128x512_3_0_0_0) (rSlot ![3, 0, 0, 0] inb_S4x2x128x512_S1x2x128x512_3_0_0_0) (((Memref.isWhole_whole cc0_scratch8).wordExact_slice rfl _ wordsbf16_S7x2x128x512_S1x2x128x512_3_0_0_0).reshape _ _) (((Memref.isWhole_whole cc0_scratch6).wordExact_slice rfl _ wordsbf16_S4x2x128x512_S1x2x128x512_3_0_0_0).reshape _ _)

/-- The whole body. -/
def bodyP (m0 : Memref sig .tc .vmem S2x128x512 .f32) (m1 m2 m3 : Memref sig .tc .vmem S512x256 .f32)
    (m4 : Memref sig .tc .vmem S256x512 .f32) (m5 : Memref sig .tc .vmem S2x128x512 .f32) : PG F PUnit := do
  let d0 ← Prog.lift .deviceId
  initP d0 m0
  let wq ← wLoad m1
  let wk ← wLoad m2
  let wv ← wLoad m3
  let wo ← woLoad m4
  barSig d0
  semWaitWord (SemArray.scalar (sig.barrier 0 rfl) : Sems sig S_).sem 2#32
  agP0 d0 (k0_pay10 wq) (k0_pay11 wk) (k0_pay12 wv)
  agP1 d0 (k0_pay10 wq) (k0_pay11 wk) (k0_pay12 wv)
  agP2 d0 (k0_pay10 wq) (k0_pay11 wk) (k0_pay12 wv)
  agP3 d0 (k0_pay10 wq) (k0_pay11 wk) (k0_pay12 wv)
  agP4 d0 (k0_pay10 wq) (k0_pay11 wk) (k0_pay12 wv)
  rsP0 d0 (k0_pay13 wo)
  rsP1 d0 (k0_pay13 wo)
  rsP2 d0 (k0_pay13 wo)
  rsP3 d0 (k0_pay13 wo)
  rsP4 d0 m5 (k0_pay13 wo)

end Cert.Proof

end
-- ==== Proof.Contents.lean ====
/- What every buffer holds in a run, as functions of the five inputs of each device, for any float values. -/
module

public import proofs.«01_k».proof.Proof.Program

@[expose] public section

noncomputable section

namespace Cert.Proof

open Idealize.ShloMosaic Idealize.ShloMosaic.TcCoe
open Idealize.SL Idealize.SL.Sem
open Cert.KernelIdeal Cert.KernelIdeal.Gen

variable {F : FTy → Type} [FloatOps F] [Named F]

/-! ## The ring -/

/-- The device `n` places to the right of `c`. -/
def sh (n : ℕ) (c : Dev nD) : Dev nD := ⟨(c.val + n) % 8, Nat.mod_lt _ (by decide)⟩

theorem sh_sh (a b : ℕ) (c : Dev nD) : sh a (sh b c) = sh (a + b) c := by
  apply Fin.ext; simp only [sh]; omega
theorem sh_eight (c : Dev nD) : sh 8 c = c := by revert c; decide
theorem sh_zero (c : Dev nD) : sh 0 c = c := by revert c; decide
theorem sh_mod (n : ℕ) (c : Dev nD) : sh (n % 8) c = sh n c := by
  apply Fin.ext; simp only [sh]; omega

/-! ## Indices -/

/-- An index of a rank-3 shape. -/
def ix3 {n : Fin 3 → ℕ} (a : Fin (n 0)) (b : Fin (n 1)) (c : Fin (n 2)) : (⟨3, n⟩ : Shape).Idx :=
  fun | ⟨0, _⟩ => a | ⟨1, _⟩ => b | ⟨2, _⟩ => c
/-- An index of a rank-4 shape. -/
def ix4 {n : Fin 4 → ℕ} (a : Fin (n 0)) (b : Fin (n 1)) (c : Fin (n 2)) (d : Fin (n 3)) : (⟨4, n⟩ : Shape).Idx :=
  fun | ⟨0, _⟩ => a | ⟨1, _⟩ => b | ⟨2, _⟩ => c | ⟨3, _⟩ => d
/-- An index of a rank-2 shape. -/
def ix2 {n : Fin 2 → ℕ} (a : Fin (n 0)) (b : Fin (n 1)) : (⟨2, n⟩ : Shape).Idx :=
  fun | ⟨0, _⟩ => a | ⟨1, _⟩ => b

theorem ix3_eta {n : Fin 3 → ℕ} (i : (⟨3, n⟩ : Shape).Idx) : ix3 (i 0) (i 1) (i 2) = i := by
  funext a; fin_cases a <;> rfl
theorem ix4_eta {n : Fin 4 → ℕ} (i : (⟨4, n⟩ : Shape).Idx) : ix4 (i 0) (i 1) (i 2) (i 3) = i := by
  funext a; fin_cases a <;> rfl

/-- The rows of the sequence come in eight chunks of 128. -/
def chunk (p : Fin 1024) : Dev nD := ⟨p.val / 128, by have := p.isLt; show p.val / 128 < 8; omega⟩
/-- A row's place in its chunk. -/
def place (p : Fin 1024) : Fin 128 := ⟨p.val % 128, Nat.mod_lt _ (by decide)⟩
/-- Row `r` of chunk `k`. -/
def rowOf (k : Dev nD) (r : Fin 128) : Fin 1024 := ⟨128 * k.val + r.val, by have h : k.val < 8 := k.isLt; have := r.isLt; omega⟩

theorem chunk_rowOf (k : Dev nD) (r : Fin 128) : chunk (rowOf k r) = k := by
  apply Fin.ext; simp only [chunk, rowOf]; have := r.isLt; omega
theorem place_rowOf (k : Dev nD) (r : Fin 128) : place (rowOf k r) = r := by
  apply Fin.ext; simp only [place, rowOf]; have := r.isLt; omega
theorem rowOf_chunk (p : Fin 1024) : rowOf (chunk p) (place p) = p := by
  apply Fin.ext; simp only [chunk, place, rowOf]; omega

/-! ## The inputs -/

variable (F) in
/-- The five inputs of every device. -/
structure Inp where
  /-- The device's rows of the activations. -/
  x : Dev nD → S2x128x512.Idx → F .f32
  /-- The device's columns of the query weight, -/
  wq : Dev nD → S512x256.Idx → F .f32
  /-- of the key weight, -/
  wk : Dev nD → S512x256.Idx → F .f32
  /-- of the value weight, -/
  wv : Dev nD → S512x256.Idx → F .f32
  /-- and the device's rows of the output weight. -/
  wo : Dev nD → S256x512.Idx → F .f32

variable (I : Inp F)

/-- The gathered activations: slot `k` is device `k`'s rows. -/
def XG : S8x2x128x512.Idx → F .bf16 := fun i => k0_pay1 (I.x (i 0)) (ix4 (n := S1x2x128x512.size) (0 : Fin 1) (i 1) (i 2) (i 3))

/-- The cosines of chunk `k`. -/
def cosC (k : Dev nD) : Vec F S128x256 .f32 := fun y => cosV (ix2 (n := S1024x256.size) (rowOf k (y 0)) (y 1))
/-- The sines of chunk `k`. -/
def sinC (k : Dev nD) : Vec F S128x256 .f32 := fun y => sinV (ix2 (n := S1024x256.size) (rowOf k (y 0)) (y 1))

/-- The weights as the body uses them. -/
abbrev WQ (d : Dev nD) : FVec F S512x256 .bf16 := k0_pay10 (I.wq d)
abbrev WK (d : Dev nD) : FVec F S512x256 .bf16 := k0_pay11 (I.wk d)
abbrev WV (d : Dev nD) : FVec F S512x256 .bf16 := k0_pay12 (I.wv d)
abbrev WO (d : Dev nD) : FVec F S256x512 .bf16 := k0_pay13 (I.wo d)

/-- Device `d`'s query rows of chunk `k`, batch `b`. -/
def qC (d k : Dev nD) (b : Fin 2) : FVec F S1x128x256 .bf16 :=
  if b = 0 then qV0 (WQ I d) (cosC k) (sinC k) (k0_pay1 (I.x k)) else qV1 (WQ I d) (cosC k) (sinC k) (k0_pay1 (I.x k))
/-- The key rows. -/
def kC (d k : Dev nD) (b : Fin 2) : FVec F S1x128x256 .bf16 :=
  if b = 0 then kV0 (WK I d) (cosC k) (sinC k) (k0_pay1 (I.x k)) else kV1 (WK I d) (cosC k) (sinC k) (k0_pay1 (I.x k))
/-- The value rows. -/
def vC (d k : Dev nD) (b : Fin 2) : FVec F S1x128x256 .bf16 :=
  if b = 0 then vV0 (WV I d) (k0_pay1 (I.x k)) else vV1 (WV I d) (k0_pay1 (I.x k))

/-- Every chunk's rows in one buffer. -/
def rowsOf (g : Dev nD → Fin 2 → FVec F S1x128x256 .bf16) : S2x1024x256.Idx → F .bf16 :=
  fun i => g (chunk (i 1)) (i 0) (ix3 (n := S1x128x256.size) (0 : Fin 1) (place (i 1)) (i 2))

/-- The queries of device `d`'s heads. -/
def QS (d : Dev nD) : S2x1024x256.Idx → F .bf16 := rowsOf (qC I d)
/-- The keys. -/
def KS (d : Dev nD) : S2x1024x256.Idx → F .bf16 := rowsOf (kC I d)
/-- The values. -/
def VS (d : Dev nD) : S2x1024x256.Idx → F .bf16 := rowsOf (vC I d)

/-- The columns of one head, of batch `b`, from column `l` on. -/
def headOf (f : S2x1024x256.Idx → F .bf16) (b : Fin 2) (l : ℕ) (hl : l ≤ 192) : Vec F S1x1024x64 .bf16 :=
  fun y => f (ix3 (n := S2x1024x256.size) b (y 1) ⟨l + (y 2).val, by have h : (y 2).val < 64 := (y 2).isLt; show _ < 256; omega⟩)

/-- Device `d`'s share of the result of chunk `k`, batch `b`. -/
def ATT (d k : Dev nD) (b : Fin 2) : FVec F S128x512 .f32 :=
  attV (WO I d) (qC I d k b)
    (headOf (KS I d) b 0 (by decide)) (headOf (VS I d) b 0 (by decide))
    (headOf (KS I d) b 64 (by decide)) (headOf (VS I d) b 64 (by decide))
    (headOf (KS I d) b 128 (by decide)) (headOf (VS I d) b 128 (by decide))
    (headOf (KS I d) b 192 (by decide)) (headOf (VS I d) b 192 (by decide))

/-- The partial sum device `c` sends to the right at step `t`, batch `b`. -/
def SR : ℕ → Dev nD → Fin 2 → FVec F S1x1x128x512 .bf16
  | 0, c, b => packV (ATT I c (sh 4 c) b)
  | t + 1, c, b => packV (addV (ATT I c (sh (3 - t) c) b) (SR t (sh 7 c) b))

/-- The partial sum device `c` sends to the left at step `t`, batch `b`. -/
def SL : ℕ → Dev nD → Fin 2 → FVec F S1x1x128x512 .bf16
  | 0, c, b => packV (ATT I c (sh 5 c) b)
  | t + 1, c, b => packV (addV (ATT I c (sh (6 + t) c) b) (SL t (sh 1 c) b))

/-- The buffer of the sums sent to the right. -/
def SBR (c : Dev nD) : S4x2x128x512.Idx → F .bf16 :=
  fun i => SR I (i 0).val c (i 1) (ix4 (n := S1x1x128x512.size) (0 : Fin 1) (0 : Fin 1) (i 2) (i 3))
/-- The buffer of the sums sent to the left. -/
def SBL (c : Dev nD) : S3x2x128x512.Idx → F .bf16 :=
  fun i => SL I (i 0).val c (i 1) (ix4 (n := S1x1x128x512.size) (0 : Fin 1) (0 : Fin 1) (i 2) (i 3))
/-- The buffer of the sums received: slots 0 to 3 from the left neighbour, 4 to 6 from the right one. -/
def RSC (c : Dev nD) : S7x2x128x512.Idx → F .bf16 :=
  fun i => if (i 0).val < 4 then SR I (i 0).val (sh 7 c) (i 1) (ix4 (n := S1x1x128x512.size) (0 : Fin 1) (0 : Fin 1) (i 2) (i 3))
    else SL I ((i 0).val - 4) (sh 1 c) (i 1) (ix4 (n := S1x1x128x512.size) (0 : Fin 1) (0 : Fin 1) (i 2) (i 3))

/-- The result of device `c`. -/
def OUT (c : Dev nD) : S2x128x512.Idx → F .f32 :=
  fun i => outV (ATT I c c (i 0)) (SR I 3 (sh 7 c) (i 0)) (SL I 2 (sh 1 c) (i 0)) (ix3 (n := S1x128x512.size) (0 : Fin 1) (i 1) (i 2))

/-! ## Reads and writes through rectangles -/

section Access
variable {b : Ref sig .tc}

/-- What a load through a rectangle of a whole buffer reads. -/
theorem readAt_rect_apply (r : Rect b.ty.shape) (f : b.ty.Contents (Elt F)) (x : r.shape.Idx) :
    (Memref.whole b : Memref sig .tc _ _ _).view.readAt (Elt F) r.toLoadRect f x = f (r.emb x) := rfl

/-- The elements a rectangle of a whole buffer names. -/
theorem set_access_rect (r : Rect b.ty.shape) : ((Memref.whole b : Memref sig .tc _ _ _).access r).set = r.set :=
  View.set_slice_whole b r

/-- The buffer after a store through a rectangle, on the rectangle, -/
theorem write_rect_mem (r : Rect b.ty.shape) (f w' : b.ty.Contents (Elt F)) (w : r.shape.Idx → Elt F b.ty.elt) (Mk)
    (hMk : ∀ x, x ∈ Mk) (h : ∀ x, w x = w' (r.emb x)) {i : b.ty.Idx} (hi : i ∈ r.set) :
    ((Memref.whole b : Memref sig .tc _ _ _).access r).write (Elt F) f w Mk i = w' i := by
  obtain ⟨x, -, rfl⟩ := Finset.mem_map.mp ((set_access_rect r).symm ▸ hi)
  rw [View.write_emb_of_mem _ _ (hMk _)]
  exact h x

/-- and off it. -/
theorem write_rect_not_mem (r : Rect b.ty.shape) (f : b.ty.Contents (Elt F)) (w : r.shape.Idx → Elt F b.ty.elt) (Mk)
    {i : b.ty.Idx} (hi : i ∉ r.set) :
    ((Memref.whole b : Memref sig .tc _ _ _).access r).write (Elt F) f w Mk i = f i :=
  View.write_of_not_mem _ _ _ (fun hn => hi ((set_access_rect r) ▸ View.setOn_subset_set _ _ hn))

/-- A store that agrees with `G` on its rectangle leaves `G` where the contents agreed with `G` off the rectangle. -/
theorem put_rest (r : Rect b.ty.shape) (f G : b.ty.Contents (Elt F)) (w : r.shape.Idx → Elt F b.ty.elt) (Mk)
    (hMk : ∀ x, x ∈ Mk) (h : ∀ x, w x = G (r.emb x)) {i : b.ty.Idx} (hf : i ∉ r.set → f i = G i) :
    ((Memref.whole b : Memref sig .tc _ _ _).access r).write (Elt F) f w Mk i = G i := by
  by_cases hm : i ∈ r.set
  · exact write_rect_mem r f G w Mk hMk h hm
  · exact (write_rect_not_mem r f w Mk hm).trans (hf hm)

end Access

end Cert.Proof

end
-- ==== Proof.Offsets.lean ====
/- The offsets and target devices the body computes, in closed form by the device's place in the ring. -/
module

public import proofs.«01_k».proof.Proof.Contents

@[expose] public section

noncomputable section

namespace Cert.Proof

open Idealize.ShloMosaic Idealize.ShloMosaic.TcCoe
open Cert.KernelIdeal Cert.KernelIdeal.Gen

/-! ## Target devices -/

theorem dev1_at (d : Dev nD) : (⟨k0_dev1 d, k0_dev1_lt d⟩ : Dev nD) = sh 7 d := by revert d; decide +kernel
theorem dev2_at (d : Dev nD) : (⟨k0_dev2 d, k0_dev2_lt d⟩ : Dev nD) = sh 1 d := by revert d; decide +kernel
theorem dev3_at (d : Dev nD) : (⟨k0_dev3 d, k0_dev3_lt d⟩ : Dev nD) = sh 1 d := by revert d; decide +kernel
theorem dev4_at (d : Dev nD) : (⟨k0_dev4 d, k0_dev4_lt d⟩ : Dev nD) = sh 7 d := by revert d; decide +kernel
theorem dev5_at (d : Dev nD) : (⟨k0_dev5 d, k0_dev5_lt d⟩ : Dev nD) = sh 1 d := by revert d; decide +kernel
theorem dev6_at (d : Dev nD) : (⟨k0_dev6 d, k0_dev6_lt d⟩ : Dev nD) = sh 7 d := by revert d; decide +kernel
theorem dev7_at (d : Dev nD) : (⟨k0_dev7 d, k0_dev7_lt d⟩ : Dev nD) = sh 1 d := by revert d; decide +kernel
theorem dev8_at (d : Dev nD) : (⟨k0_dev8 d, k0_dev8_lt d⟩ : Dev nD) = sh 7 d := by revert d; decide +kernel
theorem dev9_at (d : Dev nD) : (⟨k0_dev9 d, k0_dev9_lt d⟩ : Dev nD) = sh 1 d := by revert d; decide +kernel
theorem dev10_at (d : Dev nD) : (⟨k0_dev10 d, k0_dev10_lt d⟩ : Dev nD) = sh 1 d := by revert d; decide +kernel
theorem dev11_at (d : Dev nD) : (⟨k0_dev11 d, k0_dev11_lt d⟩ : Dev nD) = sh 7 d := by revert d; decide +kernel
theorem dev12_at (d : Dev nD) : (⟨k0_dev12 d, k0_dev12_lt d⟩ : Dev nD) = sh 1 d := by revert d; decide +kernel
theorem dev13_at (d : Dev nD) : (⟨k0_dev13 d, k0_dev13_lt d⟩ : Dev nD) = sh 7 d := by revert d; decide +kernel
theorem dev14_at (d : Dev nD) : (⟨k0_dev14 d, k0_dev14_lt d⟩ : Dev nD) = sh 1 d := by revert d; decide +kernel
theorem dev15_at (d : Dev nD) : (⟨k0_dev15 d, k0_dev15_lt d⟩ : Dev nD) = sh 7 d := by revert d; decide +kernel
theorem dev16_at (d : Dev nD) : (⟨k0_dev16 d, k0_dev16_lt d⟩ : Dev nD) = sh 1 d := by revert d; decide +kernel

/-! ## Offsets -/

theorem off1_at : ∀ d : Dev nD, k0_off1 d = ![d.val, 0, 0, 0] := by decide +kernel
theorem off2_at : ∀ d : Dev nD, k0_off2 d = ![d.val, 0, 0, 0] := by decide +kernel
theorem off3_at : ∀ d : Dev nD, k0_off3 d = ![128 * d.val, 0] := by decide +kernel
theorem off4_at : ∀ d : Dev nD, k0_off4 d = ![0, 128 * d.val, 0] := by decide +kernel
theorem off5_at : ∀ d : Dev nD, k0_off5 d = ![1, 128 * d.val, 0] := by decide +kernel
theorem off6_at : ∀ (d : Dev nD) (r : Fin 3), k0_off6 d (BitVec.ofNat 32 (1 + r.val)) = ![(sh (7 - r.val) d).val, 0, 0, 0] := by decide +kernel
theorem off7_at : ∀ (d : Dev nD) (r : Fin 2), k0_off7 d (BitVec.ofNat 32 (1 + r.val)) = ![(sh (1 + r.val) d).val, 0, 0, 0] := by decide +kernel
theorem off8_at : ∀ (d : Dev nD) (r : Fin 4), k0_off8 d (BitVec.ofNat 32 (1 + r.val)) = ![128 * (sh (7 - r.val) d).val, 0] := by decide +kernel
theorem off9_at : ∀ (d : Dev nD) (r : Fin 4), k0_off9 d (BitVec.ofNat 32 (1 + r.val)) = ![(sh (7 - r.val) d).val, 0, 0, 0] := by decide +kernel
theorem off10_at : ∀ (d : Dev nD) (r : Fin 4), k0_off10 d (BitVec.ofNat 32 (1 + r.val)) = ![0, 128 * (sh (7 - r.val) d).val, 0] := by decide +kernel
theorem off11_at : ∀ (d : Dev nD) (r : Fin 4), k0_off11 d (BitVec.ofNat 32 (1 + r.val)) = ![1, 128 * (sh (7 - r.val) d).val, 0] := by decide +kernel
theorem off12_at : ∀ (d : Dev nD) (r : Fin 3), k0_off12 d (BitVec.ofNat 32 (1 + r.val)) = ![128 * (sh (1 + r.val) d).val, 0] := by decide +kernel
theorem off13_at : ∀ (d : Dev nD) (r : Fin 3), k0_off13 d (BitVec.ofNat 32 (1 + r.val)) = ![(sh (1 + r.val) d).val, 0, 0, 0] := by decide +kernel
theorem off14_at : ∀ (d : Dev nD) (r : Fin 4), k0_off14 d (BitVec.ofNat 32 (1 + r.val)) = ![0, 128 * (sh (1 + r.val) d).val, 0] := by decide +kernel
theorem off15_at : ∀ (d : Dev nD) (r : Fin 4), k0_off15 d (BitVec.ofNat 32 (1 + r.val)) = ![1, 128 * (sh (1 + r.val) d).val, 0] := by decide +kernel
theorem off16_at : ∀ (d : Dev nD) (r : Fin 4), k0_off16 d (BitVec.ofNat 32 r.val) = ![0, 128 * (sh (3 - r.val) d).val, 0] := by decide +kernel
theorem off17_at : ∀ (d : Dev nD) (r : Fin 4), k0_off17 d (BitVec.ofNat 32 r.val) = ![1, 128 * (sh (3 - r.val) d).val, 0] := by decide +kernel
theorem off18_at : ∀ (d : Dev nD) (r : Fin 2), k0_off18 d (BitVec.ofNat 32 r.val) = ![0, 128 * (sh (6 + r.val) d).val, 0] := by decide +kernel
theorem off19_at : ∀ (d : Dev nD) (r : Fin 2), k0_off19 d (BitVec.ofNat 32 r.val) = ![1, 128 * (sh (6 + r.val) d).val, 0] := by decide +kernel

end Cert.Proof

end
-- ==== Proof.Memory.lean ====
/- The buffers cut into the slots and chunks the body works on. -/
module

public import proofs.«01_k».proof.Proof.Offsets

@[expose] public section

noncomputable section

namespace Cert.Proof

open Idealize.ShloMosaic Idealize.ShloMosaic.TcCoe
open Idealize.SL Idealize.SL.Sem
open Cert.KernelIdeal Cert.KernelIdeal.Gen

variable {F : FTy → Type} [FloatOps F] [Named F]

/-! ## The regions -/

/-- An element's slot, -/
def xCo (i : S8x2x128x512.Idx) : Dev nD := i 0
/-- an element's chunk of rows, -/
def qCo (i : S2x1024x256.Idx) : Dev nD := chunk (i 1)
/-- and an element's slot of the partial sums. -/
def rCo (i : S4x2x128x512.Idx) : Fin 4 := i 0
def lCo (i : S3x2x128x512.Idx) : Fin 3 := i 0
def cCo (i : S7x2x128x512.Idx) : Fin 7 := i 0

/-- The elements of slot `k` of the gathered activations. -/
def xSet (k : Dev nD) : Finset S8x2x128x512.Idx := Finset.univ.filter fun i => xCo i = k
/-- The elements of the rows of chunk `k` of a q, k or v buffer. -/
def qSet (k : Dev nD) : Finset S2x1024x256.Idx := Finset.univ.filter fun i => qCo i = k
/-- The elements of slot `s` of the sums sent to the right. -/
def rSet (s : Fin 4) : Finset S4x2x128x512.Idx := Finset.univ.filter fun i => rCo i = s
/-- The elements of slot `s` of the sums sent to the left. -/
def lSet (s : Fin 3) : Finset S3x2x128x512.Idx := Finset.univ.filter fun i => lCo i = s
/-- The elements of slot `s` of the sums received. -/
def cSet (s : Fin 7) : Finset S7x2x128x512.Idx := Finset.univ.filter fun i => cCo i = s

section Fibers
variable {A B : Type} [Fintype A] [DecidableEq A] [Fintype B] [DecidableEq B] (f : A → B)

theorem fib_disjoint (b b' : B) (h : b ≠ b') : Disjoint (Finset.univ.filter fun i => f i = b) (Finset.univ.filter fun i => f i = b') := by
  rw [Finset.disjoint_left]; intro i hi hj
  exact h ((Finset.mem_filter.mp hi).2.symm.trans (Finset.mem_filter.mp hj).2)
theorem fib_cover : (Finset.univ : Finset B).biUnion (fun b => Finset.univ.filter fun i => f i = b) = (Finset.univ : Finset A) := by
  ext i; simp
end Fibers

theorem mem_xSet {k : Dev nD} {i : S8x2x128x512.Idx} : i ∈ xSet k ↔ i 0 = k := by unfold xSet; rw [Finset.mem_filter]; exact ⟨fun h => h.2, fun h => ⟨Finset.mem_univ _, h⟩⟩
theorem mem_qSet {k : Dev nD} {i : S2x1024x256.Idx} : i ∈ qSet k ↔ chunk (i 1) = k := by unfold qSet; rw [Finset.mem_filter]; exact ⟨fun h => h.2, fun h => ⟨Finset.mem_univ _, h⟩⟩
theorem mem_rSet {s : Fin 4} {i : S4x2x128x512.Idx} : i ∈ rSet s ↔ i 0 = s := by unfold rSet; rw [Finset.mem_filter]; exact ⟨fun h => h.2, fun h => ⟨Finset.mem_univ _, h⟩⟩
theorem mem_lSet {s : Fin 3} {i : S3x2x128x512.Idx} : i ∈ lSet s ↔ i 0 = s := by unfold lSet; rw [Finset.mem_filter]; exact ⟨fun h => h.2, fun h => ⟨Finset.mem_univ _, h⟩⟩
theorem mem_cSet {s : Fin 7} {i : S7x2x128x512.Idx} : i ∈ cSet s ↔ i 0 = s := by unfold cSet; rw [Finset.mem_filter]; exact ⟨fun h => h.2, fun h => ⟨Finset.mem_univ _, h⟩⟩

/-! ## The rectangles' elements -/

/-- A rectangle that is one slot of a rank-4 buffer. -/
theorem mem_slot {n : Fin 4 → ℕ} (k : ℕ) {h} {i : (⟨4, n⟩ : Shape).Idx} (h1 : n 1 = 2) (h2 : n 2 = 128) (h3 : n 3 = 512) :
    i ∈ (Rect.unit (s := ⟨4, n⟩) ![k, 0, 0, 0] S1x2x128x512.size h).set ↔ (i 0).val = k := by
  rw [Rect.mem_set_unit]
  constructor
  · intro H; obtain ⟨p, q⟩ := H 0
    change k ≤ (i 0).val at p; change (i 0).val < k + 1 at q; omega
  · intro H a
    match a with
    | ⟨0, _⟩ => change k ≤ (i 0).val ∧ (i 0).val < k + 1; omega
    | ⟨1, _⟩ => have := (i 1).isLt; change 0 ≤ (i 1).val ∧ (i 1).val < 0 + 2; change (i 1).val < n 1 at this; omega
    | ⟨2, _⟩ => have := (i 2).isLt; change 0 ≤ (i 2).val ∧ (i 2).val < 0 + 128; change (i 2).val < n 2 at this; omega
    | ⟨3, _⟩ => have := (i 3).isLt; change 0 ≤ (i 3).val ∧ (i 3).val < 0 + 512; change (i 3).val < n 3 at this; omega

/-- A rectangle that is one batch of one slot of a rank-4 buffer. -/
theorem mem_half {n : Fin 4 → ℕ} (k b : ℕ) {h} {i : (⟨4, n⟩ : Shape).Idx} (h2 : n 2 = 128) (h3 : n 3 = 512) :
    i ∈ (Rect.unit (s := ⟨4, n⟩) ![k, b, 0, 0] S1x1x128x512.size h).set ↔ (i 0).val = k ∧ (i 1).val = b := by
  rw [Rect.mem_set_unit]
  constructor
  · intro H; obtain ⟨p, q⟩ := H 0; obtain ⟨p', q'⟩ := H 1
    change k ≤ (i 0).val at p; change (i 0).val < k + 1 at q
    change b ≤ (i 1).val at p'; change (i 1).val < b + 1 at q'; omega
  · intro H a
    match a with
    | ⟨0, _⟩ => change k ≤ (i 0).val ∧ (i 0).val < k + 1; omega
    | ⟨1, _⟩ => change b ≤ (i 1).val ∧ (i 1).val < b + 1; omega
    | ⟨2, _⟩ => have := (i 2).isLt; change 0 ≤ (i 2).val ∧ (i 2).val < 0 + 128; change (i 2).val < n 2 at this; omega
    | ⟨3, _⟩ => have := (i 3).isLt; change 0 ≤ (i 3).val ∧ (i 3).val < 0 + 512; change (i 3).val < n 3 at this; omega

/-- A rectangle that is one batch of a chunk of rows. -/
theorem mem_rows (k : Dev nD) (b : ℕ) {h} {i : S2x1024x256.Idx} :
    i ∈ (Rect.unit (s := S2x1024x256) ![b, 128 * k.val, 0] S1x128x256.size h).set ↔ (i 0).val = b ∧ chunk (i 1) = k := by
  have hc : chunk (i 1) = k ↔ 128 * k.val ≤ (i 1).val ∧ (i 1).val < 128 * k.val + 128 := by
    rw [Fin.ext_iff]; change (i 1).val / 128 = k.val ↔ _; omega
  rw [Rect.mem_set_unit, hc]
  constructor
  · intro H; obtain ⟨p, q⟩ := H 0; obtain ⟨p', q'⟩ := H 1
    change b ≤ (i 0).val at p; change (i 0).val < b + 1 at q
    change 128 * k.val ≤ (i 1).val at p'; change (i 1).val < 128 * k.val + 128 at q'
    exact ⟨by omega, p', q'⟩
  · intro H a
    match a with
    | ⟨0, _⟩ => change b ≤ (i 0).val ∧ (i 0).val < b + 1; omega
    | ⟨1, _⟩ => exact H.2
    | ⟨2, _⟩ => have := (i 2).isLt; change 0 ≤ (i 2).val ∧ (i 2).val < 0 + 256; change (i 2).val < 256 at this; omega

/-! ## What loads read -/

/-- The angles' rows of one chunk. -/
theorem read_cos (k : Dev nD) {h} : (cosM : Memref sig .tc _ _ _).view.readAt (Elt F) (Rect.unit (s := S1024x256) ![128 * k.val, 0] S128x256.size h).toLoadRect cosV = cosC (F := F) k := by
  funext x
  rw [readAt_rect_apply]; unfold cosC
  refine congrArg cosV (funext fun a => Fin.ext ?_)
  match a with
  | ⟨0, _⟩ => change 128 * k.val + 1 * (x 0).val = 128 * k.val + (x 0).val; omega
  | ⟨1, _⟩ => change 0 + 1 * (x 1).val = (x 1).val; omega
theorem read_sin (k : Dev nD) {h} : (sinM : Memref sig .tc _ _ _).view.readAt (Elt F) (Rect.unit (s := S1024x256) ![128 * k.val, 0] S128x256.size h).toLoadRect sinV = sinC (F := F) k := by
  funext x
  rw [readAt_rect_apply]; unfold sinC
  refine congrArg sinV (funext fun a => Fin.ext ?_)
  match a with
  | ⟨0, _⟩ => change 128 * k.val + 1 * (x 0).val = 128 * k.val + (x 0).val; omega
  | ⟨1, _⟩ => change 0 + 1 * (x 1).val = (x 1).val; omega

variable (I : Inp F)

/-- One slot of the gathered activations. -/
theorem read_xg (k : Dev nD) {h} : (xgM : Memref sig .tc _ _ _).view.readAt (Elt F) (Rect.unit (s := S8x2x128x512) ![k.val, 0, 0, 0] S1x2x128x512.size h).toLoadRect (XG I) = k0_pay1 (I.x k) := by
  funext x
  rw [readAt_rect_apply]; unfold XG
  have h0 : (x 0).val = 0 := by have h : (x 0).val < 1 := (x 0).isLt; omega
  have e0 : (Rect.unit (s := S8x2x128x512) ![k.val, 0, 0, 0] S1x2x128x512.size h).emb x 0 = k := by
    apply Fin.ext; change k.val + 1 * (x 0).val = k.val; omega
  rw [e0]
  refine congrArg _ (funext fun a => Fin.ext ?_)
  match a with
  | ⟨0, _⟩ => change 0 = (x 0).val; omega
  | ⟨1, _⟩ => change 0 + 1 * (x 1).val = (x 1).val; omega
  | ⟨2, _⟩ => change 0 + 1 * (x 2).val = (x 2).val; omega
  | ⟨3, _⟩ => change 0 + 1 * (x 3).val = (x 3).val; omega

/-- The rows of one batch of a chunk, in the buffer of all rows. -/
theorem rowsOf_emb (g : Dev nD → Fin 2 → FVec F S1x128x256 .bf16) (k : Dev nD) (b : Fin 2) {h} (x) :
    rowsOf g ((Rect.unit (s := S2x1024x256) ![b.val, 128 * k.val, 0] S1x128x256.size h).emb x) = g k b x := by
  unfold rowsOf
  have h0 : (x 0).val = 0 := by have h : (x 0).val < 1 := (x 0).isLt; omega
  have h1 : (x 1).val < 128 := (x 1).isLt
  have e0 : (Rect.unit (s := S2x1024x256) ![b.val, 128 * k.val, 0] S1x128x256.size h).emb x 0 = b := by
    apply Fin.ext; change b.val + 1 * (x 0).val = b.val; omega
  have e1 : chunk ((Rect.unit (s := S2x1024x256) ![b.val, 128 * k.val, 0] S1x128x256.size h).emb x 1) = k := by
    apply Fin.ext; change (128 * k.val + 1 * (x 1).val) / 128 = k.val; omega
  rw [e0, e1]
  refine congrArg _ (funext fun a => Fin.ext ?_)
  match a with
  | ⟨0, _⟩ => change 0 = (x 0).val; omega
  | ⟨1, _⟩ => change (128 * k.val + 1 * (x 1).val) % 128 = (x 1).val; omega
  | ⟨2, _⟩ => change 0 + 1 * (x 2).val = (x 2).val; omega

/-- The query rows of one batch of a chunk. -/
theorem read_q (d k : Dev nD) (b : Fin 2) {h} : (qM : Memref sig .tc _ _ _).view.readAt (Elt F) (Rect.unit (s := S2x1024x256) ![b.val, 128 * k.val, 0] S1x128x256.size h).toLoadRect (QS I d) = qC I d k b :=
  funext fun x => rowsOf_emb (qC I d) k b x

theorem headOf_emb (f : S2x1024x256.Idx → F .bf16) (b : Fin 2) (l : ℕ) (hl : l ≤ 192) {h} (x) :
    f ((Rect.unit (s := S2x1024x256) ![b.val, 0, l] S1x1024x64.size h).emb x) = headOf f b l hl x := by
  unfold headOf
  have h0 : (x 0).val = 0 := by have h : (x 0).val < 1 := (x 0).isLt; omega
  refine congrArg f (funext fun a => Fin.ext ?_)
  match a with
  | ⟨0, _⟩ => change b.val + 1 * (x 0).val = b.val; omega
  | ⟨1, _⟩ => change 0 + 1 * (x 1).val = (x 1).val; omega
  | ⟨2, _⟩ => change l + 1 * (x 2).val = l + (x 2).val; omega

/-- One head's keys, -/
theorem read_k (d : Dev nD) (b : Fin 2) (l : ℕ) (hl : l ≤ 192) {h} : (kM : Memref sig .tc _ _ _).view.readAt (Elt F) (Rect.unit (s := S2x1024x256) ![b.val, 0, l] S1x1024x64.size h).toLoadRect (KS I d) = headOf (KS I d) b l hl :=
  funext fun x => headOf_emb (KS I d) b l hl x
/-- and its values. -/
theorem read_v (d : Dev nD) (b : Fin 2) (l : ℕ) (hl : l ≤ 192) {h} : (vM : Memref sig .tc _ _ _).view.readAt (Elt F) (Rect.unit (s := S2x1024x256) ![b.val, 0, l] S1x1024x64.size h).toLoadRect (VS I d) = headOf (VS I d) b l hl :=
  funext fun x => headOf_emb (VS I d) b l hl x

/-- One batch of one slot of the sums received from the left. -/
theorem read_cr (c : Dev nD) (s : ℕ) (hs : s < 4) (b : Fin 2) {h} : (cM : Memref sig .tc _ _ _).view.readAt (Elt F) (Rect.unit (s := S7x2x128x512) ![s, b.val, 0, 0] S1x1x128x512.size h).toLoadRect (RSC I c) = SR I s (sh 7 c) b := by
  funext x
  rw [readAt_rect_apply]; unfold RSC
  have h0 : (x 0).val = 0 := by have h : (x 0).val < 1 := (x 0).isLt; omega
  have h1 : (x 1).val = 0 := by have h : (x 1).val < 1 := (x 1).isLt; omega
  have e0 : ((Rect.unit (s := S7x2x128x512) ![s, b.val, 0, 0] S1x1x128x512.size h).emb x 0).val = s := by
    change s + 1 * (x 0).val = s; omega
  have e1 : (Rect.unit (s := S7x2x128x512) ![s, b.val, 0, 0] S1x1x128x512.size h).emb x 1 = b := by
    apply Fin.ext; change b.val + 1 * (x 1).val = b.val; omega
  rw [e0, if_pos hs, e1]
  refine congrArg _ (funext fun a => Fin.ext ?_)
  match a with
  | ⟨0, _⟩ => change 0 = (x 0).val; omega
  | ⟨1, _⟩ => change 0 = (x 1).val; omega
  | ⟨2, _⟩ => change 0 + 1 * (x 2).val = (x 2).val; omega
  | ⟨3, _⟩ => change 0 + 1 * (x 3).val = (x 3).val; omega
/-- One batch of one slot of the sums received from the right. -/
theorem read_cl (c : Dev nD) (s t : ℕ) (hs : s = 4 + t) (b : Fin 2) {h} : (cM : Memref sig .tc _ _ _).view.readAt (Elt F) (Rect.unit (s := S7x2x128x512) ![s, b.val, 0, 0] S1x1x128x512.size h).toLoadRect (RSC I c) = SL I t (sh 1 c) b := by
  funext x
  rw [readAt_rect_apply]; unfold RSC
  have h0 : (x 0).val = 0 := by have h : (x 0).val < 1 := (x 0).isLt; omega
  have h1 : (x 1).val = 0 := by have h : (x 1).val < 1 := (x 1).isLt; omega
  have e0 : ((Rect.unit (s := S7x2x128x512) ![s, b.val, 0, 0] S1x1x128x512.size h).emb x 0).val = s := by
    change s + 1 * (x 0).val = s; omega
  have e1 : (Rect.unit (s := S7x2x128x512) ![s, b.val, 0, 0] S1x1x128x512.size h).emb x 1 = b := by
    apply Fin.ext; change b.val + 1 * (x 1).val = b.val; omega
  rw [e0, if_neg (by omega), e1, show s - 4 = t by omega]
  refine congrArg _ (funext fun a => Fin.ext ?_)
  match a with
  | ⟨0, _⟩ => change 0 = (x 0).val; omega
  | ⟨1, _⟩ => change 0 = (x 1).val; omega
  | ⟨2, _⟩ => change 0 + 1 * (x 2).val = (x 2).val; omega
  | ⟨3, _⟩ => change 0 + 1 * (x 3).val = (x 3).val; omega

/-! ## What stores leave -/

theorem XG_emb (k : Dev nD) {h} (x) : k0_pay1 (I.x k) x = XG I ((Rect.unit (s := S8x2x128x512) ![k.val, 0, 0, 0] S1x2x128x512.size h).emb x) :=
  (congrFun (read_xg I k (h := h)) x).symm

theorem SBR_emb (c : Dev nD) (s : ℕ) (b : Fin 2) {h} (x) :
    SR I s c b x = SBR I c ((Rect.unit (s := S4x2x128x512) ![s, b.val, 0, 0] S1x1x128x512.size h).emb x) := by
  unfold SBR
  have h0 : (x 0).val = 0 := by have h : (x 0).val < 1 := (x 0).isLt; omega
  have h1 : (x 1).val = 0 := by have h : (x 1).val < 1 := (x 1).isLt; omega
  have e0 : ((Rect.unit (s := S4x2x128x512) ![s, b.val, 0, 0] S1x1x128x512.size h).emb x 0).val = s := by
    change s + 1 * (x 0).val = s; omega
  have e1 : (Rect.unit (s := S4x2x128x512) ![s, b.val, 0, 0] S1x1x128x512.size h).emb x 1 = b := by
    apply Fin.ext; change b.val + 1 * (x 1).val = b.val; omega
  rw [e0, e1]
  refine congrArg _ (funext fun a => Fin.ext ?_)
  match a with
  | ⟨0, _⟩ => change (x 0).val = 0; omega
  | ⟨1, _⟩ => change (x 1).val = 0; omega
  | ⟨2, _⟩ => change (x 2).val = 0 + 1 * (x 2).val; omega
  | ⟨3, _⟩ => change (x 3).val = 0 + 1 * (x 3).val; omega
theorem SBL_emb (c : Dev nD) (s : ℕ) (b : Fin 2) {h} (x) :
    SL I s c b x = SBL I c ((Rect.unit (s := S3x2x128x512) ![s, b.val, 0, 0] S1x1x128x512.size h).emb x) := by
  unfold SBL
  have h0 : (x 0).val = 0 := by have h : (x 0).val < 1 := (x 0).isLt; omega
  have h1 : (x 1).val = 0 := by have h : (x 1).val < 1 := (x 1).isLt; omega
  have e0 : ((Rect.unit (s := S3x2x128x512) ![s, b.val, 0, 0] S1x1x128x512.size h).emb x 0).val = s := by
    change s + 1 * (x 0).val = s; omega
  have e1 : (Rect.unit (s := S3x2x128x512) ![s, b.val, 0, 0] S1x1x128x512.size h).emb x 1 = b := by
    apply Fin.ext; change b.val + 1 * (x 1).val = b.val; omega
  rw [e0, e1]
  refine congrArg _ (funext fun a => Fin.ext ?_)
  match a with
  | ⟨0, _⟩ => change (x 0).val = 0; omega
  | ⟨1, _⟩ => change (x 1).val = 0; omega
  | ⟨2, _⟩ => change (x 2).val = 0 + 1 * (x 2).val; omega
  | ⟨3, _⟩ => change (x 3).val = 0 + 1 * (x 3).val; omega
theorem OUT_emb (c : Dev nD) (b : Fin 2) {h} (x) :
    outV (ATT I c c b) (SR I 3 (sh 7 c) b) (SL I 2 (sh 1 c) b) x = OUT I c ((Rect.unit (s := S2x128x512) ![b.val, 0, 0] S1x128x512.size h).emb x) := by
  unfold OUT
  have h0 : (x 0).val = 0 := by have h : (x 0).val < 1 := (x 0).isLt; omega
  have e0 : (Rect.unit (s := S2x128x512) ![b.val, 0, 0] S1x128x512.size h).emb x 0 = b := by
    apply Fin.ext; change b.val + 1 * (x 0).val = b.val; omega
  rw [e0]
  refine congrArg _ (funext fun a => Fin.ext ?_)
  match a with
  | ⟨0, _⟩ => change (x 0).val = 0; omega
  | ⟨1, _⟩ => change (x 1).val = 0 + 1 * (x 1).val; omega
  | ⟨2, _⟩ => change (x 2).val = 0 + 1 * (x 2).val; omega

/-- Both batches make the whole result. -/
theorem mem_out (i : S2x128x512.Idx) {h h'} : i ∈ (Rect.unit (s := S2x128x512) ![0, 0, 0] S1x128x512.size h).set ∨ i ∈ (Rect.unit (s := S2x128x512) ![1, 0, 0] S1x128x512.size h').set := by
  rw [Rect.mem_set_unit, Rect.mem_set_unit]
  have h0 : (i 0).val < 2 := (i 0).isLt
  have h1 : (i 1).val < 128 := (i 1).isLt
  have h2 : (i 2).val < 512 := (i 2).isLt
  by_cases e : (i 0).val = 0
  · left; intro a
    match a with
    | ⟨0, _⟩ => change 0 ≤ (i 0).val ∧ (i 0).val < 0 + 1; omega
    | ⟨1, _⟩ => change 0 ≤ (i 1).val ∧ (i 1).val < 0 + 128; omega
    | ⟨2, _⟩ => change 0 ≤ (i 2).val ∧ (i 2).val < 0 + 512; omega
  · right; intro a
    match a with
    | ⟨0, _⟩ => change 1 ≤ (i 0).val ∧ (i 0).val < 1 + 1; omega
    | ⟨1, _⟩ => change 0 ≤ (i 1).val ∧ (i 1).val < 0 + 128; omega
    | ⟨2, _⟩ => change 0 ≤ (i 2).val ∧ (i 2).val < 0 + 512; omega

/-! ## The slots' views -/

theorem xSlot_set (k : Dev nD) {h} : (xSlot ![k.val, 0, 0, 0] h).view.set = xSet k := by
  refine (View.set_reshape _ _).trans ((View.set_slice_whole _ _).trans ?_)
  ext i; exact (mem_slot k.val rfl rfl rfl).trans (Fin.ext_iff.symm.trans mem_xSet.symm)
theorem rSlot_set (s : Fin 4) {h} : (rSlot ![s.val, 0, 0, 0] h).view.set = rSet s := by
  refine (View.set_reshape _ _).trans ((View.set_slice_whole _ _).trans ?_)
  ext i; exact (mem_slot s.val rfl rfl rfl).trans (Fin.ext_iff.symm.trans mem_rSet.symm)
theorem lSlot_set (s : Fin 3) {h} : (lSlot ![s.val, 0, 0, 0] h).view.set = lSet s := by
  refine (View.set_reshape _ _).trans ((View.set_slice_whole _ _).trans ?_)
  ext i; exact (mem_slot s.val rfl rfl rfl).trans (Fin.ext_iff.symm.trans mem_lSet.symm)
theorem cSlot_set (s : Fin 7) {h} : (cSlot ![s.val, 0, 0, 0] h).view.set = cSet s := by
  refine (View.set_reshape _ _).trans ((View.set_slice_whole _ _).trans ?_)
  ext i; exact (mem_slot s.val rfl rfl rfl).trans (Fin.ext_iff.symm.trans mem_cSet.symm)

/-- A copy of a slot of the gathered activations lands what was sent. -/
theorem xSlot_copy (k : Dev nD) {h} (f g : S8x2x128x512.Idx → F .bf16) {i} (hi : i ∈ xSet k) :
    (xSlot ![k.val, 0, 0, 0] h).view.write (Elt F) f ((xSlot ![k.val, 0, 0, 0] h).view.read (Elt F) g) Finset.univ i = g i := by
  rw [← xSlot_set k (h := h)] at hi
  obtain ⟨x, -, rfl⟩ := Finset.mem_map.mp hi
  rw [View.write_emb_of_mem _ _ (Finset.mem_univ _)]
  rfl

theorem SBR_RSC (c : Dev nD) (s t : ℕ) (hs : s < 4) (ht : t = s) {h h'} (y : S1x2x128x512.Idx) :
    SBR I c ((Rect.unit (s := S4x2x128x512) ![s, 0, 0, 0] S1x2x128x512.size h).emb y)
      = RSC I (sh 1 c) ((Rect.unit (s := S7x2x128x512) ![t, 0, 0, 0] S1x2x128x512.size h').emb y) := by
  subst ht
  have y0 : (y 0).val = 0 := by have h : (y 0).val < 1 := (y 0).isLt; omega
  unfold SBR RSC
  have e0 : ((Rect.unit (s := S4x2x128x512) ![t, 0, 0, 0] S1x2x128x512.size h).emb y 0).val = t := by
    change t + 1 * (y 0).val = t; omega
  have e1 : ((Rect.unit (s := S7x2x128x512) ![t, 0, 0, 0] S1x2x128x512.size h').emb y 0).val = t := by
    change t + 1 * (y 0).val = t; omega
  rw [e0, e1, if_pos hs, sh_sh, show sh (7 + 1) c = c from sh_eight c]
  rfl

theorem SBL_RSC (c : Dev nD) (s t : ℕ) (ht : t = 4 + s) {h h'} (y : S1x2x128x512.Idx) :
    SBL I c ((Rect.unit (s := S3x2x128x512) ![s, 0, 0, 0] S1x2x128x512.size h).emb y)
      = RSC I (sh 7 c) ((Rect.unit (s := S7x2x128x512) ![t, 0, 0, 0] S1x2x128x512.size h').emb y) := by
  have y0 : (y 0).val = 0 := by have h : (y 0).val < 1 := (y 0).isLt; omega
  unfold SBL RSC
  have e0 : ((Rect.unit (s := S3x2x128x512) ![s, 0, 0, 0] S1x2x128x512.size h).emb y 0).val = s := by
    change s + 1 * (y 0).val = s; omega
  have e1 : ((Rect.unit (s := S7x2x128x512) ![t, 0, 0, 0] S1x2x128x512.size h').emb y 0).val = 4 + s := by
    change t + 1 * (y 0).val = 4 + s; omega
  rw [e0, e1, if_neg (by omega), sh_sh, show sh (1 + 7) c = c from sh_eight c, Nat.add_sub_cancel_left]
  rfl

/-- A copy of a slot of the sums sent to the right lands them at the neighbour. -/
theorem rSlot_copy (c : Dev nD) (s : Fin 4) (t : Fin 7) (ht : t.val = s.val) {h h'} (f : S7x2x128x512.Idx → F .bf16) {i} (hi : i ∈ cSet t) :
    (cSlot ![t.val, 0, 0, 0] h').view.write (Elt F) f ((rSlot ![s.val, 0, 0, 0] h).view.read (Elt F) (SBR I c)) Finset.univ i = RSC I (sh 1 c) i := by
  rw [← cSlot_set t (h := h')] at hi
  obtain ⟨x, -, rfl⟩ := Finset.mem_map.mp hi
  rw [View.write_emb_of_mem _ _ (Finset.mem_univ _)]
  exact SBR_RSC I c s.val t.val s.isLt ht _

/-- A copy of a slot of the sums sent to the left lands them at the neighbour. -/
theorem lSlot_copy (c : Dev nD) (s : Fin 3) (t : Fin 7) (ht : t.val = 4 + s.val) {h h'} (f : S7x2x128x512.Idx → F .bf16) {i} (hi : i ∈ cSet t) :
    (cSlot ![t.val, 0, 0, 0] h').view.write (Elt F) f ((lSlot ![s.val, 0, 0, 0] h).view.read (Elt F) (SBL I c)) Finset.univ i = RSC I (sh 7 c) i := by
  rw [← cSlot_set t (h := h')] at hi
  obtain ⟨x, -, rfl⟩ := Finset.mem_map.mp hi
  rw [View.write_emb_of_mem _ _ (Finset.mem_univ _)]
  exact SBL_RSC I c s.val t.val ht _

end Cert.Proof

end
-- ==== Proof.Schedule.lean ====
/- The protocol: every device has a barrier cell and 28 transfer cells. A neighbour's barrier signal hands over the
   slots its transfers land in; a transfer's send cell hands the source back, its receive cell hands over the slot
   with what the sender wrote. -/
module

public import proofs.«01_k».proof.Proof.Memory
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.Proof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

/-- The ghost state: the pipeline's and the protocol's. -/
abbrev UU : Type := UR sig nD τ × URounds (GSem nD τ sig) Bool

local notation "𝕄" => MT nD τ sig Unit (Elt F) ℕ UU ℕ

abbrev EP : Emb (UR sig nD τ) (MT nD τ sig Unit (Elt F) ℕ UU ℕ) := embL
abbrev ER : Emb (URounds (GSem nD τ sig) Bool) (MT nD τ sig Unit (Elt F) ℕ UU ℕ) := embR

abbrev 𝒱₀ : Variants := Variants.none

/-! ## Cells -/

/-- The barrier semaphore. -/
abbrev barS : Sem sig := (SemArray.scalar (sig.barrier 0 rfl) : Sems sig S_).sem
/-- The semaphore of kind `k` of transfer `i`: kinds 0 and 1 the gathering's send and receive, 2 and 3 the scattering's. -/
def dS (k : Fin 4) (i : Fin 7) : DmaSem sig := ⟨6 + 7 * k.val + i.val, by have := k.isLt; have := i.isLt; show _ < 34; omega⟩
/-- The kind and transfer of a semaphore. -/
def decD (q : DmaSem sig) : Option (Fin 4 × Fin 7) :=
  if h : 6 ≤ q.val then some (⟨(q.val - 6) / 7, by have h : q.val < 34 := q.isLt; omega⟩, ⟨(q.val - 6) % 7, Nat.mod_lt _ (by decide)⟩) else none
theorem decD_dS (k : Fin 4) (i : Fin 7) : decD (dS k i) = some (k, i) := by revert k i; decide

abbrev barCell (c : Dev nD) : GSem nD τ sig := ((c : Thread nD τ), .reg barS)
abbrev dcell (c : Dev nD) (k : Fin 4) (i : Fin 7) : GSem nD τ sig := ((c : Thread nD τ), .dma (dS k i))

/-- A device's cells. -/
def csem : Option (Fin 4 × Fin 7) → SemLoc sig
  | none => .reg barS
  | some ki => .dma (dS ki.1 ki.2)
abbrev kcell (cj : Dev nD × Option (Fin 4 × Fin 7)) : GSem nD τ sig := ((cj.1 : Thread nD τ), csem cj.2)

/-- What a transfer counts on its semaphores. -/
abbrev N : ℕ := (cSlot ![0, 0, 0, 0] inb_S7x2x128x512_S1x2x128x512_0_0_0_0).view.dmaCredit
theorem N_pos : 0 < N := View.dmaCredit_pos _ (by decide)

/-! ## Transfers -/

/-- How far to the right transfer `i` goes (seven places right is one left). -/
def nbrN : Fin 7 → ℕ := ![1, 1, 1, 1, 7, 7, 7]
/-- Whose activations a device sends in transfer `i`, -/
def agN : Fin 7 → ℕ := ![0, 7, 6, 5, 0, 1, 2]
/-- and whose it receives. -/
def rslN : Fin 7 → ℕ := ![7, 6, 5, 4, 1, 2, 3]
def nbr (i : Fin 7) (c : Dev nD) : Dev nD := sh (nbrN i) c
def agk (i : Fin 7) (c : Dev nD) : Dev nD := sh (agN i) c
def rsl (i : Fin 7) (c : Dev nD) : Dev nD := sh (rslN i) c
theorem rsl_nbr (i : Fin 7) (c : Dev nD) : rsl i (nbr i c) = agk i c := by revert i c; decide
/-- The share of the source a gathering transfer takes: the own slot goes out twice. -/
def agq (i : Fin 7) : PosShare TreeShare := if i = 4 then fullShare.right.left else fullShare.left

variable (I : Inp F)

/-- Slot `k` of device `c`'s gathered activations. -/
def xPts (c k : Dev nD) (q : PosShare TreeShare) (f : S8x2x128x512.Idx → F .bf16) : sProp 𝕄 :=
  ((c : Thread nD τ).loc cc0_scratch0) ↦[xSet k]{q} (show Buf (Elt F) ((c : Thread nD τ).loc cc0_scratch0) from f)
/-- Slot `s` of device `c`'s sums for the right, -/
def rPts (c : Dev nD) (s : Fin 4) (f : S4x2x128x512.Idx → F .bf16) : sProp 𝕄 :=
  ((c : Thread nD τ).loc cc0_scratch6) ↦[rSet s]{fullShare} (show Buf (Elt F) ((c : Thread nD τ).loc cc0_scratch6) from f)
/-- for the left, -/
def lPts (c : Dev nD) (s : Fin 3) (f : S3x2x128x512.Idx → F .bf16) : sProp 𝕄 :=
  ((c : Thread nD τ).loc cc0_scratch7) ↦[lSet s]{fullShare} (show Buf (Elt F) ((c : Thread nD τ).loc cc0_scratch7) from f)
/-- and of the sums received. -/
def cPts (c : Dev nD) (s : Fin 7) (f : S7x2x128x512.Idx → F .bf16) : sProp 𝕄 :=
  ((c : Thread nD τ).loc cc0_scratch8) ↦[cSet s]{fullShare} (show Buf (Elt F) ((c : Thread nD τ).loc cc0_scratch8) from f)

instance xPts_storable (c k : Dev nD) (q) (f) : BI.Storable (upEmb : UEmb _ 𝕄) (xPts (F := F) c k q f) := by unfold xPts; infer_instance
instance rPts_storable (c : Dev nD) (s) (f) : BI.Storable (upEmb : UEmb _ 𝕄) (rPts (F := F) c s f) := by unfold rPts; infer_instance
instance lPts_storable (c : Dev nD) (s) (f) : BI.Storable (upEmb : UEmb _ 𝕄) (lPts (F := F) c s f) := by unfold lPts; infer_instance
instance cPts_storable (c : Dev nD) (s) (f) : BI.Storable (upEmb : UEmb _ 𝕄) (cPts (F := F) c s f) := by unfold cPts; infer_instance

/-- The slot of partial sums transfer `i` of the scattering sends. -/
def sPts (c : Dev nD) (i : Fin 7) : sProp 𝕄 :=
  if h : i.val < 4 then iprop(rPts c ⟨i.val, h⟩ (SBR I c)) else iprop(lPts c ⟨i.val - 4, by have := i.isLt; omega⟩ (SBL I c))
instance sPts_storable (c : Dev nD) (i) : BI.Storable (upEmb : UEmb _ 𝕄) (sPts (F := F) I c i) := by unfold sPts; split <;> infer_instance

/-! ## The schedule -/

/-- The slots of device `d` transfer `i` of the gathering and of the scattering land in. -/
def hand (i : Fin 7) (d : Dev nD) : sProp 𝕄 := iprop((∃ f, xPts d (rsl i d) fullShare f) ∗ (∃ f, cPts d i f))
instance hand_storable (i) (d : Dev nD) : BI.Storable (upEmb : UEmb _ 𝕄) (hand (F := F) i d) := by unfold hand; infer_instance
/-- What a device's left neighbour needs of it, -/
def handR (d : Dev nD) : sProp 𝕄 := iprop(hand 0 d ∗ hand 1 d ∗ hand 2 d ∗ hand 3 d)
/-- and what its right neighbour needs. -/
def handL (d : Dev nD) : sProp 𝕄 := iprop(hand 4 d ∗ hand 5 d ∗ hand 6 d)
instance handR_storable (d : Dev nD) : BI.Storable (upEmb : UEmb _ 𝕄) (handR (F := F) d) := by unfold handR; infer_instance
instance handL_storable (d : Dev nD) : BI.Storable (upEmb : UEmb _ 𝕄) (handL (F := F) d) := by unfold handL; infer_instance

/-- What the cell of kind `k` of transfer `i` hands device `c`. -/
def payT : Fin 4 → Fin 7 → Dev nD → sProp 𝕄
  | 0, i, c => xPts c (agk i c) (agq i) (XG I)
  | 1, i, c => xPts c (rsl i c) fullShare (XG I)
  | 2, i, c => sPts I c i
  | 3, i, c => cPts c i (RSC I c)
instance payT_storable (k i) (d : Dev nD) : BI.Storable (upEmb : UEmb _ 𝕄) (payT (F := F) I k i d) := by
  match k with
  | 0 => exact xPts_storable _ _ _ _
  | 1 => exact xPts_storable _ _ _ _
  | 2 => exact sPts_storable _ _ _
  | 3 => exact cPts_storable _ _ _

/-- What device `c`'s barrier cell hands it from each side. -/
def payB (c : Dev nD) : Bool → sProp 𝕄
  | true => handR (sh 1 c)
  | false => handL (sh 7 c)
instance payB_storable (c : Dev nD) (d) : BI.Storable (upEmb : UEmb _ 𝕄) (payB (F := F) c d) := by
  cases d
  · exact handL_storable _
  · exact handR_storable _

def payO (c : Dev nD) : Option (Fin 4 × Fin 7) → sProp 𝕄
  | some ki => payT I ki.1 ki.2 c
  | none => iprop(emp)
instance payO_storable (c : Dev nD) (o) : BI.Storable (upEmb : UEmb _ 𝕄) (payO (F := F) I c o) := by
  cases o
  · unfold payO; infer_instance
  · exact payT_storable _ _ _ _
def payS (c : Dev nD) (d : Bool) : SemLoc sig → sProp 𝕄
  | .reg s => if s = barS then payB c d else iprop(emp)
  | .dma q => payO I c (decD q)
instance payS_storable (c : Dev nD) (d) (s) : BI.Storable (upEmb : UEmb _ 𝕄) (payS (F := F) I c d s) := by
  cases s
  · unfold payS; dsimp only; split <;> infer_instance
  · exact payO_storable _ _ _

/-- The duties of a semaphore: two on the barrier, one on a transfer's. -/
def dutS : SemLoc sig → Finset Bool
  | .reg s => if s = barS then Finset.univ else ∅
  | .dma q => if (decD q).isSome then {false} else ∅
def amtS : SemLoc sig → ℕ
  | .reg _ => 1
  | .dma _ => N

/-- One round, round 0. -/
def Rd : Rounds.Schedule (GSem nD τ sig) Bool 𝕄 where
  duties g r := if r = 0 ∧ g.1.2 = .tc then dutS g.2 else ∅
  unitless _ := False
  amount g _ _ := amtS g.2
  payload g _ d := payS I g.1.1 d g.2
  amount_pos g _ _ _ := by
    cases g.2
    · exact Nat.one_pos
    · exact N_pos

instance Rd_payload_storable (g : GSem nD τ sig) (r : ℕ) (d : Bool) :
    BI.Storable (upEmb : UEmb _ 𝕄) ((Rd (F := F) I).payload g r d) := payS_storable I g.1.1 d g.2

section Sched
variable (c : Dev nD) (k : Fin 4) (i : Fin 7)

theorem duties_bar : (Rd (F := F) I).duties (barCell c) 0 = Finset.univ := by
  dsimp only [Rd]; rw [if_pos ⟨rfl, rfl⟩]; unfold dutS; exact if_pos rfl
theorem duties_d : (Rd (F := F) I).duties (dcell c k i) 0 = {false} := by
  dsimp only [Rd]; rw [if_pos ⟨rfl, rfl⟩]; unfold dutS; dsimp only; rw [decD_dS]; rfl
theorem duties_later (g : GSem nD τ sig) : ∀ r, 1 ≤ r → (Rd (F := F) I).duties g r = ∅ :=
  fun r hr => by dsimp only [Rd]; exact if_neg fun h => by omega
theorem amount_bar (d : Bool) : (Rd (F := F) I).amount (barCell c) 0 d = 1 := rfl
theorem amount_d (d : Bool) : (Rd (F := F) I).amount (dcell c k i) 0 d = N := rfl
theorem expect_bar : (Rd (F := F) I).expect (barCell c) 0 = 2 := by
  unfold Schedule.expect Schedule.amountOf
  rw [duties_bar, Finset.sum_congr rfl fun d _ => amount_bar I c d, Finset.sum_const, Finset.card_univ, Fintype.card_bool, smul_eq_mul]
theorem expect_d : (Rd (F := F) I).expect (dcell c k i) 0 = N := by
  unfold Schedule.expect Schedule.amountOf; rw [duties_d, Finset.sum_singleton, amount_d]
theorem payload_bar (d : Bool) : (Rd (F := F) I).payload (barCell c) 0 d = payB c d := by
  dsimp only [Rd]; unfold payS; dsimp only; exact if_pos rfl
theorem payload_d (d : Bool) : (Rd (F := F) I).payload (dcell c k i) 0 d = payT I k i c := by
  dsimp only [Rd]; unfold payS; dsimp only; rw [decD_dS]; rfl
theorem rest_bar : bigSep ((Rd (F := F) I).duties (barCell c) 0 \ ∅) (fun d => (Rd (F := F) I).payload (barCell c) 0 d)
    = iprop(handL (sh 7 c) ∗ handR (sh 1 c)) := by
  rw [Finset.sdiff_empty, duties_bar, bigSep_univ_eq_bigSepL [false, true] (by decide) (by decide), bigSepL_cons_cons, bigSepL_singleton,
    payload_bar, payload_bar]
  rfl
theorem rest_d : bigSep ((Rd (F := F) I).duties (dcell c k i) 0 \ ∅) (fun d => (Rd (F := F) I).payload (dcell c k i) 0 d)
    = payT I k i c := by
  rw [Finset.sdiff_empty, duties_d, bigSep_singleton, payload_d]
end Sched

/-! ## What a device owes; the levels -/

/-- The receive credits a device still owes for a list of transfers (kind of the receive cell, transfer). -/
def oweL (c : Dev nD) : List (Fin 4 × Fin 7) → CellTallies nD τ sig Unit
  | [] => 0
  | x :: l => oweL c l + tallyAt (dcell (nbr x.2 c) x.1 x.2) () N

/-- All transfers, in the order they are started. -/
def allX : List (Fin 4 × Fin 7) :=
  [(1, 0), (1, 4), (1, 1), (1, 5), (1, 2), (1, 6), (1, 3), (3, 0), (3, 4), (3, 1), (3, 5), (3, 2), (3, 6), (3, 3)]

/-- What a device owes after its first signal, -/
def O₁ (c : Dev nD) : CellTallies nD τ sig Unit := oweL c allX + tallyAt (barCell (sh 1 c)) () 1
/-- and at launch. -/
def O₀ (c : Dev nD) : CellTallies nD τ sig Unit := O₁ c + tallyAt (barCell (sh 7 c)) () 1

def L (g : GSem nD τ sig) : Finset Unit := if g.1.2 = .tc then {()} else ∅
/-- The level of a transfer's semaphore: later steps are higher, the send cells lowest. -/
def lvk (k : Fin 4) (i : Fin 7) : ℕ := if k = 1 then 2 + i.val % 4 else if k = 3 then 6 + i.val % 4 else 0
def lvS : SemLoc sig → ℕ
  | .reg _ => 1
  | .dma q => match decD q with | some ki => lvk ki.1 ki.2 | none => 0
def lv (g : GSem nD τ sig) (_ : Unit) : ℕ := lvS g.2

theorem L_of_ne (g : GSem nD τ sig) (h : g.1.2 ≠ .tc) : L g = ∅ := if_neg h
theorem L_tc (c : Dev nD) (sm : SemLoc sig) : L ((c : Thread nD τ), sm) = {()} := if_pos rfl
theorem lv_d (c : Dev nD) (k : Fin 4) (i : Fin 7) (u : Unit) : lv (dcell c k i) u = lvk k i := by
  unfold lv lvS; dsimp only; rw [decD_dS]

theorem oweL_pos {c : Dev nD} {l : List (Fin 4 × Fin 7)} {g : GSem nD τ sig} {u : Unit} (h : 0 < oweL c l g u) :
    ∃ x ∈ l, g = dcell (nbr x.2 c) x.1 x.2 := by
  induction l with
  | nil => exact absurd h (Nat.lt_irrefl 0)
  | cons x l ih =>
    unfold oweL at h
    rw [Pi.add_apply, Finsupp.add_apply, tallyAt_apply] at h
    by_cases hg : g = dcell (nbr x.2 c) x.1 x.2 ∧ u = ()
    · exact ⟨x, List.mem_cons_self, hg.1⟩
    · rw [if_neg hg, Nat.add_zero] at h
      obtain ⟨y, hy, e⟩ := ih h
      exact ⟨y, List.mem_cons_of_mem _ hy, e⟩

/-- A device may wait on a semaphore below every transfer it still owes. -/
theorem mayWait_oweL (c : Dev nD) (sm : SemLoc sig) (l : List (Fin 4 × Fin 7)) (hl : ∀ x ∈ l, lvS sm < lvk x.1 x.2) :
    (levAts L lv : sProp 𝕄) ⊢ MayWait (c : Thread nD τ) sm () (oweL c l) :=
  MayOwe.of_cut (L := L) (lev := lv) (lvS sm) (fun p hp => by rw [Finset.mem_singleton.mp hp, L_tc]; exact Finset.mem_singleton_self _)
    (fun g u hg => by obtain ⟨x, -, rfl⟩ := oweL_pos hg; exact Finset.mem_singleton_self _)
    (fun p hp => by rw [Finset.mem_singleton.mp hp]; exact le_refl _)
    (fun g u hg => by obtain ⟨x, hx, rfl⟩ := oweL_pos hg; rw [lv_d]; exact hl x hx)

theorem O₀_pos {c : Dev nD} {g : GSem nD τ sig} {u : Unit} (h : 0 < O₀ c g u) :
    (∃ x ∈ allX, g = dcell (nbr x.2 c) x.1 x.2) ∨ g = barCell (sh 1 c) ∨ g = barCell (sh 7 c) := by
  unfold O₀ O₁ at h
  rw [Pi.add_apply, Finsupp.add_apply, Pi.add_apply, Finsupp.add_apply, tallyAt_apply, tallyAt_apply] at h
  by_contra hn
  rw [not_or, not_or] at hn
  rw [if_neg (fun h' => hn.2.1 h'.1), if_neg (fun h' => hn.2.2 h'.1)] at h
  simp only [Nat.add_zero] at h
  exact hn.1 (oweL_pos h)

/-- The staging waits come before everything owed. -/
theorem mayWait_stage (c : Dev nD) (q : DmaSem sig) (hq : decD q = none) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨x, -, rfl⟩ | rfl | rfl <;> exact Finset.mem_singleton_self _)
      (fun p hp => by rw [Finset.mem_singleton.mp hp]; unfold lv lvS; dsimp only; rw [hq])
      (fun g u hg => by
        rcases O₀_pos hg with ⟨x, hx, rfl⟩ | rfl | rfl
        · rw [lv_d]; exact (by decide : ∀ x ∈ allX, 0 < lvk x.1 x.2) x hx
        · exact Nat.one_pos
        · exact Nat.one_pos)
  · rw [MayWait_zero]; iintro -; iempintro

/-! ## The shared facts and each device's part -/

/-- Every cell's invariant and that it has reached round 0. -/
def records (K : Dev nD × Option (Fin 4 × Fin 7) → ℕ) : sProp 𝕄 :=
  iprop((bigSep Finset.univ fun cj : Dev nD × Option (Fin 4 × Fin 7) => cellInv ER (Rd I) (K cj) (kcell cj))
    ∗ bigSep Finset.univ fun cj : Dev nD × Option (Fin 4 × Fin 7) => reached ER (kcell cj) 0)
instance records_persistent (K : Dev nD × Option (Fin 4 × Fin 7) → ℕ) : BI.Persistent (records (F := F) I K) := by unfold records; infer_instance

theorem inv_at (K : Dev nD × Option (Fin 4 × Fin 7) → ℕ) (cj : Dev nD × Option (Fin 4 × Fin 7)) :
    (records I K : sProp 𝕄) ⊢ cellInv ER (Rd I) (K cj) (kcell cj) := by
  unfold records; iintro ⟨H, -⟩; iapply (show (bigSep Finset.univ fun cj : Dev nD × Option (Fin 4 × Fin 7) => (cellInv ER (Rd I) (K cj) (kcell cj) : sProp 𝕄)) ⊢ _ from bigSep_elim (Finset.mem_univ cj)); iexact H
theorem reached_at (K : Dev nD × Option (Fin 4 × Fin 7) → ℕ) (cj : Dev nD × Option (Fin 4 × Fin 7)) :
    (records I K : sProp 𝕄) ⊢ reached ER (kcell cj) 0 := by
  unfold records; iintro ⟨-, H⟩; iapply (show (bigSep Finset.univ fun cj : Dev nD × Option (Fin 4 × Fin 7) => (reached ER (kcell cj) 0 : sProp 𝕄)) ⊢ _ from bigSep_elim (Finset.mem_univ cj)); iexact H

/-- What device `c` needs to start a transfer: the tokens of its send cell and the neighbour's receive cell, and its
    place at the send cell. `k` is the send cell's kind, `k'` the receive cell's. -/
def TS (k k' : Fin 4) (i : Fin 7) (c : Dev nD) : sProp 𝕄 :=
  iprop(dutyTok ER (dcell c k i) 0 false ∗ dutyTok ER (dcell (nbr i c) k' i) 0 false ∗ atPos ER (dcell c k i) 0 ∅ 0)
/-- What device `c` needs to wait on a transfer's cell. -/
def WT (k : Fin 4) (i : Fin 7) (c : Dev nD) : sProp 𝕄 :=
  iprop(atPos ER (dcell c k i) 0 ∅ 0 ∗ cred (tallyAt (dcell c k i) () N))
/-- What device `c` owes. -/
def ow (c : Dev nD) (l : List (Fin 4 × Fin 7)) : sProp 𝕄 := iprop(∃ W, owes (c : Thread nD τ) (oweL c l) W)

end Cert.Proof

end
-- ==== Proof.Steps.lean ====
/- The body's protocol steps: a signal to a neighbour, the barrier wait, starting a transfer, waiting on one. -/
module

public import proofs.«01_k».proof.Proof.Schedule

@[expose] public section

noncomputable section

namespace Cert.Proof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

/-- Running a program on device `c` ends in `Q`. -/
def WP {α : Type} (c : Dev nD) (p : PG F α) (Q : α → sProp 𝕄) : sProp 𝕄 :=
  wp frame (wpE (defs₀ (F := F)) 𝒱₀ (c : Thread nD τ) none) Set.univ p Q

theorem WP_bind {α β : Type} (c : Dev nD) (p : PG F α) (k : α → PG F β) (Q : β → sProp 𝕄) :
    WP c (p >>= k) Q = WP c p (fun x => WP c (k x) Q) := by
  unfold WP; rw [wp_bind]
theorem WP_pure {α : Type} (c : Dev nD) (a : α) (Q : α → sProp 𝕄) : Q a ⊢ WP c (pure a) Q := by
  unfold WP; rw [Prog.pure_eq_ret, wp_ret]; iintro H; imodintro; iexact H
theorem WP_ret {α : Type} (c : Dev nD) (a : α) (Q : α → sProp 𝕄) : Q a ⊢ WP c (Prog.ret a) Q := by
  unfold WP; rw [wp_ret]; iintro H; imodintro; iexact H

variable (I : Inp F) (K : Dev nD × Option (Fin 4 × Fin 7) → ℕ) (c : Dev nD)

/-! ## Plain accesses -/

theorem WP_load {cs : CoreSpace} {s : Shape} {e : EltTy} {m : Memref sig .tc cs s e} {r : LoadRect s} {hl : m.view.LoadsAt r}
    {S : Finset (Idx (m.view.loc (c : Thread nD τ)))} {q : PosShare TreeShare} {f : Buf (Elt F) (m.view.loc (c : Thread nD τ))}
    {Q : (r.shape.Idx → Elt F e) → sProp 𝕄} (hS : m.view.setOn r.set ⊆ S) :
    (m.view.loc (c : Thread nD τ) ↦[S]{q} f)
      ⊢ iprop(((m.view.loc (c : Thread nD τ) ↦[S]{q} f) -∗ Q (m.view.readAt (Elt F) r f)) -∗ WP c (Prog.lift (.load m r hl)) Q) := by
  iintro H Hk
  unfold WP Prog.lift
  iapply (wp_load 𝒱₀ (c : Thread nD τ) none Set.univ (m := m) hS) $$ H
  iintro H
  rw [wp_ret]; imodintro
  iapply Hk; iexact H

theorem WP_store {cs : CoreSpace} {s : Shape} {e : EltTy} {m : Memref sig .tc cs s e} {r : Rect s} {w : r.shape.Idx → Elt F e}
    {hx : (m.access r).Stores Finset.univ} {hm : (Finset.univ : Finset r.shape.Idx) = Finset.univ ∨ ∀ a, r.stride a = 1}
    {S : Finset (Idx ((m.access r).loc (c : Thread nD τ)))} {f : Buf (Elt F) ((m.access r).loc (c : Thread nD τ))}
    {Q : PUnit → sProp 𝕄} (hS : (m.access r).set ⊆ S) :
    ((m.access r).loc (c : Thread nD τ) ↦[S]{fullShare} f)
      ⊢ iprop((((m.access r).loc (c : Thread nD τ) ↦[S]{fullShare} ((m.access r).write (Elt F) f w Finset.univ)) -∗ Q ⟨⟩)
          -∗ WP c (Prog.lift (.store m r w Finset.univ hx hm)) Q) := by
  iintro H Hk
  unfold WP Prog.lift
  iapply (wp_store 𝒱₀ (c : Thread nD τ) none Set.univ (m := m) (r := r) (Mk := Finset.univ) (by rw [View.setOn_univ]; exact hS)) $$ H
  iintro H
  rw [wp_ret]; imodintro
  iapply Hk; iexact H

theorem WP_deviceId {Q : Dev nD → sProp 𝕄} : Q c ⊢ WP (F := F) c (Prog.lift .deviceId) Q := by
  unfold WP; simp only [Prog.lift, wp_deviceId]
  iintro H; rw [wp_ret]; imodintro; iexact H

/-! ## The barrier -/

/-- A signal to a neighbour's barrier cell hands over its payload. -/
theorem WP_barSig (n d : Dev nD) (hd : d = n) (b : Bool) (O : CellTallies nD τ sig Unit) {Q : PUnit → sProp 𝕄} (W : Waits sig Unit) :
    iprop(records I K ∗ owes (c : Thread nD τ) (O + tallyAt (barCell n) () 1) W ∗ dutyTok ER (barCell n) 0 b ∗ payB n b)
      ⊢ iprop((owes (c : Thread nD τ) O W -∗ Q ⟨⟩) -∗ WP (F := F) c (semSignalWord d barS 1#32) Q) := by
  subst hd
  iintro ⟨#HR, HO, Ht, Hp⟩ Hk
  unfold WP
  simp only [semSignalWord, Prog.lift]
  iapply (Rounds.wp_signal 𝒱₀ ER (Rd I) (c : Thread nD τ) none (dst := (d : Thread nD τ)) (κ := K (d, none))
      (by rw [duties_bar]; exact Finset.mem_univ b) ((amount_bar I d b).trans (by decide)) () O rfl) $$ [HO Ht Hp]
  · isplitr; · iapply (inv_at I K (d, none)); iexact HR
    isplitl [HO]; · iexact HO
    isplitl [Ht]; · iexact Ht
    isplitl [Hp]; · rw [payload_bar]; iexact Hp
    iapply (reached_at I K (d, none)); iexact HR
  iintro HO
  rw [wp_ret]; imodintro
  iapply Hk; iexact HO

/-- The wait on the own barrier cell yields both neighbours' slots. -/
theorem WP_barWait (l : List (Fin 4 × Fin 7)) (hl : ∀ x ∈ l, 1 < lvk x.1 x.2) {Q : PUnit → sProp 𝕄} (W : Waits sig Unit) :
    iprop(records I K ∗ levAts L lv ∗ owes (c : Thread nD τ) (oweL c l) W ∗ cred (tallyAt (barCell c) () 2) ∗ atPos ER (barCell c) 0 ∅ 0)
      ⊢ iprop((ow c l ∗ handL (sh 7 c) ∗ handR (sh 1 c) ∗ semVal (barCell c) 0 -∗ Q ⟨⟩) -∗ WP (F := F) c (semWaitWord barS 2#32) Q) := by
  iintro ⟨#HR, #Hlev, HO, Hc, Ha⟩ Hk
  unfold WP
  simp only [semWaitWord, Prog.lift]
  iapply (Rounds.wp_wait_rest_token 𝒱₀ ER (Rd I) (c : Thread nD τ) none (κ := K (c, none))
      (wpE_semWait_eq 𝒱₀ (c : Thread nD τ) none Set.univ) (Set.mem_univ _) () (O := oweL c l) (W := W) (R := 0) (m := 0) (T := ∅)
      (by rw [expect_bar]; decide)) $$ [Hc HO Ha]
  · isplitr; · iapply (inv_at I K (c, none)); iexact HR
    isplitl [Hc]; · iexact Hc
    isplitl [HO]; · iexact HO
    isplitr; · iapply (mayWait_oweL (F := F) c (.reg barS) l hl); iexact Hlev
    iexact Ha
  iintro ⟨HO, Ha, -, Hpay⟩
  ihave Hp := (Entails.of_eq (rest_bar I c)) $$ Hpay
  icases Hp with ⟨H7, H1⟩
  imod (Rounds.cell_close ER (Rd I) (Set.mem_univ (K (c, none))) (fun h => h) (R := 0 + 1) (duties_later I (barCell c))) $$ [Ha] with Hz
  · isplitr; · iapply (inv_at I K (c, none)); iexact HR
    iexact Ha
  rw [wp_ret]; imodintro
  iapply Hk
  isplitl [HO]; · unfold ow; iexists _; iexact HO
  isplitl [H7]; · iexact H7
  isplitl [H1]; · iexact H1
  iexact Hz

/-! ## Waiting on a transfer's cell -/

/-- The wait on a transfer's cell yields its payload, and the counter ends at zero. -/
theorem WP_wait (k : Fin 4) (i : Fin 7) (l : List (Fin 4 × Fin 7)) (hl : ∀ x ∈ l, lvk k i < lvk x.1 x.2)
    {s : DmaSem sig} (hs : s = dS k i) {a b : Memref sig .tc .vmem S2x128x512 .bf16} {ha : a.view.WordExact} {hb : b.view.WordExact}
    (hN : b.view.dmaCredit = N) {Q : PUnit → sProp 𝕄} :
    iprop(records I K ∗ levAts L lv ∗ ow c l ∗ WT k i c)
      ⊢ iprop((ow c l ∗ payT I k i c ∗ semVal (dcell c k i) 0 -∗ Q ⟨⟩) -∗ WP (F := F) c (Prog.lift (.waitDma2 s a b ha hb)) Q) := by
  subst hs
  iintro ⟨#HR, #Hlev, HO, HW⟩ Hk
  unfold WT ow
  icases HW with ⟨Ha, Hc⟩
  icases HO with ⟨%W, HO⟩
  unfold WP
  simp only [Prog.lift]
  iapply (Rounds.wp_wait_rest_token 𝒱₀ ER (Rd I) (c : Thread nD τ) none (κ := K (c, some (k, i)))
      (wpE_waitDma2_eq 𝒱₀ (c : Thread nD τ) none Set.univ) (Set.mem_univ _) () (O := oweL c l) (W := W) (R := 0) (m := 0) (T := ∅)
      (by rw [Nat.zero_add, expect_d, hN])) $$ [Hc HO Ha]
  · isplitr; · iapply (inv_at I K (c, some (k, i))); iexact HR
    isplitl [Hc]; · rw [hN]; iexact Hc
    isplitl [HO]; · iexact HO
    isplitr
    · iapply (mayWait_oweL (F := F) c (.dma (dS k i)) l (fun x hx => by have := hl x hx; unfold lvS; dsimp only; rw [decD_dS]; exact this)); iexact Hlev
    iexact Ha
  iintro ⟨HO, Ha, -, Hpay⟩
  ihave Hp := (Entails.of_eq (rest_d I c k i)) $$ Hpay
  imod (Rounds.cell_close ER (Rd I) (Set.mem_univ (K (c, some (k, i)))) (fun h => h) (R := 0 + 1) (duties_later I (dcell c k i))) $$ [Ha] with Hz
  · isplitr; · iapply (inv_at I K (c, some (k, i))); iexact HR
    iexact Ha
  rw [wp_ret]; imodintro
  iapply Hk
  isplitl [HO]; · iexists _; iexact HO
  isplitl [Hp]; · iexact Hp
  iexact Hz

/-! ## Starting a transfer -/

/-- Starting transfer `i` with send cell of kind `k` and receive cell of kind `k'`, from a source that makes the send
    cell's payload into a slot that, written, makes the receive cell's. -/
theorem WP_send (k k' : Fin 4) (i : Fin 7) (l : List (Fin 4 × Fin 7)) (d : Dev nD) (hd : d = nbr i c)
    {src dst : Memref sig .tc .vmem S2x128x512 .bf16} {s₁ s₂ : DmaSem sig} (h₁ : s₁ = dS k i) (h₂ : s₂ = dS k' i)
    {hs : src.view.WordExact} {hdw : dst.view.WordExact} (hN : dst.view.dmaCredit = N)
    {q : PosShare TreeShare} {fs : Buf (Elt F) (src.view.loc (c : Thread nD τ))} {fd : Buf (Elt F) (dst.view.loc (nbr i c : Thread nD τ))}
    {hsc : dst.view.ref.isScScratch = false} {hsem : DmaTarget.Typed .vmem (.dma s₂) (.remote (Dev.tc d : Thread nD τ) dst (.dma s₁) hsc)}
    (hpay₁ : (src.view.loc (c : Thread nD τ) ↦[src.view.set]{q} fs) ⊢ (payT I k i c : sProp 𝕄))
    (hpay₂ : (dst.view.loc (nbr i c : Thread nD τ) ↦[dst.view.set]{fullShare} (dst.view.write (Elt F) fd (src.view.read (Elt F) fs) Finset.univ))
      ⊢ (payT I k' i (nbr i c) : sProp 𝕄)) {Q : PUnit → sProp 𝕄} :
    iprop(records I K ∗ ow c ((k', i) :: l) ∗ TS k k' i c ∗ (src.view.loc (c : Thread nD τ) ↦[src.view.set]{q} fs)
        ∗ (dst.view.loc (nbr i c : Thread nD τ) ↦[dst.view.set]{fullShare} fd))
      ⊢ iprop((ow c l ∗ WT k i c -∗ Q ⟨⟩)
          -∗ WP (F := F) c (Prog.lift (.enqueueDma src (.remote (Dev.tc d : Thread nD τ) dst (.dma s₁) hsc) (.dma s₂) hs hdw hsem)) Q) := by
  subst hd h₁ h₂
  iintro ⟨#HR, HO, HT, Hs, Hd⟩ Hk
  unfold TS ow WT
  icases HT with ⟨Ht₁, Ht₂, Ha⟩
  icases HO with ⟨%W, HO⟩
  unfold WP
  simp only [Prog.lift]
  iapply (Rounds.wp_send_pointsTo 𝒱₀ ER (Rd I) (c : Thread nD τ) none (κ₁ := K (c, some (k, i))) (κ₂ := K (nbr i c, some (k', i)))
      (r₁ := 0) (r₂ := 0) (d₁ := false) (d₂ := false) (fd := fd)
      (by rw [duties_d]; exact Finset.mem_singleton_self _) (by rw [duties_d]; exact Finset.mem_singleton_self _)
      () () N (show dst.view.amount (.dma (dS k' i)) = N from hN) (amount_d I c k i false) (amount_d I (nbr i c) k' i false) (oweL c l) rfl (W := W)
      (by rw [payload_d]; exact hpay₁) (by rw [payload_d]; exact hpay₂)) $$ [Hs Hd HO Ht₁ Ht₂]
  · isplitr; · iapply (inv_at I K (c, some (k, i))); iexact HR
    isplitr; · iapply (inv_at I K (nbr i c, some (k', i))); iexact HR
    isplitl [Hs]; · iexact Hs
    isplitl [Hd]; · iexact Hd
    isplitl [HO]; · iexact HO
    isplitl [Ht₁]; · iexact Ht₁
    isplitr; · iapply (reached_at I K (c, some (k, i))); iexact HR
    isplitl [Ht₂]; · iexact Ht₂
    iapply (reached_at I K (nbr i c, some (k', i))); iexact HR
  iintro ⟨Hc, HO⟩
  rw [wp_ret]; imodintro
  iapply Hk
  isplitl [HO]; · iexists W; iexact HO
  isplitl [Ha]; · iexact Ha
  iexact Hc

theorem nbr_r (i : Fin 7) (c : Dev nD) (h : i.val < 4) : nbr i c = sh 1 c := by revert i c; decide
theorem nbr_l (i : Fin 7) (c : Dev nD) (h : ¬ i.val < 4) : nbr i c = sh 7 c := by revert i c; decide

/-- Starting a gathering transfer. -/
theorem WP_agSend (i : Fin 7) (l : List (Fin 4 × Fin 7)) (d : Dev nD) (hd : d = nbr i c)
    {ii : Fin 1 → ℕ} {hi : ∀ a, ii a + S1.size a ≤ S7.size a} (h₁ : semAt cc0_scratch9 ii hi = dS 0 i) (h₂ : semAt cc0_scratch10 ii hi = dS 1 i)
    {o : Fin 4 → ℕ} (h) (w) (ho : o = ![(agk i c).val, 0, 0, 0]) {Q : PUnit → sProp 𝕄} :
    iprop(records I K ∗ ow c ((1, i) :: l) ∗ TS 0 1 i c ∗ xPts c (agk i c) (agq i) (XG I) ∗ (∃ f, xPts (nbr i c) (agk i c) fullShare f))
      ⊢ iprop((ow c l ∗ WT 0 i c -∗ Q ⟨⟩) -∗ WP (F := F) c (agSend ii hi d (o := o) h w) Q) := by
  subst ho
  iintro ⟨#HR, HO, HT, Hs, ⟨%f, Hd⟩⟩ Hk
  iapply (WP_send I K c 0 1 i l d hd h₁ h₂ (src := xSlot ![(agk i c).val, 0, 0, 0] h) (dst := xSlot ![(agk i c).val, 0, 0, 0] h)
    (q := agq i) (fs := XG I) (fd := f) rfl
    (by rw [xSlot_set]; exact BI.Entails.refl _)
    (by
      rw [xSlot_set]
      show _ ⊢ xPts (nbr i c) (rsl i (nbr i c)) fullShare (XG I)
      rw [rsl_nbr]; unfold xPts
      exact Entails.of_eq (pointsTo_congr fun j hj => xSlot_copy (agk i c) f (XG I) hj))) $$ [HO HT Hs Hd]
  · isplitr; · iexact HR
    isplitl [HO]; · iexact HO
    isplitl [HT]; · iexact HT
    rw [xSlot_set]; unfold xPts
    isplitl [Hs]; · iexact Hs
    iexact Hd
  iexact Hk

/-- Starting a scattering transfer to the right. -/
theorem WP_rSend (i : Fin 7) (s : Fin 4) (his : i.val = s.val) (l : List (Fin 4 × Fin 7)) (d : Dev nD) (hd : d = nbr i c)
    {ii : Fin 1 → ℕ} {hi : ∀ a, ii a + S1.size a ≤ S7.size a} (h₁ : semAt cc0_scratch11 ii hi = dS 2 i) (h₂ : semAt cc0_scratch12 ii hi = dS 3 i)
    {o o' : Fin 4 → ℕ} (h) (w) (h') (w') (ho : o = ![s.val, 0, 0, 0]) (ho' : o' = ![i.val, 0, 0, 0]) {Q : PUnit → sProp 𝕄} :
    iprop(records I K ∗ ow c ((3, i) :: l) ∗ TS 2 3 i c ∗ rPts c s (SBR I c) ∗ (∃ f, cPts (nbr i c) i f))
      ⊢ iprop((ow c l ∗ WT 2 i c -∗ Q ⟨⟩) -∗ WP (F := F) c (rSend ii hi d (o := o) (o' := o') h w h' w') Q) := by
  subst ho ho'
  have hs4 : i.val < 4 := by have := s.isLt; omega
  have hn : nbr i c = sh 1 c := nbr_r i c hs4
  have hsi : (⟨i.val, hs4⟩ : Fin 4) = s := Fin.ext his
  iintro ⟨#HR, HO, HT, Hs, ⟨%f, Hd⟩⟩ Hk
  iapply (WP_send I K c 2 3 i l d hd h₁ h₂ (src := rSlot ![s.val, 0, 0, 0] h) (dst := cSlot ![i.val, 0, 0, 0] h')
    (q := fullShare) (fs := SBR I c) (fd := f) rfl
    (by rw [rSlot_set]; show _ ⊢ sPts I c i; unfold sPts; rw [dif_pos hs4, hsi]; exact BI.Entails.refl _)
    (by
      rw [cSlot_set]
      show _ ⊢ cPts (nbr i c) i (RSC I (nbr i c))
      unfold cPts
      rw [hn]
      exact Entails.of_eq (pointsTo_congr fun j hj => rSlot_copy I c s i his f hj))) $$ [HO HT Hs Hd]
  · isplitr; · iexact HR
    isplitl [HO]; · iexact HO
    isplitl [HT]; · iexact HT
    rw [rSlot_set, cSlot_set]; unfold rPts cPts
    isplitl [Hs]; · iexact Hs
    iexact Hd
  iexact Hk

/-- Starting a scattering transfer to the left. -/
theorem WP_lSend (i : Fin 7) (s : Fin 3) (his : i.val = 4 + s.val) (l : List (Fin 4 × Fin 7)) (d : Dev nD) (hd : d = nbr i c)
    {ii : Fin 1 → ℕ} {hi : ∀ a, ii a + S1.size a ≤ S7.size a} (h₁ : semAt cc0_scratch11 ii hi = dS 2 i) (h₂ : semAt cc0_scratch12 ii hi = dS 3 i)
    {o o' : Fin 4 → ℕ} (h) (w) (h') (w') (ho : o = ![s.val, 0, 0, 0]) (ho' : o' = ![i.val, 0, 0, 0]) {Q : PUnit → sProp 𝕄} :
    iprop(records I K ∗ ow c ((3, i) :: l) ∗ TS 2 3 i c ∗ lPts c s (SBL I c) ∗ (∃ f, cPts (nbr i c) i f))
      ⊢ iprop((ow c l ∗ WT 2 i c -∗ Q ⟨⟩) -∗ WP (F := F) c (lSend ii hi d (o := o) (o' := o') h w h' w') Q) := by
  subst ho ho'
  have hs4 : ¬ i.val < 4 := by omega
  have hn : nbr i c = sh 7 c := nbr_l i c hs4
  have hsi : (⟨i.val - 4, by have := i.isLt; omega⟩ : Fin 3) = s := Fin.ext (by simp only; omega)
  iintro ⟨#HR, HO, HT, Hs, ⟨%f, Hd⟩⟩ Hk
  iapply (WP_send I K c 2 3 i l d hd h₁ h₂ (src := lSlot ![s.val, 0, 0, 0] h) (dst := cSlot ![i.val, 0, 0, 0] h')
    (q := fullShare) (fs := SBL I c) (fd := f) rfl
    (by rw [lSlot_set]; show _ ⊢ sPts I c i; unfold sPts; rw [dif_neg hs4, hsi]; exact BI.Entails.refl _)
    (by
      rw [cSlot_set]
      show _ ⊢ cPts (nbr i c) i (RSC I (nbr i c))
      unfold cPts
      rw [hn]
      exact Entails.of_eq (pointsTo_congr fun j hj => lSlot_copy I c s i his f hj))) $$ [HO HT Hs Hd]
  · isplitr; · iexact HR
    isplitl [HO]; · iexact HO
    isplitl [HT]; · iexact HT
    rw [lSlot_set, cSlot_set]; unfold lPts cPts
    isplitl [Hs]; · iexact Hs
    iexact Hd
  iexact Hk

end Cert.Proof

end
-- ==== Proof.Pieces.lean ====
/- The body's computing steps: the start, the q, k, v rows of one chunk, the attention of one chunk, the partial sums. -/
module

public import proofs.«01_k».proof.Proof.Steps

@[expose] public section

noncomputable section

namespace Cert.Proof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (I : Inp F) (c : Dev nD)

/-- Loading a rectangle inside the owned elements. -/
theorem WP_loadR {cs : CoreSpace} {s : Shape} {e : EltTy} (m : Memref sig .tc cs s e) {r : Rect s} {hl : m.view.LoadsAt r.toLoadRect}
    (S : Finset (Idx (m.view.loc (c : Thread nD τ)))) {q : PosShare TreeShare} {f : Buf (Elt F) (m.view.loc (c : Thread nD τ))}
    {Q : (r.shape.Idx → Elt F e) → sProp 𝕄} (hS : (m.access r).set ⊆ S) :
    (m.view.loc (c : Thread nD τ) ↦[S]{q} f)
      ⊢ iprop(((m.view.loc (c : Thread nD τ) ↦[S]{q} f) -∗ Q (m.view.readAt (Elt F) r.toLoadRect f)) -∗ WP c (Prog.lift (.load m r.toLoadRect hl)) Q) :=
  WP_load c ((View.set_slice m.view r).symm.subset.trans hS)

/-- Loading from a buffer owned whole. -/
theorem WP_loadW {cs : CoreSpace} {s : Shape} {e : EltTy} (m : Memref sig .tc cs s e) {r : LoadRect s} {hl : m.view.LoadsAt r}
    {q : PosShare TreeShare} {f : Buf (Elt F) (m.view.loc (c : Thread nD τ))}
    {Q : (r.shape.Idx → Elt F e) → sProp 𝕄} :
    (m.view.loc (c : Thread nD τ) ↦{q} f)
      ⊢ iprop(((m.view.loc (c : Thread nD τ) ↦{q} f) -∗ Q (m.view.readAt (Elt F) r f)) -∗ WP c (Prog.lift (.load m r hl)) Q) :=
  WP_load c (Finset.subset_univ _)

/-- Storing a rectangle inside the owned elements. -/
theorem WP_storeR {cs : CoreSpace} {s : Shape} {e : EltTy} (m : Memref sig .tc cs s e) {r : Rect s} {w : r.shape.Idx → Elt F e}
    {hx : (m.access r).Stores Finset.univ} {hm : (Finset.univ : Finset r.shape.Idx) = Finset.univ ∨ ∀ a, r.stride a = 1}
    (S : Finset (Idx (m.view.loc (c : Thread nD τ)))) {f : Buf (Elt F) (m.view.loc (c : Thread nD τ))}
    {Q : PUnit → sProp 𝕄} (hS : (m.access r).set ⊆ S) :
    (m.view.loc (c : Thread nD τ) ↦[S]{fullShare} f)
      ⊢ iprop(((m.view.loc (c : Thread nD τ) ↦[S]{fullShare} ((m.access r).write (Elt F) f w Finset.univ)) -∗ Q ⟨⟩)
          -∗ WP c (Prog.lift (.store m r w Finset.univ hx hm)) Q) :=
  WP_store (m := m) (r := r) (w := w) (hx := hx) (hm := hm) (S := S) (f := f) c hS

/-- Storing into a buffer owned whole. -/
theorem WP_storeW {cs : CoreSpace} {s : Shape} {e : EltTy} (m : Memref sig .tc cs s e) {r : Rect s} {w : r.shape.Idx → Elt F e}
    {hx : (m.access r).Stores Finset.univ} {hm : (Finset.univ : Finset r.shape.Idx) = Finset.univ ∨ ∀ a, r.stride a = 1}
    {f : Buf (Elt F) (m.view.loc (c : Thread nD τ))} {Q : PUnit → sProp 𝕄} :
    (m.view.loc (c : Thread nD τ) ↦{fullShare} f)
      ⊢ iprop(((m.view.loc (c : Thread nD τ) ↦{fullShare} ((m.access r).write (Elt F) f w Finset.univ)) -∗ Q ⟨⟩)
          -∗ WP c (Prog.lift (.store m r w Finset.univ hx hm)) Q) :=
  WP_storeR c m _ (Finset.subset_univ _)

/-- A rectangle loaded and then stored: the new contents satisfy what the store gives. -/
theorem WP_put {cs : CoreSpace} {s : Shape} {e : EltTy} (m : Memref sig .tc cs s e) {r : Rect s} {w : r.shape.Idx → Elt F e}
    {hl : m.view.LoadsAt r.toLoadRect}
    {hx : (m.access r).Stores Finset.univ} {hm : (Finset.univ : Finset r.shape.Idx) = Finset.univ ∨ ∀ a, r.stride a = 1}
    (S : Finset (Idx (m.view.loc (c : Thread nD τ)))) (f : Buf (Elt F) (m.view.loc (c : Thread nD τ)))
    (P : Buf (Elt F) (m.view.loc (c : Thread nD τ)) → Prop)
    {Q : PUnit → sProp 𝕄} (hS : (m.access r).set ⊆ S) (hP : P ((m.access r).write (Elt F) f w Finset.univ)) :
    (m.view.loc (c : Thread nD τ) ↦[S]{fullShare} f)
      ⊢ iprop((iprop(∃ g, ⌜P g⌝ ∗ (m.view.loc (c : Thread nD τ) ↦[S]{fullShare} g)) -∗ Q ⟨⟩)
          -∗ WP c ((Prog.lift (.load m r.toLoadRect hl) : PG F _) >>= fun _ => Prog.lift (.store m r w Finset.univ hx hm)) Q) := by
  iintro H Hk
  rw [WP_bind]
  iapply (WP_loadR (F := F) c m S hS) $$ H; iintro H
  iapply (WP_storeR (F := F) c m S hS) $$ H; iintro H
  iapply Hk
  iexists _
  isplitr
  rotate_left
  · iexact H
  · ipureintro; exact hP

/-- The whole of one of device `c`'s buffers. -/
abbrev whole (b : Ref sig .tc) (f : b.ty.Contents (Elt F)) : sProp 𝕄 :=
  ((c : Thread nD τ).loc b) ↦{fullShare} (f : Buf (Elt F) ((c : Thread nD τ).loc b))

/-- The two angle tables. -/
def angles : sProp 𝕄 := iprop(whole c cc0_scratch4 cosV ∗ whole c cc0_scratch5 sinV)

/-- Chunk `k` of device `c`'s queries, -/
def qPts (k : Dev nD) (f : S2x1024x256.Idx → F .bf16) : sProp 𝕄 :=
  ((c : Thread nD τ).loc cc0_scratch1) ↦[qSet k]{fullShare} (f : Buf (Elt F) ((c : Thread nD τ).loc cc0_scratch1))
/-- of its keys, -/
def kPts (k : Dev nD) (f : S2x1024x256.Idx → F .bf16) : sProp 𝕄 :=
  ((c : Thread nD τ).loc cc0_scratch2) ↦[qSet k]{fullShare} (f : Buf (Elt F) ((c : Thread nD τ).loc cc0_scratch2))
/-- and of its values. -/
def vPts (k : Dev nD) (f : S2x1024x256.Idx → F .bf16) : sProp 𝕄 :=
  ((c : Thread nD τ).loc cc0_scratch3) ↦[qSet k]{fullShare} (f : Buf (Elt F) ((c : Thread nD τ).loc cc0_scratch3))
/-- The rows of chunk `k` before they are computed, -/
def rows0 (k : Dev nD) : sProp 𝕄 := iprop((∃ f, qPts c k f) ∗ (∃ f, kPts c k f) ∗ (∃ f, vPts c k f))
/-- and after. -/
def rows1 (k : Dev nD) : sProp 𝕄 := iprop(qPts c k (QS I c) ∗ kPts c k (KS I c) ∗ vPts c k (VS I c))

theorem hz2 : (![0, 0] : Fin 2 → ℕ) = fun _ => 0 := funext fun a => by fin_cases a <;> rfl
theorem hz3 : (![0, 0, 0] : Fin 3 → ℕ) = fun _ => 0 := funext fun a => by fin_cases a <;> rfl

/-! ## The start -/

theorem WP_wLoad (b : Ref sig .tc) (m : Memref sig .tc .vmem S512x256 .f32) {q : PosShare TreeShare} (f : Buf (Elt F) (m.view.loc (c : Thread nD τ)))
    {Q : Vec F S512x256 .f32 → sProp 𝕄} :
    (m.view.loc (c : Thread nD τ) ↦{q} f)
      ⊢ iprop(((m.view.loc (c : Thread nD τ) ↦{q} f)
          -∗ Q (m.view.readAt (Elt F) (Rect.unit (s := S512x256) ![0, 0] S512x256.size inb_S512x256_S512x256_0_0).toLoadRect f)) -∗ WP c (wLoad m) Q) :=
  WP_load c (Finset.subset_univ _)

/-- What the load of the whole staged activations reads. -/
theorem read_stg0 (f : S2x128x512.Idx → F .f32) {h} :
    (Memref.whole cc0_stg0_0 : Memref sig .tc _ _ _).view.readAt (Elt F) (Rect.unit (s := S2x128x512) ![0, 0, 0] S2x128x512.size h).toLoadRect f = f :=
  Memref.readAt_unit_zero (Elt F) cc0_stg0_0 hz3 _ f

/-- What the store of the whole angle table leaves. -/
theorem write_scr4 (f w : S1024x256.Idx → F .f32) {h} :
    ((Memref.whole cc0_scratch4 : Memref sig .tc _ _ _).access (Rect.unit (s := S1024x256) ![0, 0] S1024x256.size h)).write (Elt F) f w Finset.univ = w :=
  Memref.write_access_unit_zero_univ (Elt F) cc0_scratch4 hz2 _ f w

/-- What the store of the whole angle table leaves. -/
theorem write_scr5 (f w : S1024x256.Idx → F .f32) {h} :
    ((Memref.whole cc0_scratch5 : Memref sig .tc _ _ _).access (Rect.unit (s := S1024x256) ![0, 0] S1024x256.size h)).write (Elt F) f w Finset.univ = w :=
  Memref.write_access_unit_zero_univ (Elt F) cc0_scratch5 hz2 _ f w

/-- The start: the own activations and the angle tables are stored. -/
theorem WP_init {Q : PUnit → sProp 𝕄} :
    iprop(whole c cc0_stg0_0 (I.x c) ∗ (∃ f, xPts c c fullShare f) ∗ (∃ f, whole (F := F) c cc0_scratch4 f) ∗ (∃ f, whole (F := F) c cc0_scratch5 f))
      ⊢ iprop((whole c cc0_stg0_0 (I.x c) ∗ xPts c c fullShare (XG I) ∗ angles (F := F) c -∗ Q ⟨⟩) -∗ WP c (initP c (Memref.whole cc0_stg0_0)) Q) := by
  iintro ⟨Hx, ⟨%f0, Hg⟩, ⟨%f4, Hc⟩, ⟨%f5, Hs⟩⟩ Hk
  have hsub : ((xgM : Memref sig .tc _ _ _).access (Rect.unit (s := S8x2x128x512) (k0_off1 c) S1x2x128x512.size (k0_off1_inb c))).set ⊆ xSet c := by
    intro i hi
    rw [set_access_rect] at hi
    simp only [off1_at] at hi
    exact mem_xSet.mpr (Fin.ext ((mem_slot c.val rfl rfl rfl).mp hi))
  unfold initP xPts angles
  rw [WP_bind]
  iapply (WP_loadW (F := F) c (Memref.whole cc0_stg0_0)) $$ Hx; iintro Hx
  rw [read_stg0]
  rw [WP_bind]
  iapply (WP_loadR (F := F) c xgM (xSet c) hsub) $$ Hg; iintro Hg
  rw [WP_bind]
  iapply (WP_storeR (F := F) c xgM (xSet c) hsub) $$ Hg; iintro Hg
  have hg : ∀ i ∈ xSet c, ((xgM : Memref sig .tc _ _ _).access (Rect.unit (s := S8x2x128x512) (k0_off1 c) S1x2x128x512.size (k0_off1_inb c))).write (Elt F)
      f0 (k0_pay1 (I.x c)) Finset.univ i = XG I i := by
    intro i hi
    refine write_rect_mem (F := F) (b := cc0_scratch0) (Rect.unit (s := S8x2x128x512) (k0_off1 c) S1x2x128x512.size (k0_off1_inb c)) f0 (XG I) (k0_pay1 (I.x c)) _ (fun x => Finset.mem_univ x) ?_ ?_
    · generalize k0_off1_inb c = hh
      revert hh
      rw [off1_at]
      exact fun hh x => XG_emb I c x
    · simp only [off1_at]
      exact (mem_slot c.val rfl rfl rfl).mpr (Fin.ext_iff.mp (mem_xSet.mp hi))
  rw [WP_bind]
  iapply (WP_loadW (F := F) c cosM) $$ Hc; iintro Hc
  rw [WP_bind]
  iapply (WP_storeW (F := F) c cosM) $$ Hc; iintro Hc
  rw [write_scr4]
  rw [WP_bind]
  iapply (WP_loadW (F := F) c sinM) $$ Hs; iintro Hs
  iapply (WP_storeW (F := F) c sinM) $$ Hs; iintro Hs
  rw [write_scr5]
  iapply Hk
  isplitl [Hx]; · iexact Hx
  isplitl [Hg]
  · iapply (Entails.of_eq (pointsTo_congr hg)) $$ Hg
  isplitl [Hc]; · iexact Hc
  iexact Hs

/-! ## The rows of one chunk -/

/-- The rectangle of batch `b` of chunk `k`'s rows lies in the chunk. -/
theorem rows_sub (k : Dev nD) (b : ℕ) {h} : ∀ i ∈ (Rect.unit (s := S2x1024x256) ![b, 128 * k.val, 0] S1x128x256.size h).set, i ∈ qSet k := fun i hi =>
  mem_qSet.mpr ((mem_rows k b).mp hi).2

/-- An element of chunk `k` outside batch 1 is in batch 0. -/
theorem rows_cover (k : Dev nD) {h} {i : S2x1024x256.Idx} (hi : i ∈ qSet k)
    (hn : i ∉ (Rect.unit (s := S2x1024x256) ![1, 128 * k.val, 0] S1x128x256.size h).set) : (i 0).val = 0 := by
  have h0 : (i 0).val < 2 := (i 0).isLt
  by_contra e
  exact hn ((mem_rows k 1).mpr ⟨by omega, mem_qSet.mp hi⟩)

/-- Chunk `k`'s queries with batch 0 stored. -/
def qHalf (k : Dev nD) : sProp 𝕄 := iprop(∃ f, ⌜∀ i ∈ qSet k, (i 0).val = 0 → f i = QS I c i⌝ ∗ qPts c k f)

theorem WP_putq0 (k : Dev nD) {o : Fin 3 → ℕ} (h) (p) (eo : o = ![0, 128 * k.val, 0]) {w : FVec F S1x128x256 .bf16} (hw : w = qC I c k 0) {Q : PUnit → sProp 𝕄} :
    iprop(∃ f, qPts (F := F) c k f) ⊢ iprop((qHalf I c k -∗ Q ⟨⟩) -∗ WP c (putQ qM (Memref.isWhole_whole _) (o := o) h p w) Q) := by
  subst eo hw
  have hsub : ((qM : Memref sig .tc _ _ _).access (Rect.unit (s := S2x1024x256) ![0, 128 * k.val, 0] S1x128x256.size h)).set ⊆ qSet k := by
    rw [set_access_rect]; exact rows_sub k 0
  iintro ⟨%f, H⟩ Hk
  unfold putQ qHalf qPts
  iapply (WP_put (F := F) c qM (qSet k) f (fun g => ∀ i ∈ qSet k, (i 0).val = 0 → g i = QS I c i) hsub
    (fun i hi h0 => write_rect_mem (F := F) (b := cc0_scratch1) (Rect.unit (s := S2x1024x256) ![0, 128 * k.val, 0] S1x128x256.size h) f (QS I c) (qC I c k 0) _ (fun x => Finset.mem_univ x)
      (fun x => (rowsOf_emb (qC I c) k 0 x).symm) ((mem_rows k 0).mpr ⟨h0, mem_qSet.mp hi⟩))) $$ H
  iintro H
  iapply Hk; iexact H

theorem WP_putq1 (k : Dev nD) {o : Fin 3 → ℕ} (h) (p) (eo : o = ![1, 128 * k.val, 0]) {w : FVec F S1x128x256 .bf16} (hw : w = qC I c k 1) {Q : PUnit → sProp 𝕄} :
    qHalf I c k ⊢ iprop((qPts c k (QS I c) -∗ Q ⟨⟩) -∗ WP c (putQ qM (Memref.isWhole_whole _) (o := o) h p w) Q) := by
  subst eo hw
  have hsub : ((qM : Memref sig .tc _ _ _).access (Rect.unit (s := S2x1024x256) ![1, 128 * k.val, 0] S1x128x256.size h)).set ⊆ qSet k := by
    rw [set_access_rect]; exact rows_sub k 1
  unfold qHalf
  iintro ⟨%f, %hf, H⟩ Hk
  unfold putQ qPts
  iapply (WP_put (F := F) c qM (qSet k) f (fun g => ∀ i ∈ qSet k, g i = QS I c i) hsub
    (fun i hi => put_rest (F := F) (b := cc0_scratch1) (Rect.unit (s := S2x1024x256) ![1, 128 * k.val, 0] S1x128x256.size h) f (QS I c) (qC I c k 1) _ (fun x => Finset.mem_univ x)
      (fun x => (rowsOf_emb (qC I c) k 1 x).symm) (fun hn => hf i hi (rows_cover k hi hn)))) $$ H
  iintro ⟨%g, %hg, H⟩
  iapply Hk
  iapply (Entails.of_eq (pointsTo_congr hg)) $$ H

/-- Chunk `k`'s keys with batch 0 stored. -/
def kHalf (k : Dev nD) : sProp 𝕄 := iprop(∃ f, ⌜∀ i ∈ qSet k, (i 0).val = 0 → f i = KS I c i⌝ ∗ kPts c k f)

theorem WP_putk0 (k : Dev nD) {o : Fin 3 → ℕ} (h) (p) (eo : o = ![0, 128 * k.val, 0]) {w : FVec F S1x128x256 .bf16} (hw : w = kC I c k 0) {Q : PUnit → sProp 𝕄} :
    iprop(∃ f, kPts (F := F) c k f) ⊢ iprop((kHalf I c k -∗ Q ⟨⟩) -∗ WP c (putQ kM (Memref.isWhole_whole _) (o := o) h p w) Q) := by
  subst eo hw
  have hsub : ((kM : Memref sig .tc _ _ _).access (Rect.unit (s := S2x1024x256) ![0, 128 * k.val, 0] S1x128x256.size h)).set ⊆ qSet k := by
    rw [set_access_rect]; exact rows_sub k 0
  iintro ⟨%f, H⟩ Hk
  unfold putQ kHalf kPts
  iapply (WP_put (F := F) c kM (qSet k) f (fun g => ∀ i ∈ qSet k, (i 0).val = 0 → g i = KS I c i) hsub
    (fun i hi h0 => write_rect_mem (F := F) (b := cc0_scratch2) (Rect.unit (s := S2x1024x256) ![0, 128 * k.val, 0] S1x128x256.size h) f (KS I c) (kC I c k 0) _ (fun x => Finset.mem_univ x)
      (fun x => (rowsOf_emb (kC I c) k 0 x).symm) ((mem_rows k 0).mpr ⟨h0, mem_qSet.mp hi⟩))) $$ H
  iintro H
  iapply Hk; iexact H

theorem WP_putk1 (k : Dev nD) {o : Fin 3 → ℕ} (h) (p) (eo : o = ![1, 128 * k.val, 0]) {w : FVec F S1x128x256 .bf16} (hw : w = kC I c k 1) {Q : PUnit → sProp 𝕄} :
    kHalf I c k ⊢ iprop((kPts c k (KS I c) -∗ Q ⟨⟩) -∗ WP c (putQ kM (Memref.isWhole_whole _) (o := o) h p w) Q) := by
  subst eo hw
  have hsub : ((kM : Memref sig .tc _ _ _).access (Rect.unit (s := S2x1024x256) ![1, 128 * k.val, 0] S1x128x256.size h)).set ⊆ qSet k := by
    rw [set_access_rect]; exact rows_sub k 1
  unfold kHalf
  iintro ⟨%f, %hf, H⟩ Hk
  unfold putQ kPts
  iapply (WP_put (F := F) c kM (qSet k) f (fun g => ∀ i ∈ qSet k, g i = KS I c i) hsub
    (fun i hi => put_rest (F := F) (b := cc0_scratch2) (Rect.unit (s := S2x1024x256) ![1, 128 * k.val, 0] S1x128x256.size h) f (KS I c) (kC I c k 1) _ (fun x => Finset.mem_univ x)
      (fun x => (rowsOf_emb (kC I c) k 1 x).symm) (fun hn => hf i hi (rows_cover k hi hn)))) $$ H
  iintro ⟨%g, %hg, H⟩
  iapply Hk
  iapply (Entails.of_eq (pointsTo_congr hg)) $$ H

/-- Chunk `k`'s values with batch 0 stored. -/
def vHalf (k : Dev nD) : sProp 𝕄 := iprop(∃ f, ⌜∀ i ∈ qSet k, (i 0).val = 0 → f i = VS I c i⌝ ∗ vPts c k f)

theorem WP_putv0 (k : Dev nD) {o : Fin 3 → ℕ} (h) (p) (eo : o = ![0, 128 * k.val, 0]) {w : FVec F S1x128x256 .bf16} (hw : w = vC I c k 0) {Q : PUnit → sProp 𝕄} :
    iprop(∃ f, vPts (F := F) c k f) ⊢ iprop((vHalf I c k -∗ Q ⟨⟩) -∗ WP c (putQ vM (Memref.isWhole_whole _) (o := o) h p w) Q) := by
  subst eo hw
  have hsub : ((vM : Memref sig .tc _ _ _).access (Rect.unit (s := S2x1024x256) ![0, 128 * k.val, 0] S1x128x256.size h)).set ⊆ qSet k := by
    rw [set_access_rect]; exact rows_sub k 0
  iintro ⟨%f, H⟩ Hk
  unfold putQ vHalf vPts
  iapply (WP_put (F := F) c vM (qSet k) f (fun g => ∀ i ∈ qSet k, (i 0).val = 0 → g i = VS I c i) hsub
    (fun i hi h0 => write_rect_mem (F := F) (b := cc0_scratch3) (Rect.unit (s := S2x1024x256) ![0, 128 * k.val, 0] S1x128x256.size h) f (VS I c) (vC I c k 0) _ (fun x => Finset.mem_univ x)
      (fun x => (rowsOf_emb (vC I c) k 0 x).symm) ((mem_rows k 0).mpr ⟨h0, mem_qSet.mp hi⟩))) $$ H
  iintro H
  iapply Hk; iexact H

theorem WP_putv1 (k : Dev nD) {o : Fin 3 → ℕ} (h) (p) (eo : o = ![1, 128 * k.val, 0]) {w : FVec F S1x128x256 .bf16} (hw : w = vC I c k 1) {Q : PUnit → sProp 𝕄} :
    vHalf I c k ⊢ iprop((vPts c k (VS I c) -∗ Q ⟨⟩) -∗ WP c (putQ vM (Memref.isWhole_whole _) (o := o) h p w) Q) := by
  subst eo hw
  have hsub : ((vM : Memref sig .tc _ _ _).access (Rect.unit (s := S2x1024x256) ![1, 128 * k.val, 0] S1x128x256.size h)).set ⊆ qSet k := by
    rw [set_access_rect]; exact rows_sub k 1
  unfold vHalf
  iintro ⟨%f, %hf, H⟩ Hk
  unfold putQ vPts
  iapply (WP_put (F := F) c vM (qSet k) f (fun g => ∀ i ∈ qSet k, g i = VS I c i) hsub
    (fun i hi => put_rest (F := F) (b := cc0_scratch3) (Rect.unit (s := S2x1024x256) ![1, 128 * k.val, 0] S1x128x256.size h) f (VS I c) (vC I c k 1) _ (fun x => Finset.mem_univ x)
      (fun x => (rowsOf_emb (vC I c) k 1 x).symm) (fun hn => hf i hi (rows_cover k hi hn)))) $$ H
  iintro ⟨%g, %hg, H⟩
  iapply Hk
  iapply (Entails.of_eq (pointsTo_congr hg)) $$ H

/-- The q, k, v rows of chunk `k`. -/
theorem WP_qkv (k : Dev nD) (q : PosShare TreeShare) {oc : Fin 2 → ℕ} {ox : Fin 4 → ℕ} {oa ob : Fin 3 → ℕ} (hc) (hx) (ha) (pa) (hb) (pb)
    (ec : oc = ![128 * k.val, 0]) (ex : ox = ![k.val, 0, 0, 0]) (ea : oa = ![0, 128 * k.val, 0]) (eb : ob = ![1, 128 * k.val, 0])
    {Q : PUnit → sProp 𝕄} :
    iprop(angles (F := F) c ∗ xPts c k q (XG I) ∗ rows0 (F := F) c k)
      ⊢ iprop((angles (F := F) c ∗ xPts c k q (XG I) ∗ rows1 I c k -∗ Q ⟨⟩)
          -∗ WP c (qkvP (WQ I c) (WK I c) (WV I c) (oc := oc) (ox := ox) (oa := oa) (ob := ob) hc hx ha pa hb pb) Q) := by
  subst ec ex ea eb
  have hsx : ((xgM : Memref sig .tc _ _ _).access (Rect.unit (s := S8x2x128x512) ![k.val, 0, 0, 0] S1x2x128x512.size hx)).set ⊆ xSet k := by
    intro i hi
    rw [set_access_rect] at hi
    exact mem_xSet.mpr (Fin.ext ((mem_slot k.val rfl rfl rfl).mp hi))
  unfold angles rows0 rows1 qkvP
  iintro ⟨⟨Hc, Hs⟩, Hx, Hq, Hkk, Hv⟩ Hk
  unfold xPts
  rw [WP_bind]
  iapply (WP_loadW (F := F) c cosM) $$ Hc; iintro Hc
  rw [read_cos, WP_bind]
  iapply (WP_loadW (F := F) c sinM) $$ Hs; iintro Hs
  rw [read_sin, WP_bind]
  iapply (WP_loadR (F := F) c xgM (xSet k) hsx) $$ Hx; iintro Hx
  rw [read_xg, WP_bind]
  iapply (WP_putq0 I c k ha pa rfl (if_pos rfl).symm) $$ Hq; iintro Hq
  rw [WP_bind]
  iapply (WP_putk0 I c k ha pa rfl (if_pos rfl).symm) $$ Hkk; iintro Hkk
  rw [WP_bind]
  iapply (WP_putv0 I c k ha pa rfl (if_pos rfl).symm) $$ Hv; iintro Hv
  rw [WP_bind]
  iapply (WP_putq1 I c k hb pb rfl (if_neg (by decide)).symm) $$ Hq; iintro Hq
  rw [WP_bind]
  iapply (WP_putk1 I c k hb pb rfl (if_neg (by decide)).symm) $$ Hkk; iintro Hkk
  iapply (WP_putv1 I c k hb pb rfl (if_neg (by decide)).symm) $$ Hv; iintro Hv
  iapply Hk
  isplitl [Hc Hs]
  · isplitl [Hc]; · iexact Hc
    iexact Hs
  isplitl [Hx]; · iexact Hx
  isplitl [Hq]; · iexact Hq
  isplitl [Hkk]; · iexact Hkk
  iexact Hv

/-! ## The attention of one chunk -/

/-- All rows computed. -/
def allRows : sProp 𝕄 := iprop(whole c cc0_scratch1 (QS I c) ∗ whole c cc0_scratch2 (KS I c) ∗ whole c cc0_scratch3 (VS I c))

/-- The attention of chunk `k`, batch `b`. -/
theorem WP_att (k : Dev nD) (b : Fin 2) {bn : ℕ} (hbn : bn = b.val) {o : Fin 3 → ℕ} (h) (hb) (eo : o = ![b.val, 128 * k.val, 0])
    {Q : FVec F S128x512 .f32 → sProp 𝕄} :
    allRows I c ⊢ iprop((allRows I c -∗ Q (ATT I c k b)) -∗ WP c (attP (WO I c) (o := o) h bn hb) Q) := by
  subst eo hbn
  unfold allRows attP headLoad
  iintro ⟨Hq, Hk, Hv⟩ HQ
  rw [WP_bind]
  iapply (WP_loadW (F := F) c qM) $$ Hq; iintro Hq
  rw [read_q, WP_bind]
  iapply (WP_loadW (F := F) c kM) $$ Hk; iintro Hk
  rw [read_k I c b 0 (by decide), WP_bind]
  iapply (WP_loadW (F := F) c vM) $$ Hv; iintro Hv
  rw [read_v I c b 0 (by decide), WP_bind]
  iapply (WP_loadW (F := F) c kM) $$ Hk; iintro Hk
  rw [read_k I c b 64 (by decide), WP_bind]
  iapply (WP_loadW (F := F) c vM) $$ Hv; iintro Hv
  rw [read_v I c b 64 (by decide), WP_bind]
  iapply (WP_loadW (F := F) c kM) $$ Hk; iintro Hk
  rw [read_k I c b 128 (by decide), WP_bind]
  iapply (WP_loadW (F := F) c vM) $$ Hv; iintro Hv
  rw [read_v I c b 128 (by decide), WP_bind]
  iapply (WP_loadW (F := F) c kM) $$ Hk; iintro Hk
  rw [read_k I c b 192 (by decide), WP_bind]
  iapply (WP_loadW (F := F) c vM) $$ Hv; iintro Hv
  rw [read_v I c b 192 (by decide)]
  iapply (WP_pure (F := F) c)
  unfold ATT
  iapply HQ
  isplitl [Hq]; · iexact Hq
  isplitl [Hk]; · iexact Hk
  iexact Hv

/-! ## The partial sums -/

/-- Slot `s` of the sums for the right with its first batch stored. -/
def rHalf (s : Fin 4) : sProp 𝕄 := iprop(∃ f, ⌜∀ i, (i 0).val = s.val → (i 1).val = 0 → f i = SBR I c i⌝ ∗ rPts c s f)
/-- Slot `s` of the sums for the left with its first batch stored. -/
def lHalf (s : Fin 3) : sProp 𝕄 := iprop(∃ f, ⌜∀ i, (i 0).val = s.val → (i 1).val = 0 → f i = SBL I c i⌝ ∗ lPts c s f)

theorem WP_putR0 (s : Fin 4) {o : Fin 4 → ℕ} (h) (p) (eo : o = ![s.val, 0, 0, 0]) {w : FVec F S1x1x128x512 .bf16} (hw : w = SR I s.val c 0) {Q : PUnit → sProp 𝕄} :
    iprop(∃ f, rPts (F := F) c s f) ⊢ iprop((rHalf I c s -∗ Q ⟨⟩) -∗ WP c (putR o h p w) Q) := by
  subst eo hw
  have hsub : ((rM : Memref sig .tc _ _ _).access (Rect.unit (s := S4x2x128x512) ![s.val, 0, 0, 0] S1x1x128x512.size h)).set ⊆ rSet s := by
    rw [set_access_rect]
    exact fun i hi => mem_rSet.mpr (Fin.ext ((mem_half s.val 0 rfl rfl).mp hi).1)
  iintro ⟨%f, H⟩ Hk
  unfold putR rHalf rPts
  iapply (WP_put (F := F) c rM (rSet s) f (fun g => ∀ i : S4x2x128x512.Idx, (i 0).val = s.val → (i 1).val = 0 → g i = SBR I c i) hsub
    (fun i h0 h1 => write_rect_mem (F := F) (b := cc0_scratch6) (Rect.unit (s := S4x2x128x512) ![s.val, 0, 0, 0] S1x1x128x512.size h) f (SBR I c) (SR I s.val c 0) _ (fun x => Finset.mem_univ x) (fun x => SBR_emb I c s.val 0 x) ((mem_half s.val 0 rfl rfl).mpr ⟨h0, h1⟩))) $$ H
  iintro H
  iapply Hk; iexact H

theorem WP_putR1 (s : Fin 4) {o : Fin 4 → ℕ} (h) (p) (eo : o = ![s.val, 1, 0, 0]) {w : FVec F S1x1x128x512 .bf16} (hw : w = SR I s.val c 1) {Q : PUnit → sProp 𝕄} :
    rHalf I c s ⊢ iprop((rPts c s (SBR I c) -∗ Q ⟨⟩) -∗ WP c (putR o h p w) Q) := by
  subst eo hw
  have hsub : ((rM : Memref sig .tc _ _ _).access (Rect.unit (s := S4x2x128x512) ![s.val, 1, 0, 0] S1x1x128x512.size h)).set ⊆ rSet s := by
    rw [set_access_rect]
    exact fun i hi => mem_rSet.mpr (Fin.ext ((mem_half s.val 1 rfl rfl).mp hi).1)
  unfold rHalf
  iintro ⟨%f, %hf, H⟩ Hk
  unfold putR rPts
  iapply (WP_put (F := F) c rM (rSet s) f (fun g => ∀ i ∈ rSet s, g i = SBR I c i) hsub
    (fun i hi => put_rest (F := F) (b := cc0_scratch6) (Rect.unit (s := S4x2x128x512) ![s.val, 1, 0, 0] S1x1x128x512.size h) f (SBR I c) (SR I s.val c 1) _ (fun x => Finset.mem_univ x) (fun x => SBR_emb I c s.val 1 x) (fun hn => by
      have e0 : (i 0).val = s.val := congrArg Fin.val (mem_rSet.mp hi)
      have h1 : (i 1).val < 2 := (i 1).isLt
      exact hf i e0 (by
        by_contra e1
        exact hn ((mem_half s.val 1 rfl rfl).mpr ⟨e0, by omega⟩))))) $$ H
  iintro ⟨%g, %hg, H⟩
  iapply Hk
  iapply (Entails.of_eq (pointsTo_congr hg)) $$ H

theorem WP_putL0 (s : Fin 3) {o : Fin 4 → ℕ} (h) (p) (eo : o = ![s.val, 0, 0, 0]) {w : FVec F S1x1x128x512 .bf16} (hw : w = SL I s.val c 0) {Q : PUnit → sProp 𝕄} :
    iprop(∃ f, lPts (F := F) c s f) ⊢ iprop((lHalf I c s -∗ Q ⟨⟩) -∗ WP c (putL o h p w) Q) := by
  subst eo hw
  have hsub : ((lM : Memref sig .tc _ _ _).access (Rect.unit (s := S3x2x128x512) ![s.val, 0, 0, 0] S1x1x128x512.size h)).set ⊆ lSet s := by
    rw [set_access_rect]
    exact fun i hi => mem_lSet.mpr (Fin.ext ((mem_half s.val 0 rfl rfl).mp hi).1)
  iintro ⟨%f, H⟩ Hk
  unfold putL lHalf lPts
  iapply (WP_put (F := F) c lM (lSet s) f (fun g => ∀ i : S3x2x128x512.Idx, (i 0).val = s.val → (i 1).val = 0 → g i = SBL I c i) hsub
    (fun i h0 h1 => write_rect_mem (F := F) (b := cc0_scratch7) (Rect.unit (s := S3x2x128x512) ![s.val, 0, 0, 0] S1x1x128x512.size h) f (SBL I c) (SL I s.val c 0) _ (fun x => Finset.mem_univ x) (fun x => SBL_emb I c s.val 0 x) ((mem_half s.val 0 rfl rfl).mpr ⟨h0, h1⟩))) $$ H
  iintro H
  iapply Hk; iexact H

theorem WP_putL1 (s : Fin 3) {o : Fin 4 → ℕ} (h) (p) (eo : o = ![s.val, 1, 0, 0]) {w : FVec F S1x1x128x512 .bf16} (hw : w = SL I s.val c 1) {Q : PUnit → sProp 𝕄} :
    lHalf I c s ⊢ iprop((lPts c s (SBL I c) -∗ Q ⟨⟩) -∗ WP c (putL o h p w) Q) := by
  subst eo hw
  have hsub : ((lM : Memref sig .tc _ _ _).access (Rect.unit (s := S3x2x128x512) ![s.val, 1, 0, 0] S1x1x128x512.size h)).set ⊆ lSet s := by
    rw [set_access_rect]
    exact fun i hi => mem_lSet.mpr (Fin.ext ((mem_half s.val 1 rfl rfl).mp hi).1)
  unfold lHalf
  iintro ⟨%f, %hf, H⟩ Hk
  unfold putL lPts
  iapply (WP_put (F := F) c lM (lSet s) f (fun g => ∀ i ∈ lSet s, g i = SBL I c i) hsub
    (fun i hi => put_rest (F := F) (b := cc0_scratch7) (Rect.unit (s := S3x2x128x512) ![s.val, 1, 0, 0] S1x1x128x512.size h) f (SBL I c) (SL I s.val c 1) _ (fun x => Finset.mem_univ x) (fun x => SBL_emb I c s.val 1 x) (fun hn => by
      have e0 : (i 0).val = s.val := congrArg Fin.val (mem_lSet.mp hi)
      have h1 : (i 1).val < 2 := (i 1).isLt
      exact hf i e0 (by
        by_contra e1
        exact hn ((mem_half s.val 1 rfl rfl).mpr ⟨e0, by omega⟩))))) $$ H
  iintro ⟨%g, %hg, H⟩
  iapply Hk
  iapply (Entails.of_eq (pointsTo_congr hg)) $$ H

/-- Loading one batch of a slot received from the left. -/
theorem WP_cLoadR (s : Fin 7) (hs : s.val < 4) (b : Fin 2) {o : Fin 4 → ℕ} (h) (eo : o = ![s.val, b.val, 0, 0]) {Q : Vec F S1x1x128x512 .bf16 → sProp 𝕄} :
    cPts c s (RSC I c) ⊢ iprop((cPts c s (RSC I c) -∗ Q (SR I s.val (sh 7 c) b)) -∗ WP c (cLoad o h) Q) := by
  subst eo
  iintro H Hk
  unfold cPts
  iapply (WP_loadR (F := F) c cM (cSet s) (by
    intro i hi
    rw [set_access_rect] at hi
    exact mem_cSet.mpr (Fin.ext ((mem_half s.val b.val rfl rfl).mp hi).1))) $$ H; iintro H
  rw [read_cr I c s.val hs b]
  iapply Hk; iexact H
/-- Loading one batch of a slot received from the right. -/
theorem WP_cLoadL (s : Fin 7) (t : ℕ) (hs : s.val = 4 + t) (b : Fin 2) {o : Fin 4 → ℕ} (h) (eo : o = ![s.val, b.val, 0, 0]) {Q : Vec F S1x1x128x512 .bf16 → sProp 𝕄} :
    cPts c s (RSC I c) ⊢ iprop((cPts c s (RSC I c) -∗ Q (SL I t (sh 1 c) b)) -∗ WP c (cLoad o h) Q) := by
  subst eo
  iintro H Hk
  unfold cPts
  iapply (WP_loadR (F := F) c cM (cSet s) (by
    intro i hi
    rw [set_access_rect] at hi
    exact mem_cSet.mpr (Fin.ext ((mem_half s.val b.val rfl rfl).mp hi).1))) $$ H; iintro H
  rw [read_cl I c s.val t hs b]
  iapply Hk; iexact H

/-- The result with its first batch stored. -/
def oHalf : sProp 𝕄 := iprop(∃ f, ⌜∀ i : S2x128x512.Idx, i ∈ (Rect.unit (s := S2x128x512) ![0, 0, 0] S1x128x512.size inb_S2x128x512_S1x128x512_0_0_0).set → f i = OUT I c i⌝ ∗ whole c cc0_stg5_0 f)

theorem WP_putO0 {w : FVec F S1x128x512 .f32} (hw : w = outV (ATT I c c 0) (SR I 3 (sh 7 c) 0) (SL I 2 (sh 1 c) 0)) {Q : PUnit → sProp 𝕄} :
    iprop(∃ f, whole (F := F) c cc0_stg5_0 f) ⊢ iprop((oHalf I c -∗ Q ⟨⟩) -∗ WP c (putO (Memref.whole cc0_stg5_0) ![0, 0, 0] inb_S2x128x512_S1x128x512_0_0_0 w) Q) := by
  subst hw
  iintro ⟨%f, H⟩ Hk
  unfold putO oHalf
  iapply (WP_put (F := F) c (Memref.whole cc0_stg5_0) _ f
    (fun g => ∀ i : S2x128x512.Idx, i ∈ (Rect.unit (s := S2x128x512) ![0, 0, 0] S1x128x512.size inb_S2x128x512_S1x128x512_0_0_0).set → g i = OUT I c i)
    (r := Rect.unit (s := S2x128x512) ![0, 0, 0] S1x128x512.size inb_S2x128x512_S1x128x512_0_0_0) (Finset.subset_univ _) (fun i hi => write_rect_mem (F := F) (b := cc0_stg5_0) (Rect.unit (s := S2x128x512) ![0, 0, 0] S1x128x512.size inb_S2x128x512_S1x128x512_0_0_0) f (OUT I c) _ _ (fun x => Finset.mem_univ x) (fun x => OUT_emb I c 0 x) hi)) $$ H
  iintro H
  iapply Hk; iexact H
theorem WP_putO1 {w : FVec F S1x128x512 .f32} (hw : w = outV (ATT I c c 1) (SR I 3 (sh 7 c) 1) (SL I 2 (sh 1 c) 1)) {Q : PUnit → sProp 𝕄} :
    oHalf I c ⊢ iprop((whole c cc0_stg5_0 (OUT I c) -∗ Q ⟨⟩) -∗ WP c (putO (Memref.whole cc0_stg5_0) ![1, 0, 0] inb_S2x128x512_S1x128x512_1_0_0 w) Q) := by
  subst hw
  unfold oHalf
  iintro ⟨%f, %hf, H⟩ Hk
  unfold putO
  iapply (WP_put (F := F) c (Memref.whole cc0_stg5_0) _ f (fun g => ∀ i : S2x128x512.Idx, g i = OUT I c i)
    (r := Rect.unit (s := S2x128x512) ![1, 0, 0] S1x128x512.size inb_S2x128x512_S1x128x512_1_0_0) (Finset.subset_univ _) (fun i => put_rest (F := F) (b := cc0_stg5_0) (Rect.unit (s := S2x128x512) ![1, 0, 0] S1x128x512.size inb_S2x128x512_S1x128x512_1_0_0) f (OUT I c) _ _ (fun x => Finset.mem_univ x) (fun x => OUT_emb I c 1 x)
      (fun hn => hf i ((mem_out i).resolve_right hn)))) $$ H
  iintro ⟨%g, %hg, H⟩
  iapply Hk
  iapply (Entails.of_eq (pointsTo_congr fun i _ => hg i)) $$ H

end Cert.Proof

end
-- ==== Proof.Phases.lean ====
/- The phases of the body: each from what it needs to what it leaves. -/
module

public import proofs.«01_k».proof.Proof.Pieces

@[expose] public section

noncomputable section

namespace Cert.Proof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (I : Inp F) (K : Dev nD × Option (Fin 4 × Fin 7) → ℕ) (c : Dev nD)

/-- The facts every step uses: the cells' invariants and the levels. -/
def PC : sProp 𝕄 := iprop(records I K ∗ levAts L lv)
instance PC_persistent : BI.Persistent (PC (F := F) I K) := by unfold PC; infer_instance

/-- What is still owed after the first `n` transfers. -/
abbrev owN (n : ℕ) : sProp 𝕄 := ow c (allX.drop n)

/-! ## Shares of a slot -/

theorem x_split (k : Dev nD) (f : S8x2x128x512.Idx → F .bf16) : (xPts c k fullShare f : sProp 𝕄) ⊢ xPts c k fullShare.left f ∗ xPts c k fullShare.right f := by
  unfold xPts; exact (pointsTo_share (PosShare.mem_left_op_right fullShare)).1
theorem x_join (k : Dev nD) (f : S8x2x128x512.Idx → F .bf16) : (xPts c k fullShare.left f ∗ xPts c k fullShare.right f : sProp 𝕄) ⊢ xPts c k fullShare f := by
  unfold xPts; exact (pointsTo_share (PosShare.mem_left_op_right fullShare)).2
theorem x_splitR (k : Dev nD) (f : S8x2x128x512.Idx → F .bf16) : (xPts c k fullShare.right f : sProp 𝕄) ⊢ xPts c k fullShare.right.left f ∗ xPts c k fullShare.right.right f := by
  unfold xPts; exact (pointsTo_share (PosShare.mem_left_op_right fullShare.right)).1
theorem x_joinR (k : Dev nD) (f : S8x2x128x512.Idx → F .bf16) : (xPts c k fullShare.right.left f ∗ xPts c k fullShare.right.right f : sProp 𝕄) ⊢ xPts c k fullShare.right f := by
  unfold xPts; exact (pointsTo_share (PosShare.mem_left_op_right fullShare.right)).2

/-! ## The transfers, with their slots named -/

theorem agk_own (c : Dev nD) : agk 0 c = c ∧ agk 4 c = c := by revert c; decide

theorem WP_agS (i : Fin 7) (l : List (Fin 4 × Fin 7)) (k : Dev nD) (hk : agk i c = k) (q : PosShare TreeShare) (hq : agq i = q) (n : Dev nD) (hn : nbr i c = n)
    (d : Dev nD) (hd : d = n)
    {ii : Fin 1 → ℕ} {hi : ∀ a, ii a + S1.size a ≤ S7.size a} (h₁ : semAt cc0_scratch9 ii hi = dS 0 i) (h₂ : semAt cc0_scratch10 ii hi = dS 1 i)
    {o : Fin 4 → ℕ} (h) (w) (ho : o = ![k.val, 0, 0, 0]) {Q : PUnit → sProp 𝕄} :
    iprop(PC I K ∗ ow c ((1, i) :: l) ∗ TS 0 1 i c ∗ xPts c k q (XG I) ∗ (∃ f, xPts n k fullShare f))
      ⊢ iprop((ow c l ∗ WT 0 i c -∗ Q ⟨⟩) -∗ WP (F := F) c (agSend ii hi d (o := o) h w) Q) := by
  subst hk hq hn
  unfold PC
  iintro ⟨⟨#HR, -⟩, H⟩ Hk
  iapply (WP_agSend I K c i l d hd h₁ h₂ h w ho) $$ [H]
  · isplitr; · iexact HR
    iexact H
  iexact Hk

/-- A wait for a gathering's arrival. -/
theorem WP_agW (i : Fin 7) (l : List (Fin 4 × Fin 7)) (hl : ∀ x ∈ l, lvk 1 i < lvk x.1 x.2) (k : Dev nD) (hk : rsl i c = k)
    {ii : Fin 1 → ℕ} {hi : ∀ a, ii a + S1.size a ≤ S7.size a} (hs : semAt cc0_scratch10 ii hi = dS 1 i) {o : Fin 4 → ℕ} (h) (w) {Q : PUnit → sProp 𝕄} :
    iprop(PC I K ∗ ow c l ∗ WT 1 i c)
      ⊢ iprop((ow c l ∗ xPts c k fullShare (XG I) ∗ semVal (dcell c 1 i) 0 -∗ Q ⟨⟩) -∗ WP (F := F) c (agWait cc0_scratch10 ii hi (o := o) h w) Q) := by
  subst hk
  unfold PC
  iintro ⟨⟨#HR, #Hlev⟩, H⟩ Hk
  iapply (WP_wait I K c 1 i l hl hs (b := xSlot o h) rfl) $$ [H]
  · isplitr; · iexact HR
    isplitr; · iexact Hlev
    iexact H
  iexact Hk

/-- A wait for a gathering's send to end. -/
theorem WP_agE (i : Fin 7) (l : List (Fin 4 × Fin 7)) (hl : ∀ x ∈ l, lvk 0 i < lvk x.1 x.2) (k : Dev nD) (hk : agk i c = k) (q : PosShare TreeShare) (hq : agq i = q)
    {ii : Fin 1 → ℕ} {hi : ∀ a, ii a + S1.size a ≤ S7.size a} (hs : semAt cc0_scratch9 ii hi = dS 0 i) {o : Fin 4 → ℕ} (h) (w) {Q : PUnit → sProp 𝕄} :
    iprop(PC I K ∗ ow c l ∗ WT 0 i c)
      ⊢ iprop((ow c l ∗ xPts c k q (XG I) ∗ semVal (dcell c 0 i) 0 -∗ Q ⟨⟩) -∗ WP (F := F) c (agWait cc0_scratch9 ii hi (o := o) h w) Q) := by
  subst hk hq
  unfold PC
  iintro ⟨⟨#HR, #Hlev⟩, H⟩ Hk
  iapply (WP_wait I K c 0 i l hl hs (b := xSlot o h) rfl) $$ [H]
  · isplitr; · iexact HR
    isplitr; · iexact Hlev
    iexact H
  iexact Hk

/-- A wait for a partial sum's arrival. -/
theorem WP_rsW (i : Fin 7) (l : List (Fin 4 × Fin 7)) (hl : ∀ x ∈ l, lvk 3 i < lvk x.1 x.2)
    {s : DmaSem sig} (hs : s = dS 3 i) {a : Memref sig .tc .vmem S2x128x512 .bf16} {o : Fin 4 → ℕ} {h} {ha : a.view.WordExact} {hb : (cSlot o h).view.WordExact} {Q : PUnit → sProp 𝕄} :
    iprop(PC I K ∗ ow c l ∗ WT 3 i c)
      ⊢ iprop((ow c l ∗ cPts c i (RSC I c) ∗ semVal (dcell c 3 i) 0 -∗ Q ⟨⟩) -∗ WP (F := F) c (Prog.lift (.waitDma2 s a (cSlot o h) ha hb)) Q) := by
  unfold PC
  iintro ⟨⟨#HR, #Hlev⟩, H⟩ Hk
  iapply (WP_wait I K c 3 i l hl hs (a := a) (b := cSlot o h) (ha := ha) (hb := hb) rfl) $$ [H]
  · isplitr; · iexact HR
    isplitr; · iexact Hlev
    iexact H
  iexact Hk

/-- A wait for a partial sum's send to the right to end. -/
theorem WP_rsEr (i : Fin 7) (l : List (Fin 4 × Fin 7)) (hl : ∀ x ∈ l, lvk 2 i < lvk x.1 x.2)
    {s : DmaSem sig} (hs : s = dS 2 i) {a : Memref sig .tc .vmem S2x128x512 .bf16} {o : Fin 4 → ℕ} {h} {ha : a.view.WordExact} {hb : (rSlot o h).view.WordExact} {Q : PUnit → sProp 𝕄} :
    iprop(PC I K ∗ ow c l ∗ WT 2 i c)
      ⊢ iprop((ow c l ∗ sPts I c i ∗ semVal (dcell c 2 i) 0 -∗ Q ⟨⟩) -∗ WP (F := F) c (Prog.lift (.waitDma2 s a (rSlot o h) ha hb)) Q) := by
  unfold PC
  iintro ⟨⟨#HR, #Hlev⟩, H⟩ Hk
  iapply (WP_wait I K c 2 i l hl hs (a := a) (b := rSlot o h) (ha := ha) (hb := hb) rfl) $$ [H]
  · isplitr; · iexact HR
    isplitr; · iexact Hlev
    iexact H
  iexact Hk

/-- A wait for a partial sum's send to the left to end. -/
theorem WP_rsEl (i : Fin 7) (l : List (Fin 4 × Fin 7)) (hl : ∀ x ∈ l, lvk 2 i < lvk x.1 x.2)
    {s : DmaSem sig} (hs : s = dS 2 i) {a : Memref sig .tc .vmem S2x128x512 .bf16} {o : Fin 4 → ℕ} {h} {ha : a.view.WordExact} {hb : (lSlot o h).view.WordExact} {Q : PUnit → sProp 𝕄} :
    iprop(PC I K ∗ ow c l ∗ WT 2 i c)
      ⊢ iprop((ow c l ∗ sPts I c i ∗ semVal (dcell c 2 i) 0 -∗ Q ⟨⟩) -∗ WP (F := F) c (Prog.lift (.waitDma2 s a (lSlot o h) ha hb)) Q) := by
  unfold PC
  iintro ⟨⟨#HR, #Hlev⟩, H⟩ Hk
  iapply (WP_wait I K c 2 i l hl hs (a := a) (b := lSlot o h) (ha := ha) (hb := hb) rfl) $$ [H]
  · isplitr; · iexact HR
    isplitr; · iexact Hlev
    iexact H
  iexact Hk

theorem WP_rS (i : Fin 7) (s : Fin 4) (his : i.val = s.val) (l : List (Fin 4 × Fin 7)) (n : Dev nD) (hn : nbr i c = n) (d : Dev nD) (hd : d = n)
    {ii : Fin 1 → ℕ} {hi : ∀ a, ii a + S1.size a ≤ S7.size a} (h₁ : semAt cc0_scratch11 ii hi = dS 2 i) (h₂ : semAt cc0_scratch12 ii hi = dS 3 i)
    {o o' : Fin 4 → ℕ} (h) (w) (h') (w') (ho : o = ![s.val, 0, 0, 0]) (ho' : o' = ![i.val, 0, 0, 0]) {Q : PUnit → sProp 𝕄} :
    iprop(PC I K ∗ ow c ((3, i) :: l) ∗ TS 2 3 i c ∗ rPts c s (SBR I c) ∗ (∃ f, cPts n i f))
      ⊢ iprop((ow c l ∗ WT 2 i c -∗ Q ⟨⟩) -∗ WP (F := F) c (rSend ii hi d (o := o) (o' := o') h w h' w') Q) := by
  subst hn
  unfold PC
  iintro ⟨⟨#HR, -⟩, H⟩ Hk
  iapply (WP_rSend I K c i s his l d hd h₁ h₂ h w h' w' ho ho') $$ [H]
  · isplitr; · iexact HR
    iexact H
  iexact Hk
theorem WP_lS (i : Fin 7) (s : Fin 3) (his : i.val = 4 + s.val) (l : List (Fin 4 × Fin 7)) (n : Dev nD) (hn : nbr i c = n) (d : Dev nD) (hd : d = n)
    {ii : Fin 1 → ℕ} {hi : ∀ a, ii a + S1.size a ≤ S7.size a} (h₁ : semAt cc0_scratch11 ii hi = dS 2 i) (h₂ : semAt cc0_scratch12 ii hi = dS 3 i)
    {o o' : Fin 4 → ℕ} (h) (w) (h') (w') (ho : o = ![s.val, 0, 0, 0]) (ho' : o' = ![i.val, 0, 0, 0]) {Q : PUnit → sProp 𝕄} :
    iprop(PC I K ∗ ow c ((3, i) :: l) ∗ TS 2 3 i c ∗ lPts c s (SBL I c) ∗ (∃ f, cPts n i f))
      ⊢ iprop((ow c l ∗ WT 2 i c -∗ Q ⟨⟩) -∗ WP (F := F) c (lSend ii hi d (o := o) (o' := o') h w h' w') Q) := by
  subst hn
  unfold PC
  iintro ⟨⟨#HR, -⟩, H⟩ Hk
  iapply (WP_lSend I K c i s his l d hd h₁ h₂ h w h' w' ho ho') $$ [H]
  · isplitr; · iexact HR
    iexact H
  iexact Hk

/-! ## The gathering -/

/-- The first step of the gathering. -/
theorem WP_agP0 {Q : PUnit → sProp 𝕄} :
    iprop(PC I K
      ∗ owN c 0
      ∗ TS 0 1 0 c
      ∗ TS 0 1 4 c
      ∗ (∃ f, xPts (F := F) (sh 1 c) c fullShare f)
      ∗ (∃ f, xPts (F := F) (sh 7 c) c fullShare f)
      ∗ angles (F := F) c
      ∗ xPts c c fullShare (XG I)
      ∗ rows0 (F := F) c c
      ∗ WT 1 0 c
      ∗ WT 1 4 c)
      ⊢ iprop((owN c 2
        ∗ WT 0 0 c
        ∗ WT 0 4 c
        ∗ angles c
        ∗ xPts c c fullShare.right.right (XG I)
        ∗ rows1 I c c
        ∗ xPts c (sh 7 c) fullShare (XG I)
        ∗ xPts c (sh 1 c) fullShare (XG I)
        ∗ semVal (dcell c 1 0) 0
        ∗ semVal (dcell c 1 4) 0 -∗ Q ⟨⟩)
        -∗ WP c (agP0 c (WQ I c) (WK I c) (WV I c)) Q) := by
  iintro ⟨#HP, HO, T0, T4, D0, D4, Hang, Hx, Hr, V0, V4⟩ Hk
  unfold agP0
  ihave Hx := (x_split c c (XG I)) $$ Hx; icases Hx with ⟨X0, Hx⟩
  ihave Hx := (x_splitR c c (XG I)) $$ Hx; icases Hx with ⟨X4, Hx⟩
  rw [WP_bind]
  iapply (WP_agS I K c 0 (allX.drop 1) c (agk_own c).1 fullShare.left rfl (sh 1 c) rfl _ (dev3_at c) rfl rfl _ _ (off2_at c)) $$ [HO T0 X0 D0]
  · isplitr; · iexact HP
    isplitl [HO]; · iexact HO
    isplitl [T0]; · iexact T0
    isplitl [X0]; · iexact X0
    iexact D0
  iintro ⟨HO, W0⟩
  rw [WP_bind]
  iapply (WP_agS I K c 4 (allX.drop 2) c (agk_own c).2 fullShare.right.left rfl (sh 7 c) rfl _ (dev4_at c) rfl rfl _ _ (off2_at c)) $$ [HO T4 X4 D4]
  · isplitr; · iexact HP
    isplitl [HO]; · iexact HO
    isplitl [T4]; · iexact T4
    isplitl [X4]; · iexact X4
    iexact D4
  iintro ⟨HO, W4⟩
  rw [WP_bind]
  iapply (WP_qkv I c c fullShare.right.right _ _ _ _ _ _ (off3_at c) (off1_at c) (off4_at c) (off5_at c)) $$ [Hang Hx Hr]
  · isplitl [Hang]; · iexact Hang
    isplitl [Hx]; · iexact Hx
    iexact Hr
  iintro ⟨Hang, Hx, Hr⟩
  rw [WP_bind]
  iapply (WP_agW I K c 0 (allX.drop 2) (by decide) (sh 7 c) rfl rfl _ _) $$ [HO V0]
  · isplitr; · iexact HP
    isplitl [HO]; · iexact HO
    iexact V0
  iintro ⟨HO, Y0, Z0⟩
  iapply (WP_agW I K c 4 (allX.drop 2) (by decide) (sh 1 c) rfl rfl _ _) $$ [HO V4]
  · isplitr; · iexact HP
    isplitl [HO]; · iexact HO
    iexact V4
  iintro ⟨HO, Y4, Z4⟩
  iapply Hk
  isplitl [HO]; · iexact HO
  isplitl [W0]; · iexact W0
  isplitl [W4]; · iexact W4
  isplitl [Hang]; · iexact Hang
  isplitl [Hx]; · iexact Hx
  isplitl [Hr]; · iexact Hr
  isplitl [Y0]; · iexact Y0
  isplitl [Y4]; · iexact Y4
  isplitl [Z0]; · iexact Z0
  iexact Z4

/-- Step 1 of the gathering. -/
theorem WP_agP1 {Q : PUnit → sProp 𝕄} :
    iprop(PC I K
      ∗ owN c 2
      ∗ TS 0 1 1 c
      ∗ TS 0 1 5 c
      ∗ (∃ f, xPts (F := F) (sh 1 c) (sh 7 c) fullShare f)
      ∗ (∃ f, xPts (F := F) (sh 7 c) (sh 1 c) fullShare f)
      ∗ angles (F := F) c
      ∗ xPts c (sh 7 c) fullShare (XG I)
      ∗ xPts c (sh 1 c) fullShare (XG I)
      ∗ rows0 (F := F) c (sh 7 c)
      ∗ rows0 (F := F) c (sh 1 c)
      ∗ WT 1 1 c
      ∗ WT 1 5 c)
      ⊢ iprop((owN c 4
        ∗ WT 0 1 c
        ∗ WT 0 5 c
        ∗ angles c
        ∗ xPts c (sh 7 c) fullShare.right (XG I)
        ∗ xPts c (sh 1 c) fullShare.right (XG I)
        ∗ rows1 I c (sh 7 c)
        ∗ rows1 I c (sh 1 c)
        ∗ xPts c (sh 6 c) fullShare (XG I)
        ∗ xPts c (sh 2 c) fullShare (XG I)
        ∗ semVal (dcell c 1 1) 0
        ∗ semVal (dcell c 1 5) 0 -∗ Q ⟨⟩)
        -∗ WP c (agP1 c (WQ I c) (WK I c) (WV I c)) Q) := by
  iintro ⟨#HP, HO, T1, T5, D1, D5, Hang, Ha, Hb, Hra, Hrb, V1, V5⟩ Hk
  unfold agP1
  ihave Ha := (x_split c (sh 7 c) (XG I)) $$ Ha; icases Ha with ⟨XA, Ha⟩
  ihave Hb := (x_split c (sh 1 c) (XG I)) $$ Hb; icases Hb with ⟨XB, Hb⟩
  rw [WP_bind]
  iapply (WP_agS I K c 1 (allX.drop 3) (sh 7 c) rfl fullShare.left rfl (sh 1 c) rfl _ (dev5_at c) rfl rfl _ _ (off6_at c 0)) $$ [HO T1 XA D1]
  · isplitr; · iexact HP
    isplitl [HO]; · iexact HO
    isplitl [T1]; · iexact T1
    isplitl [XA]; · iexact XA
    iexact D1
  iintro ⟨HO, W1⟩
  rw [WP_bind]
  iapply (WP_agS I K c 5 (allX.drop 4) (sh 1 c) rfl fullShare.left rfl (sh 7 c) rfl _ (dev6_at c) rfl rfl _ _ (off7_at c 0)) $$ [HO T5 XB D5]
  · isplitr; · iexact HP
    isplitl [HO]; · iexact HO
    isplitl [T5]; · iexact T5
    isplitl [XB]; · iexact XB
    iexact D5
  iintro ⟨HO, W5⟩
  rw [WP_bind]
  iapply (WP_qkv I c (sh 7 c) fullShare.right _ _ _ _ _ _ (off8_at c 0) (off9_at c 0) (off10_at c 0) (off11_at c 0)) $$ [Hang Ha Hra]
  · isplitl [Hang]; · iexact Hang
    isplitl [Ha]; · iexact Ha
    iexact Hra
  iintro ⟨Hang, Ha, Hra⟩
  rw [WP_bind]
  iapply (WP_qkv I c (sh 1 c) fullShare.right _ _ _ _ _ _ (off12_at c 0) (off13_at c 0) (off14_at c 0) (off15_at c 0)) $$ [Hang Hb Hrb]
  · isplitl [Hang]; · iexact Hang
    isplitl [Hb]; · iexact Hb
    iexact Hrb
  iintro ⟨Hang, Hb, Hrb⟩
  rw [WP_bind]
  iapply (WP_agW I K c 1 (allX.drop 4) (by decide) (sh 6 c) rfl rfl _ _) $$ [HO V1]
  · isplitr; · iexact HP
    isplitl [HO]; · iexact HO
    iexact V1
  iintro ⟨HO, YA, Z1⟩
  iapply (WP_agW I K c 5 (allX.drop 4) (by decide) (sh 2 c) rfl rfl _ _) $$ [HO V5]
  · isplitr; · iexact HP
    isplitl [HO]; · iexact HO
    iexact V5
  iintro ⟨HO, YB, Z5⟩
  iapply Hk
  isplitl [HO]; · iexact HO
  isplitl [W1]; · iexact W1
  isplitl [W5]; · iexact W5
  isplitl [Hang]; · iexact Hang
  isplitl [Ha]; · iexact Ha
  isplitl [Hb]; · iexact Hb
  isplitl [Hra]; · iexact Hra
  isplitl [Hrb]; · iexact Hrb
  isplitl [YA]; · iexact YA
  isplitl [YB]; · iexact YB
  isplitl [Z1]; · iexact Z1
  iexact Z5

/-- Step 2 of the gathering. -/
theorem WP_agP2 {Q : PUnit → sProp 𝕄} :
    iprop(PC I K
      ∗ owN c 4
      ∗ TS 0 1 2 c
      ∗ TS 0 1 6 c
      ∗ (∃ f, xPts (F := F) (sh 1 c) (sh 6 c) fullShare f)
      ∗ (∃ f, xPts (F := F) (sh 7 c) (sh 2 c) fullShare f)
      ∗ angles (F := F) c
      ∗ xPts c (sh 6 c) fullShare (XG I)
      ∗ xPts c (sh 2 c) fullShare (XG I)
      ∗ rows0 (F := F) c (sh 6 c)
      ∗ rows0 (F := F) c (sh 2 c)
      ∗ WT 1 2 c
      ∗ WT 1 6 c)
      ⊢ iprop((owN c 6
        ∗ WT 0 2 c
        ∗ WT 0 6 c
        ∗ angles c
        ∗ xPts c (sh 6 c) fullShare.right (XG I)
        ∗ xPts c (sh 2 c) fullShare.right (XG I)
        ∗ rows1 I c (sh 6 c)
        ∗ rows1 I c (sh 2 c)
        ∗ xPts c (sh 5 c) fullShare (XG I)
        ∗ xPts c (sh 3 c) fullShare (XG I)
        ∗ semVal (dcell c 1 2) 0
        ∗ semVal (dcell c 1 6) 0 -∗ Q ⟨⟩)
        -∗ WP c (agP2 c (WQ I c) (WK I c) (WV I c)) Q) := by
  iintro ⟨#HP, HO, T2, T6, D2, D6, Hang, Ha, Hb, Hra, Hrb, V2, V6⟩ Hk
  unfold agP2
  ihave Ha := (x_split c (sh 6 c) (XG I)) $$ Ha; icases Ha with ⟨XA, Ha⟩
  ihave Hb := (x_split c (sh 2 c) (XG I)) $$ Hb; icases Hb with ⟨XB, Hb⟩
  rw [WP_bind]
  iapply (WP_agS I K c 2 (allX.drop 5) (sh 6 c) rfl fullShare.left rfl (sh 1 c) rfl _ (dev7_at c) rfl rfl _ _ (off6_at c 1)) $$ [HO T2 XA D2]
  · isplitr; · iexact HP
    isplitl [HO]; · iexact HO
    isplitl [T2]; · iexact T2
    isplitl [XA]; · iexact XA
    iexact D2
  iintro ⟨HO, W2⟩
  rw [WP_bind]
  iapply (WP_agS I K c 6 (allX.drop 6) (sh 2 c) rfl fullShare.left rfl (sh 7 c) rfl _ (dev8_at c) rfl rfl _ _ (off7_at c 1)) $$ [HO T6 XB D6]
  · isplitr; · iexact HP
    isplitl [HO]; · iexact HO
    isplitl [T6]; · iexact T6
    isplitl [XB]; · iexact XB
    iexact D6
  iintro ⟨HO, W6⟩
  rw [WP_bind]
  iapply (WP_qkv I c (sh 6 c) fullShare.right _ _ _ _ _ _ (off8_at c 1) (off9_at c 1) (off10_at c 1) (off11_at c 1)) $$ [Hang Ha Hra]
  · isplitl [Hang]; · iexact Hang
    isplitl [Ha]; · iexact Ha
    iexact Hra
  iintro ⟨Hang, Ha, Hra⟩
  rw [WP_bind]
  iapply (WP_qkv I c (sh 2 c) fullShare.right _ _ _ _ _ _ (off12_at c 1) (off13_at c 1) (off14_at c 1) (off15_at c 1)) $$ [Hang Hb Hrb]
  · isplitl [Hang]; · iexact Hang
    isplitl [Hb]; · iexact Hb
    iexact Hrb
  iintro ⟨Hang, Hb, Hrb⟩
  rw [WP_bind]
  iapply (WP_agW I K c 2 (allX.drop 6) (by decide) (sh 5 c) rfl rfl _ _) $$ [HO V2]
  · isplitr; · iexact HP
    isplitl [HO]; · iexact HO
    iexact V2
  iintro ⟨HO, YA, Z2⟩
  iapply (WP_agW I K c 6 (allX.drop 6) (by decide) (sh 3 c) rfl rfl _ _) $$ [HO V6]
  · isplitr; · iexact HP
    isplitl [HO]; · iexact HO
    iexact V6
  iintro ⟨HO, YB, Z6⟩
  iapply Hk
  isplitl [HO]; · iexact HO
  isplitl [W2]; · iexact W2
  isplitl [W6]; · iexact W6
  isplitl [Hang]; · iexact Hang
  isplitl [Ha]; · iexact Ha
  isplitl [Hb]; · iexact Hb
  isplitl [Hra]; · iexact Hra
  isplitl [Hrb]; · iexact Hrb
  isplitl [YA]; · iexact YA
  isplitl [YB]; · iexact YB
  isplitl [Z2]; · iexact Z2
  iexact Z6

/-- Step 3 of the gathering. -/
theorem WP_agP3 {Q : PUnit → sProp 𝕄} :
    iprop(PC I K
      ∗ owN c 6
      ∗ TS 0 1 3 c
      ∗ (∃ f, xPts (F := F) (sh 1 c) (sh 5 c) fullShare f)
      ∗ angles (F := F) c
      ∗ xPts c (sh 5 c) fullShare (XG I)
      ∗ xPts c (sh 3 c) fullShare (XG I)
      ∗ rows0 (F := F) c (sh 5 c)
      ∗ rows0 (F := F) c (sh 3 c)
      ∗ WT 1 3 c)
      ⊢ iprop((owN c 7
        ∗ WT 0 3 c
        ∗ angles c
        ∗ xPts c (sh 5 c) fullShare.right (XG I)
        ∗ xPts c (sh 3 c) fullShare (XG I)
        ∗ rows1 I c (sh 5 c)
        ∗ rows1 I c (sh 3 c)
        ∗ xPts c (sh 4 c) fullShare (XG I)
        ∗ semVal (dcell c 1 3) 0 -∗ Q ⟨⟩)
        -∗ WP c (agP3 c (WQ I c) (WK I c) (WV I c)) Q) := by
  iintro ⟨#HP, HO, T3, D3, Hang, Ha, Hb, Hra, Hrb, V3⟩ Hk
  unfold agP3
  ihave Ha := (x_split c (sh 5 c) (XG I)) $$ Ha; icases Ha with ⟨XA, Ha⟩
  rw [WP_bind]
  iapply (WP_agS I K c 3 (allX.drop 7) (sh 5 c) rfl fullShare.left rfl (sh 1 c) rfl _ (dev9_at c) rfl rfl _ _ (off6_at c 2)) $$ [HO T3 XA D3]
  · isplitr; · iexact HP
    isplitl [HO]; · iexact HO
    isplitl [T3]; · iexact T3
    isplitl [XA]; · iexact XA
    iexact D3
  iintro ⟨HO, W3⟩
  rw [WP_bind]
  iapply (WP_qkv I c (sh 5 c) fullShare.right _ _ _ _ _ _ (off8_at c 2) (off9_at c 2) (off10_at c 2) (off11_at c 2)) $$ [Hang Ha Hra]
  · isplitl [Hang]; · iexact Hang
    isplitl [Ha]; · iexact Ha
    iexact Hra
  iintro ⟨Hang, Ha, Hra⟩
  rw [WP_bind]
  iapply (WP_qkv I c (sh 3 c) fullShare _ _ _ _ _ _ (off12_at c 2) (off13_at c 2) (off14_at c 2) (off15_at c 2)) $$ [Hang Hb Hrb]
  · isplitl [Hang]; · iexact Hang
    isplitl [Hb]; · iexact Hb
    iexact Hrb
  iintro ⟨Hang, Hb, Hrb⟩
  iapply (WP_agW I K c 3 (allX.drop 7) (by decide) (sh 4 c) rfl rfl _ _) $$ [HO V3]
  · isplitr; · iexact HP
    isplitl [HO]; · iexact HO
    iexact V3
  iintro ⟨HO, YA, Z3⟩
  iapply Hk
  isplitl [HO]; · iexact HO
  isplitl [W3]; · iexact W3
  isplitl [Hang]; · iexact Hang
  isplitl [Ha]; · iexact Ha
  isplitl [Hb]; · iexact Hb
  isplitl [Hra]; · iexact Hra
  isplitl [Hrb]; · iexact Hrb
  isplitl [YA]; · iexact YA
  iexact Z3

/-- The last step of the gathering: every slot is whole again. -/
theorem WP_agP4 {Q : PUnit → sProp 𝕄} :
    iprop(PC I K
      ∗ owN c 7
      ∗ angles (F := F) c
      ∗ xPts c (sh 4 c) fullShare (XG I)
      ∗ rows0 (F := F) c (sh 4 c)
      ∗ xPts c c fullShare.right.right (XG I)
      ∗ xPts c (sh 7 c) fullShare.right (XG I)
      ∗ xPts c (sh 6 c) fullShare.right (XG I)
      ∗ xPts c (sh 5 c) fullShare.right (XG I)
      ∗ xPts c (sh 1 c) fullShare.right (XG I)
      ∗ xPts c (sh 2 c) fullShare.right (XG I)
      ∗ WT 0 0 c
      ∗ WT 0 1 c
      ∗ WT 0 2 c
      ∗ WT 0 3 c
      ∗ WT 0 4 c
      ∗ WT 0 5 c
      ∗ WT 0 6 c)
      ⊢ iprop((owN c 7
        ∗ angles c
        ∗ xPts c (sh 4 c) fullShare (XG I)
        ∗ rows1 I c (sh 4 c)
        ∗ xPts c c fullShare (XG I)
        ∗ xPts c (sh 7 c) fullShare (XG I)
        ∗ xPts c (sh 6 c) fullShare (XG I)
        ∗ xPts c (sh 5 c) fullShare (XG I)
        ∗ xPts c (sh 1 c) fullShare (XG I)
        ∗ xPts c (sh 2 c) fullShare (XG I)
        ∗ semVal (dcell c 0 0) 0
        ∗ semVal (dcell c 0 1) 0
        ∗ semVal (dcell c 0 2) 0
        ∗ semVal (dcell c 0 3) 0
        ∗ semVal (dcell c 0 4) 0
        ∗ semVal (dcell c 0 5) 0
        ∗ semVal (dcell c 0 6) 0 -∗ Q ⟨⟩)
        -∗ WP c (agP4 c (WQ I c) (WK I c) (WV I c)) Q) := by
  iintro ⟨#HP, HO, Hang, Ha, Hra, X0, X1, X2, X3, X5, X6, W0, W1, W2, W3, W4, W5, W6⟩ Hk
  unfold agP4
  rw [WP_bind]
  iapply (WP_qkv I c (sh 4 c) fullShare _ _ _ _ _ _ (off8_at c 3) (off9_at c 3) (off10_at c 3) (off11_at c 3)) $$ [Hang Ha Hra]
  · isplitl [Hang]; · iexact Hang
    isplitl [Ha]; · iexact Ha
    iexact Hra
  iintro ⟨Hang, Ha, Hra⟩
  rw [WP_bind]
  iapply (WP_agE I K c 0 (allX.drop 7) (by decide) c (agk_own c).1 fullShare.left rfl rfl _ _) $$ [HO W0]
  · isplitr; · iexact HP
    isplitl [HO]; · iexact HO
    iexact W0
  iintro ⟨HO, E0, Z0⟩
  rw [WP_bind]
  iapply (WP_agE I K c 4 (allX.drop 7) (by decide) c (agk_own c).2 fullShare.right.left rfl rfl _ _) $$ [HO W4]
  · isplitr; · iexact HP
    isplitl [HO]; · iexact HO
    iexact W4
  iintro ⟨HO, E4, Z4⟩
  rw [WP_bind]
  iapply (WP_agE I K c 1 (allX.drop 7) (by decide) (sh 7 c) rfl fullShare.left rfl rfl _ _) $$ [HO W1]
  · isplitr; · iexact HP
    isplitl [HO]; · iexact HO
    iexact W1
  iintro ⟨HO, E1, Z1⟩
  rw [WP_bind]
  iapply (WP_agE I K c 5 (allX.drop 7) (by decide) (sh 1 c) rfl fullShare.left rfl rfl _ _) $$ [HO W5]
  · isplitr; · iexact HP
    isplitl [HO]; · iexact HO
    iexact W5
  iintro ⟨HO, E5, Z5⟩
  rw [WP_bind]
  iapply (WP_agE I K c 2 (allX.drop 7) (by decide) (sh 6 c) rfl fullShare.left rfl rfl _ _) $$ [HO W2]
  · isplitr; · iexact HP
    isplitl [HO]; · iexact HO
    iexact W2
  iintro ⟨HO, E2, Z2⟩
  rw [WP_bind]
  iapply (WP_agE I K c 6 (allX.drop 7) (by decide) (sh 2 c) rfl fullShare.left rfl rfl _ _) $$ [HO W6]
  · isplitr; · iexact HP
    isplitl [HO]; · iexact HO
    iexact W6
  iintro ⟨HO, E6, Z6⟩
  iapply (WP_agE I K c 3 (allX.drop 7) (by decide) (sh 5 c) rfl fullShare.left rfl rfl _ _) $$ [HO W3]
  · isplitr; · iexact HP
    isplitl [HO]; · iexact HO
    iexact W3
  iintro ⟨HO, E3, Z3⟩
  ihave X0 := (x_joinR c c (XG I)) $$ [E4 X0]
  · isplitl [E4]; · iexact E4
    iexact X0
  ihave X0 := (x_join c c (XG I)) $$ [E0 X0]
  · isplitl [E0]; · iexact E0
    iexact X0
  ihave X1 := (x_join c (sh 7 c) (XG I)) $$ [E1 X1]
  · isplitl [E1]; · iexact E1
    iexact X1
  ihave X2 := (x_join c (sh 6 c) (XG I)) $$ [E2 X2]
  · isplitl [E2]; · iexact E2
    iexact X2
  ihave X3 := (x_join c (sh 5 c) (XG I)) $$ [E3 X3]
  · isplitl [E3]; · iexact E3
    iexact X3
  ihave X5 := (x_join c (sh 1 c) (XG I)) $$ [E5 X5]
  · isplitl [E5]; · iexact E5
    iexact X5
  ihave X6 := (x_join c (sh 2 c) (XG I)) $$ [E6 X6]
  · isplitl [E6]; · iexact E6
    iexact X6
  iapply Hk
  isplitl [HO]; · iexact HO
  isplitl [Hang]; · iexact Hang
  isplitl [Ha]; · iexact Ha
  isplitl [Hra]; · iexact Hra
  isplitl [X0]; · iexact X0
  isplitl [X1]; · iexact X1
  isplitl [X2]; · iexact X2
  isplitl [X3]; · iexact X3
  isplitl [X5]; · iexact X5
  isplitl [X6]; · iexact X6
  isplitl [Z0]; · iexact Z0
  isplitl [Z1]; · iexact Z1
  isplitl [Z2]; · iexact Z2
  isplitl [Z3]; · iexact Z3
  isplitl [Z4]; · iexact Z4
  isplitl [Z5]; · iexact Z5
  iexact Z6

/-! ## The scattering -/

/-- The first step of the scattering. -/
theorem WP_rsP0 {Q : PUnit → sProp 𝕄} :
    iprop(PC I K
      ∗ owN c 7
      ∗ allRows I c
      ∗ (∃ f, rPts (F := F) c 0 f)
      ∗ (∃ f, lPts (F := F) c 0 f)
      ∗ (∃ f, cPts (F := F) (sh 1 c) 0 f)
      ∗ (∃ f, cPts (F := F) (sh 7 c) 4 f)
      ∗ TS 2 3 0 c
      ∗ TS 2 3 4 c)
      ⊢ iprop((owN c 9
        ∗ allRows I c
        ∗ WT 2 0 c
        ∗ WT 2 4 c -∗ Q ⟨⟩)
        -∗ WP c (rsP0 c (WO I c)) Q) := by
  iintro ⟨#HP, HO, Hall, Hr, Hl, D0, D4, T0, T4⟩ Hk
  unfold rsP0
  rw [WP_bind]
  iapply (WP_att I c (sh 4 c) 0 rfl _ _ (off14_at c 3)) $$ Hall; iintro Hall
  rw [WP_bind]
  iapply (WP_att I c (sh 4 c) 1 rfl _ _ (off15_at c 3)) $$ Hall; iintro Hall
  rw [WP_bind]
  iapply (WP_att I c (sh 5 c) 0 rfl _ _ (off10_at c 2)) $$ Hall; iintro Hall
  rw [WP_bind]
  iapply (WP_att I c (sh 5 c) 1 rfl _ _ (off11_at c 2)) $$ Hall; iintro Hall
  rw [WP_bind]
  iapply (WP_putR0 I c 0 _ _ rfl rfl) $$ Hr; iintro Hr
  rw [WP_bind]
  iapply (WP_putR1 I c 0 _ _ rfl rfl) $$ Hr; iintro Hr
  rw [WP_bind]
  iapply (WP_rS I K c 0 0 rfl (allX.drop 8) (sh 1 c) rfl _ (dev10_at c) rfl rfl _ _ _ _ rfl rfl) $$ [HO T0 Hr D0]
  · isplitr; · iexact HP
    isplitl [HO]; · iexact HO
    isplitl [T0]; · iexact T0
    isplitl [Hr]; · iexact Hr
    iexact D0
  iintro ⟨HO, W0⟩
  rw [WP_bind]
  iapply (WP_putL0 I c 0 _ _ rfl rfl) $$ Hl; iintro Hl
  rw [WP_bind]
  iapply (WP_putL1 I c 0 _ _ rfl rfl) $$ Hl; iintro Hl
  iapply (WP_lS I K c 4 0 rfl (allX.drop 9) (sh 7 c) rfl _ (dev11_at c) rfl rfl _ _ _ _ rfl rfl) $$ [HO T4 Hl D4]
  · isplitr; · iexact HP
    isplitl [HO]; · iexact HO
    isplitl [T4]; · iexact T4
    isplitl [Hl]; · iexact Hl
    iexact D4
  iintro ⟨HO, W4⟩
  iapply Hk
  isplitl [HO]; · iexact HO
  isplitl [Hall]; · iexact Hall
  isplitl [W0]; · iexact W0
  iexact W4

/-- Step 1 of the scattering. -/
theorem WP_rsP1 {Q : PUnit → sProp 𝕄} :
    iprop(PC I K
      ∗ owN c 9
      ∗ allRows I c
      ∗ (∃ f, rPts (F := F) c 1 f)
      ∗ (∃ f, lPts (F := F) c 1 f)
      ∗ (∃ f, cPts (F := F) (sh 1 c) 1 f)
      ∗ (∃ f, cPts (F := F) (sh 7 c) 5 f)
      ∗ TS 2 3 1 c
      ∗ TS 2 3 5 c
      ∗ WT 3 0 c
      ∗ WT 3 4 c)
      ⊢ iprop((owN c 11
        ∗ allRows I c
        ∗ WT 2 1 c
        ∗ WT 2 5 c
        ∗ cPts c 0 (RSC I c)
        ∗ cPts c 4 (RSC I c)
        ∗ semVal (dcell c 3 0) 0
        ∗ semVal (dcell c 3 4) 0 -∗ Q ⟨⟩)
        -∗ WP c (rsP1 c (WO I c)) Q) := by
  iintro ⟨#HP, HO, Hall, Hr, Hl, D1, D5, T1, T5, V0, V4⟩ Hk
  unfold rsP1
  rw [WP_bind]
  iapply (WP_att I c (sh 3 c) 0 rfl _ _ (off16_at c 0)) $$ Hall; iintro Hall
  rw [WP_bind]
  iapply (WP_att I c (sh 3 c) 1 rfl _ _ (off17_at c 0)) $$ Hall; iintro Hall
  rw [WP_bind]
  iapply (WP_att I c (sh 6 c) 0 rfl _ _ (off18_at c 0)) $$ Hall; iintro Hall
  rw [WP_bind]
  iapply (WP_att I c (sh 6 c) 1 rfl _ _ (off19_at c 0)) $$ Hall; iintro Hall
  rw [WP_bind]
  iapply (WP_rsW I K c 4 (allX.drop 9) (by decide) rfl) $$ [HO V4]
  · isplitr; · iexact HP
    isplitl [HO]; · iexact HO
    iexact V4
  iintro ⟨HO, C4, Z4⟩
  rw [WP_bind]
  iapply (WP_rsW I K c 0 (allX.drop 9) (by decide) rfl) $$ [HO V0]
  · isplitr; · iexact HP
    isplitl [HO]; · iexact HO
    iexact V0
  iintro ⟨HO, C0, Z0⟩
  rw [WP_bind]
  iapply (WP_cLoadR I c 0 (by decide) 0 _ rfl) $$ C0; iintro C0
  rw [WP_bind]
  iapply (WP_cLoadR I c 0 (by decide) 1 _ rfl) $$ C0; iintro C0
  rw [WP_bind]
  iapply (WP_cLoadL I c 4 0 rfl 0 _ rfl) $$ C4; iintro C4
  rw [WP_bind]
  iapply (WP_cLoadL I c 4 0 rfl 1 _ rfl) $$ C4; iintro C4
  rw [WP_bind]
  iapply (WP_putR0 I c 1 _ _ rfl rfl) $$ Hr; iintro Hr
  rw [WP_bind]
  iapply (WP_putR1 I c 1 _ _ rfl rfl) $$ Hr; iintro Hr
  rw [WP_bind]
  iapply (WP_rS I K c 1 1 rfl (allX.drop 10) (sh 1 c) rfl _ (dev12_at c) rfl rfl _ _ _ _ rfl rfl) $$ [HO T1 Hr D1]
  · isplitr; · iexact HP
    isplitl [HO]; · iexact HO
    isplitl [T1]; · iexact T1
    isplitl [Hr]; · iexact Hr
    iexact D1
  iintro ⟨HO, W1⟩
  rw [WP_bind]
  iapply (WP_putL0 I c 1 _ _ rfl rfl) $$ Hl; iintro Hl
  rw [WP_bind]
  iapply (WP_putL1 I c 1 _ _ rfl rfl) $$ Hl; iintro Hl
  iapply (WP_lS I K c 5 1 rfl (allX.drop 11) (sh 7 c) rfl _ (dev13_at c) rfl rfl _ _ _ _ rfl rfl) $$ [HO T5 Hl D5]
  · isplitr; · iexact HP
    isplitl [HO]; · iexact HO
    isplitl [T5]; · iexact T5
    isplitl [Hl]; · iexact Hl
    iexact D5
  iintro ⟨HO, W5⟩
  iapply Hk
  isplitl [HO]; · iexact HO
  isplitl [Hall]; · iexact Hall
  isplitl [W1]; · iexact W1
  isplitl [W5]; · iexact W5
  isplitl [C0]; · iexact C0
  isplitl [C4]; · iexact C4
  isplitl [Z0]; · iexact Z0
  iexact Z4

/-- Step 2 of the scattering. -/
theorem WP_rsP2 {Q : PUnit → sProp 𝕄} :
    iprop(PC I K
      ∗ owN c 11
      ∗ allRows I c
      ∗ (∃ f, rPts (F := F) c 2 f)
      ∗ (∃ f, lPts (F := F) c 2 f)
      ∗ (∃ f, cPts (F := F) (sh 1 c) 2 f)
      ∗ (∃ f, cPts (F := F) (sh 7 c) 6 f)
      ∗ TS 2 3 2 c
      ∗ TS 2 3 6 c
      ∗ WT 3 1 c
      ∗ WT 3 5 c)
      ⊢ iprop((owN c 13
        ∗ allRows I c
        ∗ WT 2 2 c
        ∗ WT 2 6 c
        ∗ cPts c 1 (RSC I c)
        ∗ cPts c 5 (RSC I c)
        ∗ semVal (dcell c 3 1) 0
        ∗ semVal (dcell c 3 5) 0 -∗ Q ⟨⟩)
        -∗ WP c (rsP2 c (WO I c)) Q) := by
  iintro ⟨#HP, HO, Hall, Hr, Hl, D2, D6, T2, T6, V1, V5⟩ Hk
  unfold rsP2
  rw [WP_bind]
  iapply (WP_att I c (sh 2 c) 0 rfl _ _ (off16_at c 1)) $$ Hall; iintro Hall
  rw [WP_bind]
  iapply (WP_att I c (sh 2 c) 1 rfl _ _ (off17_at c 1)) $$ Hall; iintro Hall
  rw [WP_bind]
  iapply (WP_att I c (sh 7 c) 0 rfl _ _ (off18_at c 1)) $$ Hall; iintro Hall
  rw [WP_bind]
  iapply (WP_att I c (sh 7 c) 1 rfl _ _ (off19_at c 1)) $$ Hall; iintro Hall
  rw [WP_bind]
  iapply (WP_rsW I K c 5 (allX.drop 11) (by decide) rfl) $$ [HO V5]
  · isplitr; · iexact HP
    isplitl [HO]; · iexact HO
    iexact V5
  iintro ⟨HO, C5, Z5⟩
  rw [WP_bind]
  iapply (WP_rsW I K c 1 (allX.drop 11) (by decide) rfl) $$ [HO V1]
  · isplitr; · iexact HP
    isplitl [HO]; · iexact HO
    iexact V1
  iintro ⟨HO, C1, Z1⟩
  rw [WP_bind]
  iapply (WP_cLoadR I c 1 (by decide) 0 _ rfl) $$ C1; iintro C1
  rw [WP_bind]
  iapply (WP_cLoadR I c 1 (by decide) 1 _ rfl) $$ C1; iintro C1
  rw [WP_bind]
  iapply (WP_cLoadL I c 5 1 rfl 0 _ rfl) $$ C5; iintro C5
  rw [WP_bind]
  iapply (WP_cLoadL I c 5 1 rfl 1 _ rfl) $$ C5; iintro C5
  rw [WP_bind]
  iapply (WP_putR0 I c 2 _ _ rfl rfl) $$ Hr; iintro Hr
  rw [WP_bind]
  iapply (WP_putR1 I c 2 _ _ rfl rfl) $$ Hr; iintro Hr
  rw [WP_bind]
  iapply (WP_rS I K c 2 2 rfl (allX.drop 12) (sh 1 c) rfl _ (dev14_at c) rfl rfl _ _ _ _ rfl rfl) $$ [HO T2 Hr D2]
  · isplitr; · iexact HP
    isplitl [HO]; · iexact HO
    isplitl [T2]; · iexact T2
    isplitl [Hr]; · iexact Hr
    iexact D2
  iintro ⟨HO, W2⟩
  rw [WP_bind]
  iapply (WP_putL0 I c 2 _ _ rfl rfl) $$ Hl; iintro Hl
  rw [WP_bind]
  iapply (WP_putL1 I c 2 _ _ rfl rfl) $$ Hl; iintro Hl
  iapply (WP_lS I K c 6 2 rfl (allX.drop 13) (sh 7 c) rfl _ (dev15_at c) rfl rfl _ _ _ _ rfl rfl) $$ [HO T6 Hl D6]
  · isplitr; · iexact HP
    isplitl [HO]; · iexact HO
    isplitl [T6]; · iexact T6
    isplitl [Hl]; · iexact Hl
    iexact D6
  iintro ⟨HO, W6⟩
  iapply Hk
  isplitl [HO]; · iexact HO
  isplitl [Hall]; · iexact Hall
  isplitl [W2]; · iexact W2
  isplitl [W6]; · iexact W6
  isplitl [C1]; · iexact C1
  isplitl [C5]; · iexact C5
  isplitl [Z1]; · iexact Z1
  iexact Z5

/-- Step 3 of the scattering. -/
theorem WP_rsP3 {Q : PUnit → sProp 𝕄} :
    iprop(PC I K
      ∗ owN c 13
      ∗ allRows I c
      ∗ (∃ f, rPts (F := F) c 3 f)
      ∗ (∃ f, cPts (F := F) (sh 1 c) 3 f)
      ∗ TS 2 3 3 c
      ∗ WT 3 6 c
      ∗ WT 3 2 c)
      ⊢ iprop((owN c 14
        ∗ allRows I c
        ∗ WT 2 3 c
        ∗ cPts c 2 (RSC I c)
        ∗ cPts c 6 (RSC I c)
        ∗ semVal (dcell c 3 2) 0
        ∗ semVal (dcell c 3 6) 0 -∗ Q ⟨⟩)
        -∗ WP c (rsP3 c (WO I c)) Q) := by
  iintro ⟨#HP, HO, Hall, Hr, D3, T3, V6, V2⟩ Hk
  unfold rsP3
  rw [WP_bind]
  iapply (WP_att I c (sh 1 c) 0 rfl _ _ (off16_at c 2)) $$ Hall; iintro Hall
  rw [WP_bind]
  iapply (WP_att I c (sh 1 c) 1 rfl _ _ (off17_at c 2)) $$ Hall; iintro Hall
  rw [WP_bind]
  iapply (WP_rsW I K c 6 (allX.drop 13) (by decide) rfl) $$ [HO V6]
  · isplitr; · iexact HP
    isplitl [HO]; · iexact HO
    iexact V6
  iintro ⟨HO, C6, Z6⟩
  rw [WP_bind]
  iapply (WP_rsW I K c 2 (allX.drop 13) (by decide) rfl) $$ [HO V2]
  · isplitr; · iexact HP
    isplitl [HO]; · iexact HO
    iexact V2
  iintro ⟨HO, C2, Z2⟩
  rw [WP_bind]
  iapply (WP_cLoadR I c 2 (by decide) 0 _ rfl) $$ C2; iintro C2
  rw [WP_bind]
  iapply (WP_cLoadR I c 2 (by decide) 1 _ rfl) $$ C2; iintro C2
  rw [WP_bind]
  iapply (WP_putR0 I c 3 _ _ rfl rfl) $$ Hr; iintro Hr
  rw [WP_bind]
  iapply (WP_putR1 I c 3 _ _ rfl rfl) $$ Hr; iintro Hr
  iapply (WP_rS I K c 3 3 rfl (allX.drop 14) (sh 1 c) rfl _ (dev16_at c) rfl rfl _ _ _ _ rfl rfl) $$ [HO T3 Hr D3]
  · isplitr; · iexact HP
    isplitl [HO]; · iexact HO
    isplitl [T3]; · iexact T3
    isplitl [Hr]; · iexact Hr
    iexact D3
  iintro ⟨HO, W3⟩
  iapply Hk
  isplitl [HO]; · iexact HO
  isplitl [Hall]; · iexact Hall
  isplitl [W3]; · iexact W3
  isplitl [C2]; · iexact C2
  isplitl [C6]; · iexact C6
  isplitl [Z2]; · iexact Z2
  iexact Z6

/-- The last step of the scattering: the result. -/
theorem WP_rsP4 {Q : PUnit → sProp 𝕄} :
    iprop(PC I K
      ∗ owN c 14
      ∗ allRows I c
      ∗ (∃ f, whole (F := F) c cc0_stg5_0 f)
      ∗ cPts c 6 (RSC I c)
      ∗ WT 3 3 c
      ∗ WT 2 0 c
      ∗ WT 2 1 c
      ∗ WT 2 2 c
      ∗ WT 2 3 c
      ∗ WT 2 4 c
      ∗ WT 2 5 c
      ∗ WT 2 6 c)
      ⊢ iprop((owN c 14
        ∗ allRows I c
        ∗ whole c cc0_stg5_0 (OUT I c)
        ∗ cPts c 3 (RSC I c)
        ∗ cPts c 6 (RSC I c)
        ∗ semVal (dcell c 3 3) 0
        ∗ sPts I c 0
        ∗ sPts I c 1
        ∗ sPts I c 2
        ∗ sPts I c 3
        ∗ sPts I c 4
        ∗ sPts I c 5
        ∗ sPts I c 6
        ∗ semVal (dcell c 2 0) 0
        ∗ semVal (dcell c 2 1) 0
        ∗ semVal (dcell c 2 2) 0
        ∗ semVal (dcell c 2 3) 0
        ∗ semVal (dcell c 2 4) 0
        ∗ semVal (dcell c 2 5) 0
        ∗ semVal (dcell c 2 6) 0 -∗ Q ⟨⟩)
        -∗ WP c (rsP4 c (Memref.whole cc0_stg5_0) (WO I c)) Q) := by
  iintro ⟨#HP, HO, Hall, Ho, C6, V3, W0, W1, W2, W3, W4, W5, W6⟩ Hk
  unfold rsP4
  rw [WP_bind]
  iapply (WP_att I c c 0 rfl _ _ ((off16_at c 3).trans (by rw [show (3 : ℕ) - (3 : Fin 4).val = 0 from rfl, sh_zero]; rfl))) $$ Hall; iintro Hall
  rw [WP_bind]
  iapply (WP_att I c c 1 rfl _ _ ((off17_at c 3).trans (by rw [show (3 : ℕ) - (3 : Fin 4).val = 0 from rfl, sh_zero]; rfl))) $$ Hall; iintro Hall
  rw [WP_bind]
  iapply (WP_rsW I K c 3 (allX.drop 14) (by decide) rfl) $$ [HO V3]
  · isplitr; · iexact HP
    isplitl [HO]; · iexact HO
    iexact V3
  iintro ⟨HO, C3, Z33⟩
  rw [WP_bind]
  iapply (WP_cLoadR I c 3 (by decide) 0 _ rfl) $$ C3; iintro C3
  rw [WP_bind]
  iapply (WP_cLoadL I c 6 2 rfl 0 _ rfl) $$ C6; iintro C6
  rw [WP_bind]
  iapply (WP_putO0 I c rfl) $$ Ho; iintro Ho
  rw [WP_bind]
  iapply (WP_cLoadR I c 3 (by decide) 1 _ rfl) $$ C3; iintro C3
  rw [WP_bind]
  iapply (WP_cLoadL I c 6 2 rfl 1 _ rfl) $$ C6; iintro C6
  rw [WP_bind]
  iapply (WP_putO1 I c rfl) $$ Ho; iintro Ho
  rw [WP_bind]
  iapply (WP_rsEr I K c 0 (allX.drop 14) (by decide) rfl) $$ [HO W0]
  · isplitr; · iexact HP
    isplitl [HO]; · iexact HO
    iexact W0
  iintro ⟨HO, S0, Z0⟩
  rw [WP_bind]
  iapply (WP_rsEl I K c 4 (allX.drop 14) (by decide) rfl) $$ [HO W4]
  · isplitr; · iexact HP
    isplitl [HO]; · iexact HO
    iexact W4
  iintro ⟨HO, S4, Z4⟩
  rw [WP_bind]
  iapply (WP_rsEr I K c 1 (allX.drop 14) (by decide) rfl) $$ [HO W1]
  · isplitr; · iexact HP
    isplitl [HO]; · iexact HO
    iexact W1
  iintro ⟨HO, S1, Z1⟩
  rw [WP_bind]
  iapply (WP_rsEl I K c 5 (allX.drop 14) (by decide) rfl) $$ [HO W5]
  · isplitr; · iexact HP
    isplitl [HO]; · iexact HO
    iexact W5
  iintro ⟨HO, S5, Z5⟩
  rw [WP_bind]
  iapply (WP_rsEr I K c 2 (allX.drop 14) (by decide) rfl) $$ [HO W2]
  · isplitr; · iexact HP
    isplitl [HO]; · iexact HO
    iexact W2
  iintro ⟨HO, S2, Z2⟩
  rw [WP_bind]
  iapply (WP_rsEl I K c 6 (allX.drop 14) (by decide) rfl) $$ [HO W6]
  · isplitr; · iexact HP
    isplitl [HO]; · iexact HO
    iexact W6
  iintro ⟨HO, S6, Z6⟩
  iapply (WP_rsEr I K c 3 (allX.drop 14) (by decide) rfl) $$ [HO W3]
  · isplitr; · iexact HP
    isplitl [HO]; · iexact HO
    iexact W3
  iintro ⟨HO, S3, Z3⟩
  iapply Hk
  isplitl [HO]; · iexact HO
  isplitl [Hall]; · iexact Hall
  isplitl [Ho]; · iexact Ho
  isplitl [C3]; · iexact C3
  isplitl [C6]; · iexact C6
  isplitl [Z33]; · iexact Z33
  isplitl [S0]; · iexact S0
  isplitl [S1]; · iexact S1
  isplitl [S2]; · iexact S2
  isplitl [S3]; · iexact S3
  isplitl [S4]; · iexact S4
  isplitl [S5]; · iexact S5
  isplitl [S6]; · iexact S6
  isplitl [Z0]; · iexact Z0
  isplitl [Z1]; · iexact Z1
  isplitl [Z2]; · iexact Z2
  isplitl [Z3]; · iexact Z3
  isplitl [Z4]; · iexact Z4
  isplitl [Z5]; · iexact Z5
  iexact Z6

end Cert.Proof

end
-- ==== Proof.Body.lean ====
/- The whole body: the buffers cut into the slots and rows the phases work on, the phases one after the other, and the
   buffers put back together. -/
module

public import proofs.«01_k».proof.Proof.Phases
public import Idealize.ShloMosaic.Lib.Ring

@[expose] public section

noncomputable section

namespace Cert.Proof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (I : Inp F) (K : Dev nD × Option (Fin 4 × Fin 7) → ℕ) (c : Dev nD)

/-! ## Cutting the buffers and joining them -/

/-- The devices counted from `c` to the right. -/
def around : Fin 8 ≃ Dev nD where
  toFun n := sh n.val c
  invFun d := ⟨(d.val + 8 - c.val) % 8, Nat.mod_lt _ (by decide)⟩
  left_inv n := by
    apply Fin.ext; have h := n.isLt; have h' : c.val < 8 := c.isLt; show ((c.val + n.val) % 8 + 8 - c.val) % 8 = n.val; omega
  right_inv d := by
    apply Fin.ext; have h : d.val < 8 := d.isLt; have h' : c.val < 8 := c.isLt; show (c.val + (d.val + 8 - c.val) % 8) % 8 = d.val; omega

theorem all8 (P : Dev nD → sProp 𝕄) :
    bigSep Finset.univ P = iprop(P c ∗ P (sh 1 c) ∗ P (sh 2 c) ∗ P (sh 3 c) ∗ P (sh 4 c) ∗ P (sh 5 c) ∗ P (sh 6 c) ∗ P (sh 7 c)) := by
  rw [bigSep_univ_equiv (around c) P, bigSep_univ_eq_bigSepL [(0 : Fin 8), 1, 2, 3, 4, 5, 6, 7] (by decide) (by decide)]
  simp only [bigSepL_cons_cons, bigSepL_singleton]
  have h0 : around c 0 = c := sh_zero c
  rw [h0]; rfl
theorem all7 (P : Fin 7 → sProp 𝕄) : bigSep Finset.univ P = iprop(P 0 ∗ P 1 ∗ P 2 ∗ P 3 ∗ P 4 ∗ P 5 ∗ P 6) := by
  rw [bigSep_univ_eq_bigSepL [(0 : Fin 7), 1, 2, 3, 4, 5, 6] (by decide) (by decide)]; rfl
theorem all4 (P : Fin 4 → sProp 𝕄) : bigSep Finset.univ P = iprop(P 0 ∗ P 1 ∗ P 2 ∗ P 3) := by
  rw [bigSep_univ_eq_bigSepL [(0 : Fin 4), 1, 2, 3] (by decide) (by decide)]; rfl
theorem all3 (P : Fin 3 → sProp 𝕄) : bigSep Finset.univ P = iprop(P 0 ∗ P 1 ∗ P 2) := by
  rw [bigSep_univ_eq_bigSepL [(0 : Fin 3), 1, 2] (by decide) (by decide)]; rfl

theorem x_cut (f : S8x2x128x512.Idx → F .bf16) : (whole c cc0_scratch0 f : sProp 𝕄) = bigSep Finset.univ fun k => xPts c k fullShare f := by
  unfold xPts xSet; exact Ring.pointsTo_blocks _ (fib_disjoint xCo) (fib_cover xCo) _
theorem q_cut (f : S2x1024x256.Idx → F .bf16) : (whole c cc0_scratch1 f : sProp 𝕄) = bigSep Finset.univ fun k => qPts c k f := by
  unfold qPts qSet; exact Ring.pointsTo_blocks _ (fib_disjoint qCo) (fib_cover qCo) _
theorem k_cut (f : S2x1024x256.Idx → F .bf16) : (whole c cc0_scratch2 f : sProp 𝕄) = bigSep Finset.univ fun k => kPts c k f := by
  unfold kPts qSet; exact Ring.pointsTo_blocks _ (fib_disjoint qCo) (fib_cover qCo) _
theorem v_cut (f : S2x1024x256.Idx → F .bf16) : (whole c cc0_scratch3 f : sProp 𝕄) = bigSep Finset.univ fun k => vPts c k f := by
  unfold vPts qSet; exact Ring.pointsTo_blocks _ (fib_disjoint qCo) (fib_cover qCo) _
theorem r_cut (f : S4x2x128x512.Idx → F .bf16) : (whole c cc0_scratch6 f : sProp 𝕄) = bigSep Finset.univ fun s => rPts c s f := by
  unfold rPts rSet; exact Ring.pointsTo_blocks _ (fib_disjoint rCo) (fib_cover rCo) _
theorem l_cut (f : S3x2x128x512.Idx → F .bf16) : (whole c cc0_scratch7 f : sProp 𝕄) = bigSep Finset.univ fun s => lPts c s f := by
  unfold lPts lSet; exact Ring.pointsTo_blocks _ (fib_disjoint lCo) (fib_cover lCo) _
theorem c_cut (f : S7x2x128x512.Idx → F .bf16) : (whole c cc0_scratch8 f : sProp 𝕄) = bigSep Finset.univ fun s => cPts c s f := by
  unfold cPts cSet; exact Ring.pointsTo_blocks _ (fib_disjoint cCo) (fib_cover cCo) _

/-- Blocks held at one contents are blocks held at some. -/
theorem some_each {B : Type} [Fintype B] {A : Type} (P : B → A → sProp 𝕄) (f : A) :
    bigSep Finset.univ (fun b => P b f) ⊢ bigSep Finset.univ fun b => iprop(∃ f, P b f) :=
  bigSep_mono fun b _ => exists_intro (Φ := fun g => P b g) f

theorem x_out : (iprop(∃ f, whole (F := F) c cc0_scratch0 f) : sProp 𝕄) ⊢ bigSep Finset.univ fun k => iprop(∃ f, xPts (F := F) c k fullShare f) := by
  iintro ⟨%f, H⟩; iapply (some_each (F := F) (fun k g => xPts c k fullShare g) f); iapply (Entails.of_eq (x_cut (F := F) c f)); iexact H
theorem r_out : (iprop(∃ f, whole (F := F) c cc0_scratch6 f) : sProp 𝕄) ⊢ bigSep Finset.univ fun k => iprop(∃ f, rPts (F := F) c k f) := by
  iintro ⟨%f, H⟩; iapply (some_each (F := F) (fun k g => rPts c k g) f); iapply (Entails.of_eq (r_cut (F := F) c f)); iexact H
theorem l_out : (iprop(∃ f, whole (F := F) c cc0_scratch7 f) : sProp 𝕄) ⊢ bigSep Finset.univ fun k => iprop(∃ f, lPts (F := F) c k f) := by
  iintro ⟨%f, H⟩; iapply (some_each (F := F) (fun k g => lPts c k g) f); iapply (Entails.of_eq (l_cut (F := F) c f)); iexact H
theorem c_out : (iprop(∃ f, whole (F := F) c cc0_scratch8 f) : sProp 𝕄) ⊢ bigSep Finset.univ fun k => iprop(∃ f, cPts (F := F) c k f) := by
  iintro ⟨%f, H⟩; iapply (some_each (F := F) (fun k g => cPts c k g) f); iapply (Entails.of_eq (c_cut (F := F) c f)); iexact H
theorem rows_out : (iprop((∃ f, whole (F := F) c cc0_scratch1 f) ∗ (∃ f, whole (F := F) c cc0_scratch2 f) ∗ (∃ f, whole (F := F) c cc0_scratch3 f)) : sProp 𝕄)
    ⊢ bigSep Finset.univ fun k => rows0 (F := F) c k := by
  unfold rows0
  rw [bigSep_sep', bigSep_sep']
  iintro ⟨⟨%f, Hq⟩, ⟨%g, Hk⟩, ⟨%h, Hv⟩⟩
  isplitl [Hq]
  · iapply (some_each (F := F) (fun k g => qPts c k g) f); iapply (Entails.of_eq (q_cut (F := F) c f)); iexact Hq
  isplitl [Hk]
  · iapply (some_each (F := F) (fun k g => kPts c k g) g); iapply (Entails.of_eq (k_cut (F := F) c g)); iexact Hk
  iapply (some_each (F := F) (fun k g => vPts c k g) h); iapply (Entails.of_eq (v_cut (F := F) c h)); iexact Hv
theorem rows_in : (bigSep Finset.univ fun k => rows1 I c k) ⊢ allRows I c := by
  unfold rows1 allRows
  rw [bigSep_sep', bigSep_sep', q_cut, k_cut, v_cut]

/-- The slots of transfer `i` at the neighbour. -/
theorem hand_out (i : Fin 7) (n k : Dev nD) (hn : nbr i c = n) (hk : agk i c = k) :
    (hand i n : sProp 𝕄) ⊢ iprop((∃ f, xPts (F := F) n k fullShare f) ∗ (∃ f, cPts (F := F) n i f)) := by
  subst hn hk; unfold hand; rw [rsl_nbr]

/-! ## The start and the barrier -/

theorem WP_woLoad (b : Ref sig .tc) (m : Memref sig .tc .vmem S256x512 .f32) {q : PosShare TreeShare} (f : Buf (Elt F) (m.view.loc (c : Thread nD τ)))
    {Q : Vec F S256x512 .f32 → sProp 𝕄} :
    (m.view.loc (c : Thread nD τ) ↦{q} f)
      ⊢ iprop(((m.view.loc (c : Thread nD τ) ↦{q} f)
          -∗ Q (m.view.readAt (Elt F) (Rect.unit (s := S256x512) ![0, 0] S256x512.size inb_S256x512_S256x512_0_0).toLoadRect f)) -∗ WP c (woLoad m) Q) :=
  WP_load c (Finset.subset_univ _)
theorem read_stg1 (f : S512x256.Idx → F .f32) {h} :
    (Memref.whole cc0_stg1_0 : Memref sig .tc _ _ _).view.readAt (Elt F) (Rect.unit (s := S512x256) ![0, 0] S512x256.size h).toLoadRect f = f :=
  Memref.readAt_unit_zero (Elt F) cc0_stg1_0 hz2 _ f
theorem read_stg2 (f : S512x256.Idx → F .f32) {h} :
    (Memref.whole cc0_stg2_0 : Memref sig .tc _ _ _).view.readAt (Elt F) (Rect.unit (s := S512x256) ![0, 0] S512x256.size h).toLoadRect f = f :=
  Memref.readAt_unit_zero (Elt F) cc0_stg2_0 hz2 _ f
theorem read_stg3 (f : S512x256.Idx → F .f32) {h} :
    (Memref.whole cc0_stg3_0 : Memref sig .tc _ _ _).view.readAt (Elt F) (Rect.unit (s := S512x256) ![0, 0] S512x256.size h).toLoadRect f = f :=
  Memref.readAt_unit_zero (Elt F) cc0_stg3_0 hz2 _ f
theorem read_stg4 (f : S256x512.Idx → F .f32) {h} :
    (Memref.whole cc0_stg4_0 : Memref sig .tc _ _ _).view.readAt (Elt F) (Rect.unit (s := S256x512) ![0, 0] S256x512.size h).toLoadRect f = f :=
  Memref.readAt_unit_zero (Elt F) cc0_stg4_0 hz2 _ f

theorem WP_wq {Q : Vec F S512x256 .f32 → sProp 𝕄} :
    (whole c cc0_stg1_0 (I.wq c) : sProp 𝕄) ⊢ iprop((whole c cc0_stg1_0 (I.wq c) -∗ Q (I.wq c)) -∗ WP c (wLoad (Memref.whole cc0_stg1_0)) Q) := by
  iintro H Hk
  iapply (WP_wLoad (F := F) c cc0_stg1_0 (Memref.whole cc0_stg1_0) (I.wq c)) $$ H; iintro H
  ihave G := Hk $$ [H]
  · iexact H
  iapply (Entails.of_eq (congrArg Q (read_stg1 (F := F) (I.wq c)).symm)); iexact G

theorem WP_wk {Q : Vec F S512x256 .f32 → sProp 𝕄} :
    (whole c cc0_stg2_0 (I.wk c) : sProp 𝕄) ⊢ iprop((whole c cc0_stg2_0 (I.wk c) -∗ Q (I.wk c)) -∗ WP c (wLoad (Memref.whole cc0_stg2_0)) Q) := by
  iintro H Hk
  iapply (WP_wLoad (F := F) c cc0_stg2_0 (Memref.whole cc0_stg2_0) (I.wk c)) $$ H; iintro H
  ihave G := Hk $$ [H]
  · iexact H
  iapply (Entails.of_eq (congrArg Q (read_stg2 (F := F) (I.wk c)).symm)); iexact G

theorem WP_wv {Q : Vec F S512x256 .f32 → sProp 𝕄} :
    (whole c cc0_stg3_0 (I.wv c) : sProp 𝕄) ⊢ iprop((whole c cc0_stg3_0 (I.wv c) -∗ Q (I.wv c)) -∗ WP c (wLoad (Memref.whole cc0_stg3_0)) Q) := by
  iintro H Hk
  iapply (WP_wLoad (F := F) c cc0_stg3_0 (Memref.whole cc0_stg3_0) (I.wv c)) $$ H; iintro H
  ihave G := Hk $$ [H]
  · iexact H
  iapply (Entails.of_eq (congrArg Q (read_stg3 (F := F) (I.wv c)).symm)); iexact G

theorem WP_wo {Q : Vec F S256x512 .f32 → sProp 𝕄} :
    (whole c cc0_stg4_0 (I.wo c) : sProp 𝕄) ⊢ iprop((whole c cc0_stg4_0 (I.wo c) -∗ Q (I.wo c)) -∗ WP c (woLoad (Memref.whole cc0_stg4_0)) Q) := by
  iintro H Hk
  iapply (WP_woLoad (F := F) c cc0_stg4_0 (Memref.whole cc0_stg4_0) (I.wo c)) $$ H; iintro H
  ihave G := Hk $$ [H]
  · iexact H
  iapply (Entails.of_eq (congrArg Q (read_stg4 (F := F) (I.wo c)).symm)); iexact G

/-- The two signals: each hands a neighbour the slots it will write. -/
theorem WP_barSigs (W : Waits sig Unit) {Q : PUnit → sProp 𝕄} :
    iprop(PC I K ∗ owes (c : Thread nD τ) (O₀ c) W ∗ dutyTok ER (barCell (sh 7 c)) 0 true ∗ dutyTok ER (barCell (sh 1 c)) 0 false ∗ handR c ∗ handL c)
      ⊢ iprop((owes (c : Thread nD τ) (oweL c allX) W -∗ Q ⟨⟩) -∗ WP (F := F) c (barSig c) Q) := by
  iintro ⟨#HP, HO, T7, T1, HR, HL⟩ Hk
  have e7 : sh 1 (sh 7 c) = c := by rw [sh_sh]; exact sh_eight c
  have e1 : sh 7 (sh 1 c) = c := by rw [sh_sh]; exact sh_eight c
  unfold PC barSig
  icases HP with ⟨#HRc, -⟩
  rw [WP_bind]
  iapply (WP_barSig I K c (sh 7 c) _ (dev1_at c) true (O₁ c) W) $$ [HO T7 HR]
  · isplitr; · iexact HRc
    isplitl [HO]; · iexact HO
    isplitl [T7]; · iexact T7
    unfold payB; dsimp only; rw [e7]; iexact HR
  iintro HO
  iapply (WP_barSig I K c (sh 1 c) _ (dev2_at c) false (oweL c allX) W) $$ [HO T1 HL]
  · isplitr; · iexact HRc
    isplitl [HO]; · iexact HO
    isplitl [T1]; · iexact T1
    unfold payB; dsimp only; rw [e1]; iexact HL
  iexact Hk

/-! ## The whole body -/

/-- The tokens and places a device starts with. -/
def tokens : sProp 𝕄 :=
  iprop(dutyTok ER (barCell (sh 7 c)) 0 true ∗ dutyTok ER (barCell (sh 1 c)) 0 false ∗ atPos ER (barCell c) 0 ∅ 0
    ∗ (TS 0 1 0 c ∗ TS 0 1 1 c ∗ TS 0 1 2 c ∗ TS 0 1 3 c ∗ TS 0 1 4 c ∗ TS 0 1 5 c ∗ TS 0 1 6 c)
    ∗ (TS 2 3 0 c ∗ TS 2 3 1 c ∗ TS 2 3 2 c ∗ TS 2 3 3 c ∗ TS 2 3 4 c ∗ TS 2 3 5 c ∗ TS 2 3 6 c)
    ∗ (atPos ER (dcell c 1 0) 0 ∅ 0 ∗ atPos ER (dcell c 1 1) 0 ∅ 0 ∗ atPos ER (dcell c 1 2) 0 ∅ 0 ∗ atPos ER (dcell c 1 3) 0 ∅ 0 ∗ atPos ER (dcell c 1 4) 0 ∅ 0 ∗ atPos ER (dcell c 1 5) 0 ∅ 0 ∗ atPos ER (dcell c 1 6) 0 ∅ 0)
    ∗ (atPos ER (dcell c 3 0) 0 ∅ 0 ∗ atPos ER (dcell c 3 1) 0 ∅ 0 ∗ atPos ER (dcell c 3 2) 0 ∅ 0 ∗ atPos ER (dcell c 3 3) 0 ∅ 0 ∗ atPos ER (dcell c 3 4) 0 ∅ 0 ∗ atPos ER (dcell c 3 5) 0 ∅ 0 ∗ atPos ER (dcell c 3 6) 0 ∅ 0))
/-- The credits a device waits with. -/
def credits : sProp 𝕄 :=
  iprop(cred (tallyAt (barCell c) () 2)
    ∗ (cred (tallyAt (dcell c 1 0) () N) ∗ cred (tallyAt (dcell c 1 1) () N) ∗ cred (tallyAt (dcell c 1 2) () N) ∗ cred (tallyAt (dcell c 1 3) () N) ∗ cred (tallyAt (dcell c 1 4) () N) ∗ cred (tallyAt (dcell c 1 5) () N) ∗ cred (tallyAt (dcell c 1 6) () N))
    ∗ (cred (tallyAt (dcell c 3 0) () N) ∗ cred (tallyAt (dcell c 3 1) () N) ∗ cred (tallyAt (dcell c 3 2) () N) ∗ cred (tallyAt (dcell c 3 3) () N) ∗ cred (tallyAt (dcell c 3 4) () N) ∗ cred (tallyAt (dcell c 3 5) () N) ∗ cred (tallyAt (dcell c 3 6) () N)))
/-- The working buffers. -/
def scratch : sProp 𝕄 :=
  iprop((∃ f, whole (F := F) c cc0_scratch0 f) ∗ (∃ f, whole (F := F) c cc0_scratch1 f) ∗ (∃ f, whole (F := F) c cc0_scratch2 f) ∗ (∃ f, whole (F := F) c cc0_scratch3 f)
    ∗ (∃ f, whole (F := F) c cc0_scratch4 f) ∗ (∃ f, whole (F := F) c cc0_scratch5 f) ∗ (∃ f, whole (F := F) c cc0_scratch6 f) ∗ (∃ f, whole (F := F) c cc0_scratch7 f) ∗ (∃ f, whole (F := F) c cc0_scratch8 f))
/-- The staged inputs. -/
def staged : sProp 𝕄 :=
  iprop(whole c cc0_stg0_0 (I.x c) ∗ whole c cc0_stg1_0 (I.wq c) ∗ whole c cc0_stg2_0 (I.wk c) ∗ whole c cc0_stg3_0 (I.wv c) ∗ whole c cc0_stg4_0 (I.wo c))
/-- The counters of kind `k` at zero. -/
def zeros (k : Fin 4) : sProp 𝕄 :=
  iprop(semVal (dcell c k 0) 0 ∗ semVal (dcell c k 1) 0 ∗ semVal (dcell c k 2) 0 ∗ semVal (dcell c k 3) 0 ∗ semVal (dcell c k 4) 0 ∗ semVal (dcell c k 5) 0 ∗ semVal (dcell c k 6) 0)

theorem wt_intro (k : Fin 4) (i : Fin 7) : (iprop(atPos ER (dcell c k i) 0 ∅ 0 ∗ cred (tallyAt (dcell c k i) () N)) : sProp 𝕄) ⊢ WT k i c := by
  unfold WT; iintro H; iexact H

set_option maxHeartbeats 0 in
/-- The body, from a device's launch state to its result. -/
theorem WP_body (W : Waits sig Unit) {Q : PUnit → sProp 𝕄} :
    iprop(PC I K ∗ owes (c : Thread nD τ) (O₀ c) W ∗ tokens (F := F) c ∗ credits (F := F) c ∗ staged I c ∗ (∃ f, whole (F := F) c cc0_stg5_0 f) ∗ scratch (F := F) c)
      ⊢ iprop((owN (F := F) c 14 ∗ staged I c ∗ whole c cc0_stg5_0 (OUT I c) ∗ scratch (F := F) c
            ∗ semVal (barCell c) 0 ∗ zeros (F := F) c 0 ∗ zeros (F := F) c 1 ∗ zeros (F := F) c 2 ∗ zeros (F := F) c 3 -∗ Q ⟨⟩)
          -∗ WP c (bodyP (Memref.whole cc0_stg0_0) (Memref.whole cc0_stg1_0) (Memref.whole cc0_stg2_0) (Memref.whole cc0_stg3_0) (Memref.whole cc0_stg4_0) (Memref.whole cc0_stg5_0)) Q) := by
  unfold tokens credits staged scratch bodyP
  iintro ⟨#HP, HO, ⟨HT7, HT1, Hat, ⟨HG0, HG1, HG2, HG3, HG4, HG5, HG6⟩, ⟨HS0, HS1, HS2, HS3, HS4, HS5, HS6⟩, ⟨Ha0, Ha1, Ha2, Ha3, Ha4, Ha5, Ha6⟩, ⟨Hb0, Hb1, Hb2, Hb3, Hb4, Hb5, Hb6⟩⟩, ⟨Hcr, ⟨Hd0, Hd1, Hd2, Hd3, Hd4, Hd5, Hd6⟩, ⟨He0, He1, He2, He3, He4, He5, He6⟩⟩, ⟨Hx, Hwq, Hwk, Hwv, Hwo⟩, Hp, ⟨B0, B1, B2, B3, B4, B5, B6, B7, B8⟩⟩ Hk
  ihave HX := (x_out (F := F) c) $$ B0
  ihave HX := (Entails.of_eq (all8 (F := F) c _)) $$ HX
  icases HX with ⟨Hx0, Hx1, Hx2, Hx3, Hx4, Hx5, Hx6, Hx7⟩
  ihave HR := (rows_out (F := F) c) $$ [B1 B2 B3]
  · isplitl [B1]; · iexact B1
    isplitl [B2]; · iexact B2
    iexact B3
  ihave HR := (Entails.of_eq (all8 (F := F) c _)) $$ HR
  icases HR with ⟨HR0, HR1, HR2, HR3, HR4, HR5, HR6, HR7⟩
  ihave Hr := (r_out (F := F) c) $$ B6
  ihave Hr := (Entails.of_eq (all4 (F := F) _)) $$ Hr
  icases Hr with ⟨Hr0, Hr1, Hr2, Hr3⟩
  ihave Hl := (l_out (F := F) c) $$ B7
  ihave Hl := (Entails.of_eq (all3 (F := F) _)) $$ Hl
  icases Hl with ⟨Hl0, Hl1, Hl2⟩
  ihave Hy := (c_out (F := F) c) $$ B8
  ihave Hy := (Entails.of_eq (all7 (F := F) _)) $$ Hy
  icases Hy with ⟨Hy0, Hy1, Hy2, Hy3, Hy4, Hy5, Hy6⟩
  rw [WP_bind]
  iapply (WP_deviceId (F := F) c)
  rw [WP_bind]
  iapply (WP_init I c) $$ [Hx Hx0 B4 B5]
  · isplitl [Hx]; · iexact Hx
    isplitl [Hx0]; · iexact Hx0
    isplitl [B4]; · iexact B4
    iexact B5
  iintro ⟨Hx, HX0, HA⟩
  rw [WP_bind]
  iapply (WP_wq I c) $$ Hwq; iintro Hwq
  rw [WP_bind]
  iapply (WP_wk I c) $$ Hwk; iintro Hwk
  rw [WP_bind]
  iapply (WP_wv I c) $$ Hwv; iintro Hwv
  rw [WP_bind]
  iapply (WP_wo I c) $$ Hwo; iintro Hwo
  rw [WP_bind]
  iapply (WP_barSigs I K c W) $$ [HO HT7 HT1 Hx1 Hx2 Hx3 Hx4 Hx5 Hx6 Hx7 Hy0 Hy1 Hy2 Hy3 Hy4 Hy5 Hy6]
  · isplitr; · iexact HP
    isplitl [HO]; · iexact HO
    isplitl [HT7]; · iexact HT7
    isplitl [HT1]; · iexact HT1
    unfold handR handL hand
    isplitl [Hx7 Hx6 Hx5 Hx4 Hy0 Hy1 Hy2 Hy3]
    · isplitl [Hx7 Hy0]; · isplitl [Hx7]; · iexact Hx7
                           iexact Hy0
      isplitl [Hx6 Hy1]; · isplitl [Hx6]; · iexact Hx6
                           iexact Hy1
      isplitl [Hx5 Hy2]; · isplitl [Hx5]; · iexact Hx5
                           iexact Hy2
      isplitl [Hx4]; · iexact Hx4
      iexact Hy3
    · isplitl [Hx1 Hy4]; · isplitl [Hx1]; · iexact Hx1
                           iexact Hy4
      isplitl [Hx2 Hy5]; · isplitl [Hx2]; · iexact Hx2
                           iexact Hy5
      isplitl [Hx3]; · iexact Hx3
      iexact Hy6
  iintro HO
  rw [WP_bind]
  iapply (WP_barWait I K c allX (by decide) W) $$ [HO Hcr Hat]
  · unfold PC; icases HP with ⟨#HRc, #Hlv⟩
    isplitr; · iexact HRc
    isplitr; · iexact Hlv
    isplitl [HO]; · iexact HO
    isplitl [Hcr]; · iexact Hcr
    iexact Hat
  iintro ⟨HO0, HL, HR, HB⟩
  unfold handL handR
  icases HL with ⟨H4, H5, H6⟩
  icases HR with ⟨H0, H1, H2, H3⟩
  ihave H0 := (hand_out (F := F) c 0 (sh 1 c) c rfl (agk_own c).1) $$ H0
  icases H0 with ⟨Hn0, Hm0⟩
  ihave H1 := (hand_out (F := F) c 1 (sh 1 c) (sh 7 c) rfl rfl) $$ H1
  icases H1 with ⟨Hn1, Hm1⟩
  ihave H2 := (hand_out (F := F) c 2 (sh 1 c) (sh 6 c) rfl rfl) $$ H2
  icases H2 with ⟨Hn2, Hm2⟩
  ihave H3 := (hand_out (F := F) c 3 (sh 1 c) (sh 5 c) rfl rfl) $$ H3
  icases H3 with ⟨Hn3, Hm3⟩
  ihave H4 := (hand_out (F := F) c 4 (sh 7 c) c rfl (agk_own c).2) $$ H4
  icases H4 with ⟨Hn4, Hm4⟩
  ihave H5 := (hand_out (F := F) c 5 (sh 7 c) (sh 1 c) rfl rfl) $$ H5
  icases H5 with ⟨Hn5, Hm5⟩
  ihave H6 := (hand_out (F := F) c 6 (sh 7 c) (sh 2 c) rfl rfl) $$ H6
  icases H6 with ⟨Hn6, Hm6⟩
  ihave HW10 := (wt_intro (F := F) c 1 0) $$ [Ha0 Hd0]
  · isplitl [Ha0]; · iexact Ha0
    iexact Hd0
  ihave HW30 := (wt_intro (F := F) c 3 0) $$ [Hb0 He0]
  · isplitl [Hb0]; · iexact Hb0
    iexact He0
  ihave HW11 := (wt_intro (F := F) c 1 1) $$ [Ha1 Hd1]
  · isplitl [Ha1]; · iexact Ha1
    iexact Hd1
  ihave HW31 := (wt_intro (F := F) c 3 1) $$ [Hb1 He1]
  · isplitl [Hb1]; · iexact Hb1
    iexact He1
  ihave HW12 := (wt_intro (F := F) c 1 2) $$ [Ha2 Hd2]
  · isplitl [Ha2]; · iexact Ha2
    iexact Hd2
  ihave HW32 := (wt_intro (F := F) c 3 2) $$ [Hb2 He2]
  · isplitl [Hb2]; · iexact Hb2
    iexact He2
  ihave HW13 := (wt_intro (F := F) c 1 3) $$ [Ha3 Hd3]
  · isplitl [Ha3]; · iexact Ha3
    iexact Hd3
  ihave HW33 := (wt_intro (F := F) c 3 3) $$ [Hb3 He3]
  · isplitl [Hb3]; · iexact Hb3
    iexact He3
  ihave HW14 := (wt_intro (F := F) c 1 4) $$ [Ha4 Hd4]
  · isplitl [Ha4]; · iexact Ha4
    iexact Hd4
  ihave HW34 := (wt_intro (F := F) c 3 4) $$ [Hb4 He4]
  · isplitl [Hb4]; · iexact Hb4
    iexact He4
  ihave HW15 := (wt_intro (F := F) c 1 5) $$ [Ha5 Hd5]
  · isplitl [Ha5]; · iexact Ha5
    iexact Hd5
  ihave HW35 := (wt_intro (F := F) c 3 5) $$ [Hb5 He5]
  · isplitl [Hb5]; · iexact Hb5
    iexact He5
  ihave HW16 := (wt_intro (F := F) c 1 6) $$ [Ha6 Hd6]
  · isplitl [Ha6]; · iexact Ha6
    iexact Hd6
  ihave HW36 := (wt_intro (F := F) c 3 6) $$ [Hb6 He6]
  · isplitl [Hb6]; · iexact Hb6
    iexact He6
  rw [WP_bind]
  iapply (WP_agP0 I K c) $$ [HO0 HG0 HG4 Hn0 Hn4 HA HX0 HR0 HW10 HW14]
  · isplitr; · iexact HP
    isplitl [HO0]; · iexact HO0
    isplitl [HG0]; · iexact HG0
    isplitl [HG4]; · iexact HG4
    isplitl [Hn0]; · iexact Hn0
    isplitl [Hn4]; · iexact Hn4
    isplitl [HA]; · iexact HA
    isplitl [HX0]; · iexact HX0
    isplitl [HR0]; · iexact HR0
    isplitl [HW10]; · iexact HW10
    iexact HW14
  iintro ⟨HO2, HW00, HW04, HA, HU, HZ0, HX7, HX1, HV10, HV14⟩
  rw [WP_bind]
  iapply (WP_agP1 I K c) $$ [HO2 HG1 HG5 Hn1 Hn5 HA HX7 HX1 HR7 HR1 HW11 HW15]
  · isplitr; · iexact HP
    isplitl [HO2]; · iexact HO2
    isplitl [HG1]; · iexact HG1
    isplitl [HG5]; · iexact HG5
    isplitl [Hn1]; · iexact Hn1
    isplitl [Hn5]; · iexact Hn5
    isplitl [HA]; · iexact HA
    isplitl [HX7]; · iexact HX7
    isplitl [HX1]; · iexact HX1
    isplitl [HR7]; · iexact HR7
    isplitl [HR1]; · iexact HR1
    isplitl [HW11]; · iexact HW11
    iexact HW15
  iintro ⟨HO4, HW01, HW05, HA, HY7, HY1, HZ7, HZ1, HX6, HX2, HV11, HV15⟩
  rw [WP_bind]
  iapply (WP_agP2 I K c) $$ [HO4 HG2 HG6 Hn2 Hn6 HA HX6 HX2 HR6 HR2 HW12 HW16]
  · isplitr; · iexact HP
    isplitl [HO4]; · iexact HO4
    isplitl [HG2]; · iexact HG2
    isplitl [HG6]; · iexact HG6
    isplitl [Hn2]; · iexact Hn2
    isplitl [Hn6]; · iexact Hn6
    isplitl [HA]; · iexact HA
    isplitl [HX6]; · iexact HX6
    isplitl [HX2]; · iexact HX2
    isplitl [HR6]; · iexact HR6
    isplitl [HR2]; · iexact HR2
    isplitl [HW12]; · iexact HW12
    iexact HW16
  iintro ⟨HO6, HW02, HW06, HA, HY6, HY2, HZ6, HZ2, HX5, HX3, HV12, HV16⟩
  rw [WP_bind]
  iapply (WP_agP3 I K c) $$ [HO6 HG3 Hn3 HA HX5 HX3 HR5 HR3 HW13]
  · isplitr; · iexact HP
    isplitl [HO6]; · iexact HO6
    isplitl [HG3]; · iexact HG3
    isplitl [Hn3]; · iexact Hn3
    isplitl [HA]; · iexact HA
    isplitl [HX5]; · iexact HX5
    isplitl [HX3]; · iexact HX3
    isplitl [HR5]; · iexact HR5
    isplitl [HR3]; · iexact HR3
    iexact HW13
  iintro ⟨HO7, HW03, HA, HY5, HX3, HZ5, HZ3, HX4, HV13⟩
  rw [WP_bind]
  iapply (WP_agP4 I K c) $$ [HO7 HA HX4 HR4 HU HY7 HY6 HY5 HY1 HY2 HW00 HW01 HW02 HW03 HW04 HW05 HW06]
  · isplitr; · iexact HP
    isplitl [HO7]; · iexact HO7
    isplitl [HA]; · iexact HA
    isplitl [HX4]; · iexact HX4
    isplitl [HR4]; · iexact HR4
    isplitl [HU]; · iexact HU
    isplitl [HY7]; · iexact HY7
    isplitl [HY6]; · iexact HY6
    isplitl [HY5]; · iexact HY5
    isplitl [HY1]; · iexact HY1
    isplitl [HY2]; · iexact HY2
    isplitl [HW00]; · iexact HW00
    isplitl [HW01]; · iexact HW01
    isplitl [HW02]; · iexact HW02
    isplitl [HW03]; · iexact HW03
    isplitl [HW04]; · iexact HW04
    isplitl [HW05]; · iexact HW05
    iexact HW06
  iintro ⟨HO7, HA, HX4, HZ4, HX0, HX7, HX6, HX5, HX1, HX2, HV00, HV01, HV02, HV03, HV04, HV05, HV06⟩
  ihave Ha := (rows_in I c) $$ [HZ0 HZ1 HZ2 HZ3 HZ4 HZ5 HZ6 HZ7]
  · iapply (Entails.of_eq (all8 (F := F) c _).symm)
    isplitl [HZ0]; · iexact HZ0
    isplitl [HZ1]; · iexact HZ1
    isplitl [HZ2]; · iexact HZ2
    isplitl [HZ3]; · iexact HZ3
    isplitl [HZ4]; · iexact HZ4
    isplitl [HZ5]; · iexact HZ5
    isplitl [HZ6]; · iexact HZ6
    iexact HZ7
  rw [WP_bind]
  iapply (WP_rsP0 I K c) $$ [HO7 Ha Hr0 Hl0 Hm0 Hm4 HS0 HS4]
  · isplitr; · iexact HP
    isplitl [HO7]; · iexact HO7
    isplitl [Ha]; · iexact Ha
    isplitl [Hr0]; · iexact Hr0
    isplitl [Hl0]; · iexact Hl0
    isplitl [Hm0]; · iexact Hm0
    isplitl [Hm4]; · iexact Hm4
    isplitl [HS0]; · iexact HS0
    iexact HS4
  iintro ⟨HO9, Ha, HW20, HW24⟩
  rw [WP_bind]
  iapply (WP_rsP1 I K c) $$ [HO9 Ha Hr1 Hl1 Hm1 Hm5 HS1 HS5 HW30 HW34]
  · isplitr; · iexact HP
    isplitl [HO9]; · iexact HO9
    isplitl [Ha]; · iexact Ha
    isplitl [Hr1]; · iexact Hr1
    isplitl [Hl1]; · iexact Hl1
    isplitl [Hm1]; · iexact Hm1
    isplitl [Hm5]; · iexact Hm5
    isplitl [HS1]; · iexact HS1
    isplitl [HS5]; · iexact HS5
    isplitl [HW30]; · iexact HW30
    iexact HW34
  iintro ⟨HO11, Ha, HW21, HW25, Hc0, Hc4, HV30, HV34⟩
  rw [WP_bind]
  iapply (WP_rsP2 I K c) $$ [HO11 Ha Hr2 Hl2 Hm2 Hm6 HS2 HS6 HW31 HW35]
  · isplitr; · iexact HP
    isplitl [HO11]; · iexact HO11
    isplitl [Ha]; · iexact Ha
    isplitl [Hr2]; · iexact Hr2
    isplitl [Hl2]; · iexact Hl2
    isplitl [Hm2]; · iexact Hm2
    isplitl [Hm6]; · iexact Hm6
    isplitl [HS2]; · iexact HS2
    isplitl [HS6]; · iexact HS6
    isplitl [HW31]; · iexact HW31
    iexact HW35
  iintro ⟨HO13, Ha, HW22, HW26, Hc1, Hc5, HV31, HV35⟩
  rw [WP_bind]
  iapply (WP_rsP3 I K c) $$ [HO13 Ha Hr3 Hm3 HS3 HW36 HW32]
  · isplitr; · iexact HP
    isplitl [HO13]; · iexact HO13
    isplitl [Ha]; · iexact Ha
    isplitl [Hr3]; · iexact Hr3
    isplitl [Hm3]; · iexact Hm3
    isplitl [HS3]; · iexact HS3
    isplitl [HW36]; · iexact HW36
    iexact HW32
  iintro ⟨HO14, Ha, HW23, Hc2, Hc6, HV32, HV36⟩
  iapply (WP_rsP4 I K c) $$ [HO14 Ha Hp Hc6 HW33 HW20 HW21 HW22 HW23 HW24 HW25 HW26]
  · isplitr; · iexact HP
    isplitl [HO14]; · iexact HO14
    isplitl [Ha]; · iexact Ha
    isplitl [Hp]; · iexact Hp
    isplitl [Hc6]; · iexact Hc6
    isplitl [HW33]; · iexact HW33
    isplitl [HW20]; · iexact HW20
    isplitl [HW21]; · iexact HW21
    isplitl [HW22]; · iexact HW22
    isplitl [HW23]; · iexact HW23
    isplitl [HW24]; · iexact HW24
    isplitl [HW25]; · iexact HW25
    iexact HW26
  iintro ⟨HO14, Ha, Ho, Hc3, Hc6, HV33, Hs0, Hs1, Hs2, Hs3, Hs4, Hs5, Hs6, HV20, HV21, HV22, HV23, HV24, HV25, HV26⟩
  iapply Hk
  isplitl [HO14]; · iexact HO14
  isplitl [Hx Hwq Hwk Hwv Hwo]
  · isplitl [Hx]; · iexact Hx
    isplitl [Hwq]; · iexact Hwq
    isplitl [Hwk]; · iexact Hwk
    isplitl [Hwv]; · iexact Hwv
    iexact Hwo
  isplitl [Ho]; · iexact Ho
  isplitl [HX0 HX1 HX2 HX3 HX4 HX5 HX6 HX7 Ha HA Hs0 Hs1 Hs2 Hs3 Hs4 Hs5 Hs6 Hc0 Hc1 Hc2 Hc3 Hc4 Hc5 Hc6]
  · isplitl [HX0 HX1 HX2 HX3 HX4 HX5 HX6 HX7]
    · iexists _; iapply (Entails.of_eq (x_cut (F := F) c (XG I)).symm); iapply (Entails.of_eq (all8 (F := F) c _).symm)
      isplitl [HX0]; · iexact HX0
      isplitl [HX1]; · iexact HX1
      isplitl [HX2]; · iexact HX2
      isplitl [HX3]; · iexact HX3
      isplitl [HX4]; · iexact HX4
      isplitl [HX5]; · iexact HX5
      isplitl [HX6]; · iexact HX6
      iexact HX7
    unfold allRows angles
    icases Ha with ⟨Hq, Hkk, Hv⟩
    icases HA with ⟨Hcos, Hsin⟩
    isplitl [Hq]; · iexists _; iexact Hq
    isplitl [Hkk]; · iexists _; iexact Hkk
    isplitl [Hv]; · iexists _; iexact Hv
    isplitl [Hcos]; · iexists _; iexact Hcos
    isplitl [Hsin]; · iexists _; iexact Hsin
    isplitl [Hs0 Hs1 Hs2 Hs3]
    · iexists _; iapply (Entails.of_eq (r_cut (F := F) c (SBR I c)).symm); iapply (Entails.of_eq (all4 (F := F) _).symm)
      isplitl [Hs0]; · iapply (Entails.of_eq (show (sPts I c 0 : sProp 𝕄) = rPts c 0 (SBR I c) from dif_pos (by decide))); iexact Hs0
      isplitl [Hs1]; · iapply (Entails.of_eq (show (sPts I c 1 : sProp 𝕄) = rPts c 1 (SBR I c) from dif_pos (by decide))); iexact Hs1
      isplitl [Hs2]; · iapply (Entails.of_eq (show (sPts I c 2 : sProp 𝕄) = rPts c 2 (SBR I c) from dif_pos (by decide))); iexact Hs2
      iapply (Entails.of_eq (show (sPts I c 3 : sProp 𝕄) = rPts c 3 (SBR I c) from dif_pos (by decide))); iexact Hs3
    isplitl [Hs4 Hs5 Hs6]
    · iexists _; iapply (Entails.of_eq (l_cut (F := F) c (SBL I c)).symm); iapply (Entails.of_eq (all3 (F := F) _).symm)
      isplitl [Hs4]; · iapply (Entails.of_eq (show (sPts I c 4 : sProp 𝕄) = lPts c 0 (SBL I c) from dif_neg (by decide))); iexact Hs4
      isplitl [Hs5]; · iapply (Entails.of_eq (show (sPts I c 5 : sProp 𝕄) = lPts c 1 (SBL I c) from dif_neg (by decide))); iexact Hs5
      iapply (Entails.of_eq (show (sPts I c 6 : sProp 𝕄) = lPts c 2 (SBL I c) from dif_neg (by decide))); iexact Hs6
    iexists _; iapply (Entails.of_eq (c_cut (F := F) c (RSC I c)).symm); iapply (Entails.of_eq (all7 (F := F) _).symm)
    isplitl [Hc0]; · iexact Hc0
    isplitl [Hc1]; · iexact Hc1
    isplitl [Hc2]; · iexact Hc2
    isplitl [Hc3]; · iexact Hc3
    isplitl [Hc4]; · iexact Hc4
    isplitl [Hc5]; · iexact Hc5
    iexact Hc6
  isplitl [HB]; · iexact HB
  unfold zeros
  isplitl [HV00 HV01 HV02 HV03 HV04 HV05 HV06]
  · isplitl [HV00]; · iexact HV00
    isplitl [HV01]; · iexact HV01
    isplitl [HV02]; · iexact HV02
    isplitl [HV03]; · iexact HV03
    isplitl [HV04]; · iexact HV04
    isplitl [HV05]; · iexact HV05
    iexact HV06
  isplitl [HV10 HV11 HV12 HV13 HV14 HV15 HV16]
  · isplitl [HV10]; · iexact HV10
    isplitl [HV11]; · iexact HV11
    isplitl [HV12]; · iexact HV12
    isplitl [HV13]; · iexact HV13
    isplitl [HV14]; · iexact HV14
    isplitl [HV15]; · iexact HV15
    iexact HV16
  isplitl [HV20 HV21 HV22 HV23 HV24 HV25 HV26]
  · isplitl [HV20]; · iexact HV20
    isplitl [HV21]; · iexact HV21
    isplitl [HV22]; · iexact HV22
    isplitl [HV23]; · iexact HV23
    isplitl [HV24]; · iexact HV24
    isplitl [HV25]; · iexact HV25
    iexact HV26
  isplitl [HV30]; · iexact HV30
  isplitl [HV31]; · iexact HV31
  isplitl [HV32]; · iexact HV32
  isplitl [HV33]; · iexact HV33
  isplitl [HV34]; · iexact HV34
  isplitl [HV35]; · iexact HV35
  iexact HV36

end Cert.Proof

end
-- ==== Proof.BodyEq.lean ====
/- The printed body is the composition of the pieces of module `Program`. -/
module

public import proofs.«01_k».proof.Proof.Program

@[expose] public section

noncomputable section

namespace Cert.Proof

open Idealize.ShloMosaic Idealize.ShloMosaic.TcCoe
open Idealize.SL Idealize.SL.Sem
open Cert.KernelIdeal Cert.KernelIdeal.Gen

variable {F : FTy → Type} [FloatOps F] [Named F]

set_option maxRecDepth 100000 in
set_option maxHeartbeats 0 in
/-- The printed body is the composition of the phases. -/
theorem body_eq (m0 : Memref sig .tc .vmem S2x128x512 .f32) (h0 : m0.IsWhole) (m1 : Memref sig .tc .vmem S512x256 .f32)
    (h1 : m1.IsWhole) (m2 : Memref sig .tc .vmem S512x256 .f32) (h2 : m2.IsWhole) (m3 : Memref sig .tc .vmem S512x256 .f32)
    (h3 : m3.IsWhole) (m4 : Memref sig .tc .vmem S256x512 .f32) (h4 : m4.IsWhole) (m5 : Memref sig .tc .vmem S2x128x512 .f32)
    (h5 : m5.IsWhole) :
    cc0_body (F := F) m0 h0 m1 h1 m2 h2 m3 h3 m4 h4 m5 h5 xgM (Memref.isWhole_whole _) qM (Memref.isWhole_whole _)
      kM (Memref.isWhole_whole _) vM (Memref.isWhole_whole _) cosM (Memref.isWhole_whole _) sinM (Memref.isWhole_whole _)
      rM (Memref.isWhole_whole _) lM (Memref.isWhole_whole _) cM (Memref.isWhole_whole _)
      cc0_scratch9 cc0_scratch10 cc0_scratch11 cc0_scratch12 = bodyP m0 m1 m2 m3 m4 m5 := by
  rw [cc0_body_eq_skeleton]
  rfl

end Cert.Proof

end
-- ==== Proof.Launch.lean ====
/- The launch: every device's ghost state and credits dealt, and the run of the whole program. -/
module

public import proofs.«01_k».proof.Proof.Body
public import proofs.«01_k».proof.Proof.BodyEq
public import proofs.«01_k».proof.Proof.Gen.KernelIdeal.Points
public import Idealize.ShloMosaic.Lib.Pipeline.CollectiveSegs

@[expose] public section

noncomputable section

namespace Cert.Proof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

/-- A transfer's semaphore: kind and transfer. -/
abbrev KI : Type := Fin 4 × Fin 7
/-- The kernel's own semaphores. -/
abbrev osem (ki : KI) : SemLoc sig := .dma (dS ki.1 ki.2)

/-! ## Regrouping -/

theorem allOpt (P : Option KI → sProp 𝕄) : bigSep Finset.univ P = iprop(bigSep Finset.univ (fun ki => P (some ki)) ∗ P none) := by
  rw [bigSep_univ_equiv (Equiv.optionEquivSumPUnit KI).symm P, bigSep_univ_sum, bigSep_univ_eq_bigSepL [(PUnit.unit : PUnit.{1})] (by decide) (by decide)]
  rfl

theorem all28 (P : Fin 4 → Fin 7 → sProp 𝕄) : bigSep Finset.univ (fun ki : KI => P ki.1 ki.2)
    = iprop((P 0 0 ∗ P 0 1 ∗ P 0 2 ∗ P 0 3 ∗ P 0 4 ∗ P 0 5 ∗ P 0 6) ∗ (P 1 0 ∗ P 1 1 ∗ P 1 2 ∗ P 1 3 ∗ P 1 4 ∗ P 1 5 ∗ P 1 6)
      ∗ (P 2 0 ∗ P 2 1 ∗ P 2 2 ∗ P 2 3 ∗ P 2 4 ∗ P 2 5 ∗ P 2 6) ∗ (P 3 0 ∗ P 3 1 ∗ P 3 2 ∗ P 3 3 ∗ P 3 4 ∗ P 3 5 ∗ P 3 6)) := by
  rw [bigSep_univ_prod, all4]
  simp only [all7]

theorem shared_each {A : Type} [DecidableEq A] {S : Finset A} {R : sProp 𝕄} [BI.Persistent R] {P Q : A → sProp 𝕄}
    (h : ∀ a ∈ S, iprop(R ∗ P a) ⊢ Q a) : iprop(R ∗ bigSep S P) ⊢ bigSep S Q :=
  (sep_mono_left (BI.bigSep_of_persistent S R)).trans (by rw [← bigSep_sep']; exact bigSep_mono h)

/-! ## Cells and tokens -/

theorem ownSemFacts : Pipeline.OwnSemFacts cfg0.spec osem := by decide

theorem csem_injective : Function.Injective csem := by
  intro a b h
  cases a with
  | none => cases b with
    | none => rfl
    | some y => exact absurd h (by simp [csem])
  | some x => cases b with
    | none => exact absurd h (by simp [csem])
    | some y =>
      have h' : decD (dS x.1 x.2) = decD (dS y.1 y.2) := congrArg decD (SemLoc.dma.inj h)
      rw [decD_dS, decD_dS] at h'
      exact h'

theorem kcell_injective : Function.Injective kcell := by
  rintro ⟨c, j⟩ ⟨c', j'⟩ h
  have h1 : c = c' := congrArg (fun g : GSem nD τ sig => g.1.1) h
  have h2 : j = j' := csem_injective (congrArg Prod.snd h)
  rw [h1, h2]

def ringCells : Finset (GSem nD τ sig) := Finset.univ.map ⟨kcell, kcell_injective⟩

/-- The duties of a device's own cells: the barrier's two, a transfer's one. -/
abbrev tokOf (cj : Dev nD × (Bool ⊕ KI)) : GSem nD τ sig × ℕ × Bool := match cj.2 with
  | .inl b => (barCell cj.1, 0, b)
  | .inr ki => (dcell cj.1 ki.1 ki.2, 0, false)
theorem tokOf_injective : Function.Injective tokOf := by
  rintro ⟨c, j⟩ ⟨c', j'⟩ h
  cases j with
  | inl b => cases j' with
    | inl b' =>
      have h1 : c = c' := congrArg (fun x : GSem nD τ sig × ℕ × Bool => x.1.1.1) h
      have h2 : b = b' := congrArg (fun x : GSem nD τ sig × ℕ × Bool => x.2.2) h
      rw [h1, h2]
    | inr ki' =>
      have h0 : kcell (c, none) = kcell (c', some ki') := congrArg (fun x : GSem nD τ sig × ℕ × Bool => x.1) h
      exact absurd (congrArg Prod.snd (kcell_injective h0)) (by simp)
  | inr ki => cases j' with
    | inl b' =>
      have h0 : kcell (c, some ki) = kcell (c', none) := congrArg (fun x : GSem nD τ sig × ℕ × Bool => x.1) h
      exact absurd (congrArg Prod.snd (kcell_injective h0)) (by simp)
    | inr ki' =>
      have h0 : kcell (c, some ki) = kcell (c', some ki') := congrArg (fun x : GSem nD τ sig × ℕ × Bool => x.1) h
      have h1 := kcell_injective h0
      rw [Prod.mk.injEq, Option.some.injEq] at h1
      rw [h1.1, h1.2]
def ringToks : Finset (GSem nD τ sig × ℕ × Bool) := Finset.univ.map ⟨tokOf, tokOf_injective⟩

def u₀ : UU := (initOf (Pipeline.cells cfgs cellOf_inj) (Pipeline.launchToks cfgs cellOf_inj), initOf ringCells ringToks)

/-- The tokens of device `c`'s own cells. -/
def toks (c : Dev nD) : sProp 𝕄 :=
  iprop((dutyTok ER (barCell c) 0 false ∗ dutyTok ER (barCell c) 0 true) ∗ bigSep Finset.univ fun ki : KI => dutyTok ER (dcell c ki.1 ki.2) 0 false)

/-- Who pays the duty of kind and transfer `ki` for device `c`'s transfer: its neighbour's receive cell is paid, its own
    send cell. -/
def payer : KI → Dev nD → Dev nD := fun ki c => if ki.1 = 1 ∨ ki.1 = 3 then nbr ki.2 c else c
def payer' : KI → Dev nD → Dev nD := fun ki c => if ki.1 = 1 ∨ ki.1 = 3 then sh (8 - nbrN ki.2) c else c
theorem payer_payer' (ki : KI) (c : Dev nD) : payer ki (payer' ki c) = c := by
  unfold payer payer'; split
  · exact (by decide : ∀ (i : Fin 7) (c : Dev nD), nbr i (sh (8 - nbrN i) c) = c) ki.2 c
  · rfl
theorem payer'_payer (ki : KI) (c : Dev nD) : payer' ki (payer ki c) = c := by
  unfold payer payer'; split
  · exact (by decide : ∀ (i : Fin 7) (c : Dev nD), sh (8 - nbrN i) (nbr i c) = c) ki.2 c
  · rfl
def payEquiv : Dev nD × KI ≃ Dev nD × KI where
  toFun p := (payer p.2 p.1, p.2)
  invFun p := (payer' p.2 p.1, p.2)
  left_inv p := Prod.ext (payer'_payer p.2 p.1) rfl
  right_inv p := Prod.ext (payer_payer' p.2 p.1) rfl
def shEquiv (a b : ℕ) (hab : a + b = 8) : Dev nD ≃ Dev nD where
  toFun := sh a
  invFun := sh b
  left_inv c := by show sh b (sh a c) = c; rw [sh_sh, Nat.add_comm, hab]; exact sh_eight c
  right_inv c := by show sh a (sh b c) = c; rw [sh_sh, hab]; exact sh_eight c

/-- The tokens device `c` pays with. -/
def payToks (c : Dev nD) : sProp 𝕄 :=
  iprop((dutyTok ER (barCell (sh 7 c)) 0 true ∗ dutyTok ER (barCell (sh 1 c)) 0 false)
    ∗ bigSep Finset.univ fun ki : KI => dutyTok ER (dcell (payer ki c) ki.1 ki.2) 0 false)

theorem toks_around : (bigSep Finset.univ fun c : Dev nD => (toks c : sProp 𝕄)) ⊢ bigSep Finset.univ fun c : Dev nD => payToks c := by
  unfold toks payToks
  rw [bigSep_sep', bigSep_sep', bigSep_sep', bigSep_sep',
    bigSep_univ_equiv (shEquiv 7 1 rfl) (fun c : Dev nD => (dutyTok ER (barCell c) 0 true : sProp 𝕄)),
    bigSep_univ_equiv (shEquiv 1 7 rfl) (fun c : Dev nD => (dutyTok ER (barCell c) 0 false : sProp 𝕄)),
    ← bigSep_univ_prod (fun p : Dev nD × KI => (dutyTok ER (dcell p.1 p.2.1 p.2.2) 0 false : sProp 𝕄)),
    ← bigSep_univ_prod (fun p : Dev nD × KI => (dutyTok ER (dcell (payer p.2 p.1) p.2.1 p.2.2) 0 false : sProp 𝕄)),
    bigSep_univ_equiv payEquiv (fun p : Dev nD × KI => (dutyTok ER (dcell p.1 p.2.1 p.2.2) 0 false : sProp 𝕄))]
  iintro ⟨⟨H1, H2⟩, H3⟩
  isplitl [H1 H2]
  · isplitl [H2]; · iexact H2
    iexact H1
  iexact H3

/-! ## Dealing the ghost state -/

section Deal
variable (I : Inp F)

/-- What device `c` gets at launch. -/
def G (c : Dev nD) : sProp 𝕄 :=
  iprop((bigSep Finset.univ fun j : Option KI => roundState ER (Rd I) (kcell (c, j)) 0)
    ∗ (bigSep Finset.univ fun j : Option KI => iprop(atPos ER (kcell (c, j)) 0 ∅ 0 ∗ reached ER (kcell (c, j)) 0)) ∗ toks c)

/-- What it starts its body from. -/
def G' (c : Dev nD) : sProp 𝕄 := iprop(∃ K, records I K ∗ tokens (F := F) c)

theorem fund_ring : BI.own (ER (initOf ringCells ringToks)) ⊢ (|==> bigSep Finset.univ (G I) : sProp 𝕄) := by
  have hX (P : GSem nD τ sig → sProp 𝕄) : bigSep ringCells P = bigSep Finset.univ fun c : Dev nD => bigSep Finset.univ fun j : Option KI => P (kcell (c, j)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => by
      unfold toks; rw [bigSep_univ_sum, bigSep_univ_eq_bigSepL [false, true] (by decide) (by decide)]; rfl
  iintro HX
  imod (Rounds.fund ER (Rd I) ringCells ringToks) $$ HX with ⟨Hst, Hr, Hat, Htok⟩
  imodintro
  ihave Hst' := (Entails.of_eq (hX fun g => roundState ER (Rd I) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

theorem ownSems0_eq (c : Dev nD) : (Pipeline.ownSems0 (Ix := Unit) (Name := ℕ) (U := UU) (Lvl := ℕ) (Val := Elt F) (τ := τ) osem c : sProp 𝕄)
    = bigSep Finset.univ fun ki : KI => semVal (dcell c ki.1 ki.2) 0 := rfl
theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0 (c : Dev nD) :
    iprop(Pipeline.ownSems0 (Ix := Unit) (Name := ℕ) (U := UU) (Lvl := ℕ) (Val := Elt F) (τ := τ) osem c ∗ unscopedSems0 c)
      ⊢ (bigSep Finset.univ fun j : Option KI => semVal (kcell (c, j)) 0 : sProp 𝕄) := by
  rw [ownSems0_eq, unscopedSems0_eq, allOpt]
  exact Entails.of_eq rfl

theorem core_alloc (c : Dev nD) :
    iprop(Pipeline.ownSems0 (Ix := Unit) (Name := ℕ) (U := UU) (Lvl := ℕ) (Val := Elt F) (τ := τ) osem c ∗ unscopedSems0 c ∗ G I c)
      ⊢ |={Set.univ}=> iprop((bigSep Finset.univ fun j : Option KI => iprop(∃ κ : ℕ, cellInv ER (Rd I) κ (kcell (c, j))))
          ∗ (bigSep Finset.univ fun j : Option KI => iprop(atPos ER (kcell (c, j)) 0 ∅ 0 ∗ reached ER (kcell (c, j)) 0)) ∗ toks c) := by
  unfold G
  iintro ⟨Hos, Hus, Hst, Hat, Htok⟩
  ihave Hv := (sems0 (F := F) c) $$ [Hos Hus]
  · isplitl [Hos] <;> iassumption
  imod (show iprop((bigSep Finset.univ fun j : Option KI => semVal (kcell (c, j)) 0) ∗ bigSep Finset.univ fun j : Option KI => roundState ER (Rd I) (kcell (c, j)) 0)
      ⊢ (|={Set.univ}=> bigSep Finset.univ fun j : Option KI => iprop(∃ κ : ℕ, cellInv ER (Rd I) κ (kcell (c, j))) : sProp 𝕄) from by
        rw [← bigSep_sep']
        exact (bigSep_mono fun j _ => (Rounds.body_intro ER (Rd I) (kcell (c, j))).trans inv_alloc).trans (bigSep_fupd _ _)) $$ [Hv Hst] with Hinv
  · isplitl [Hv] <;> iassumption
  imodintro
  isplitl [Hinv]; · iexact Hinv
  isplitl [Hat]; · iexact Hat
  iexact Htok

/-- A device's positions and the tokens it pays with, as its body takes them. -/
def linear (c : Dev nD) : sProp 𝕄 := iprop((bigSep Finset.univ fun j : Option KI => atPos ER (kcell (c, j)) 0 ∅ 0) ∗ payToks c)

theorem linear_tokens (c : Dev nD) : (linear c : sProp 𝕄) ⊢ tokens (F := F) c := by
  unfold linear payToks tokens
  rw [allOpt]
  iintro ⟨⟨Hat, HatB⟩, ⟨T7, T1⟩, Ht⟩
  ihave Hat := (Entails.of_eq ((show (bigSep Finset.univ fun ki : KI => (atPos ER (kcell (c, some ki)) 0 ∅ 0 : sProp 𝕄))
    = bigSep Finset.univ fun ki : KI => (atPos ER (dcell c ki.1 ki.2) 0 ∅ 0 : sProp 𝕄) from rfl).trans (all28 (F := F) (fun k i => atPos ER (dcell c k i) 0 ∅ 0)))) $$ Hat
  ihave Ht := (Entails.of_eq (all28 (F := F) (fun k i => dutyTok ER (dcell (payer (k, i) c) k i) 0 false))) $$ Ht
  icases Hat with ⟨⟨A00, A01, A02, A03, A04, A05, A06⟩, A1, ⟨A20, A21, A22, A23, A24, A25, A26⟩, A3⟩
  icases Ht with ⟨⟨T00, T01, T02, T03, T04, T05, T06⟩, ⟨T10, T11, T12, T13, T14, T15, T16⟩, ⟨T20, T21, T22, T23, T24, T25, T26⟩, T30, T31, T32, T33, T34, T35, T36⟩
  unfold TS
  isplitl [T7]; · iexact T7
  isplitl [T1]; · iexact T1
  isplitl [HatB]; · iexact HatB
  isplitl [T00 T10 A00 T01 T11 A01 T02 T12 A02 T03 T13 A03 T04 T14 A04 T05 T15 A05 T06 T16 A06]
  · isplitl [T00 T10 A00]
    · isplitl [T00]; · iexact T00
      isplitl [T10]; · iexact T10
      iexact A00
    isplitl [T01 T11 A01]
    · isplitl [T01]; · iexact T01
      isplitl [T11]; · iexact T11
      iexact A01
    isplitl [T02 T12 A02]
    · isplitl [T02]; · iexact T02
      isplitl [T12]; · iexact T12
      iexact A02
    isplitl [T03 T13 A03]
    · isplitl [T03]; · iexact T03
      isplitl [T13]; · iexact T13
      iexact A03
    isplitl [T04 T14 A04]
    · isplitl [T04]; · iexact T04
      isplitl [T14]; · iexact T14
      iexact A04
    isplitl [T05 T15 A05]
    · isplitl [T05]; · iexact T05
      isplitl [T15]; · iexact T15
      iexact A05
    isplitl [T06]; · iexact T06
    isplitl [T16]; · iexact T16
    iexact A06
  isplitl [T20 T30 A20 T21 T31 A21 T22 T32 A22 T23 T33 A23 T24 T34 A24 T25 T35 A25 T26 T36 A26]
  · isplitl [T20 T30 A20]
    · isplitl [T20]; · iexact T20
      isplitl [T30]; · iexact T30
      iexact A20
    isplitl [T21 T31 A21]
    · isplitl [T21]; · iexact T21
      isplitl [T31]; · iexact T31
      iexact A21
    isplitl [T22 T32 A22]
    · isplitl [T22]; · iexact T22
      isplitl [T32]; · iexact T32
      iexact A22
    isplitl [T23 T33 A23]
    · isplitl [T23]; · iexact T23
      isplitl [T33]; · iexact T33
      iexact A23
    isplitl [T24 T34 A24]
    · isplitl [T24]; · iexact T24
      isplitl [T34]; · iexact T34
      iexact A24
    isplitl [T25 T35 A25]
    · isplitl [T25]; · iexact T25
      isplitl [T35]; · iexact T35
      iexact A25
    isplitl [T26]; · iexact T26
    isplitl [T36]; · iexact T36
    iexact A26
  isplitl [A1]; · iexact A1
  iexact A3

theorem regroup :
    (bigSep Finset.univ fun c : Dev nD => iprop((bigSep Finset.univ fun j : Option KI => iprop(∃ κ : ℕ, cellInv ER (Rd I) κ (kcell (c, j))))
          ∗ (bigSep Finset.univ fun j : Option KI => iprop(atPos ER (kcell (c, j)) 0 ∅ 0 ∗ reached ER (kcell (c, j)) 0)) ∗ toks c) : sProp 𝕄)
      ⊢ bigSep Finset.univ (G' I) := by
  rw [bigSep_sep', bigSep_sep', ← bigSep_univ_prod (fun cj : Dev nD × Option KI => iprop(∃ κ : ℕ, cellInv ER (Rd I) κ (kcell cj))),
    bigSep_congr (s := Finset.univ) (fun (c : Dev nD) _ => bigSep_sep' Finset.univ (fun j : Option KI => (atPos ER (kcell (c, j)) 0 ∅ 0 : sProp 𝕄)) (fun j => reached ER (kcell (c, j)) 0)),
    bigSep_sep', ← bigSep_univ_prod (fun cj : Dev nD × Option KI => (reached ER (kcell cj) 0 : sProp 𝕄))]
  iintro ⟨HI, ⟨Hat, #HR⟩, Htok⟩
  ihave HK := (BI.bigSep_exists_pi Finset.univ (fun (cj : Dev nD × Option KI) (κ : ℕ) => (cellInv ER (Rd I) κ (kcell cj) : sProp 𝕄))) $$ HI
  icases HK with ⟨%K, #HI⟩
  ihave Htk := (toks_around (F := F)) $$ Htok
  iapply (shared_each (F := F) (R := records I K) (P := fun c => linear c) (Q := G' I) fun c _ => by
    unfold G'
    iintro ⟨#HRc, HL⟩
    iexists K
    isplitr; · iexact HRc
    iapply (linear_tokens (F := F) c); iexact HL)
  isplitr
  · unfold records; isplitl; · iexact HI
    iexact HR
  · unfold linear; rw [bigSep_sep']
    isplitl [Hat]; · iexact Hat
    iexact Htk

theorem glob : (bigSep Finset.univ fun c => iprop(Pipeline.ownSems0 (Ix := Unit) (Name := ℕ) (U := UU) (Lvl := ℕ) (Val := Elt F) (τ := τ) osem c ∗ unscopedSems0 c ∗ G I c) : sProp 𝕄)
    ⊢ |={Set.univ}=> bigSep Finset.univ (G' I) :=
  ((bigSep_mono fun c _ => core_alloc I c).trans (bigSep_fupd _ _)).trans (BI.fupd_mono (regroup I))
end Deal

/-! ## The launch credit -/

theorem dcell_eq_iff {a b : Dev nD} {k k' : Fin 4} {i i' : Fin 7} : dcell a k i = dcell b k' i' ↔ a = b ∧ k = k' ∧ i = i' := by
  constructor
  · intro h
    have h1 := kcell_injective (a₁ := (a, some (k, i))) (a₂ := (b, some (k', i'))) h
    rw [Prod.mk.injEq, Option.some.injEq, Prod.mk.injEq] at h1
    exact h1
  · rintro ⟨rfl, rfl, rfl⟩; rfl
theorem bar_eq_iff {a b : Dev nD} : barCell a = barCell b ↔ a = b :=
  ⟨fun h => congrArg (fun g : GSem nD τ sig => g.1.1) h, fun h => h ▸ rfl⟩
theorem d_ne_bar (a b : Dev nD) (k : Fin 4) (i : Fin 7) : dcell a k i ≠ barCell b :=
  fun h => absurd (congrArg Prod.snd (kcell_injective (a₁ := (a, some (k, i))) (a₂ := (b, none)) h)) (by simp)

theorem oweL_d (d c : Dev nD) (k : Fin 4) (i : Fin 7) : ∀ l : List KI, l.Nodup →
    oweL d l (dcell c k i) () = if (k, i) ∈ l ∧ c = nbr i d then N else 0
  | [], _ => by unfold oweL; rw [if_neg (fun h => absurd h.1 List.not_mem_nil)]; rfl
  | x :: l, hl => by
    rw [List.nodup_cons] at hl
    unfold oweL
    rw [Pi.add_apply, Finsupp.add_apply, oweL_d d c k i l hl.2, tallyAt_apply]
    by_cases hx : x = (k, i)
    · subst hx
      rw [if_neg (fun h => hl.1 h.1), Nat.zero_add]
      by_cases hc : c = nbr i d
      · rw [if_pos ⟨dcell_eq_iff.mpr ⟨hc, rfl, rfl⟩, rfl⟩, if_pos ⟨List.mem_cons_self, hc⟩]
      · rw [if_neg (fun h => hc (dcell_eq_iff.mp h.1).1), if_neg (fun h => hc h.2)]
    · rw [if_neg (c := dcell c k i = dcell (nbr x.2 d) x.1 x.2 ∧ () = ())
        (fun h => hx (Prod.ext (dcell_eq_iff.mp h.1).2.1.symm (dcell_eq_iff.mp h.1).2.2.symm)), Nat.add_zero]
      by_cases hc : (k, i) ∈ l ∧ c = nbr i d
      · rw [if_pos hc, if_pos ⟨List.mem_cons_of_mem _ hc.1, hc.2⟩]
      · rw [if_neg hc, if_neg]
        rintro ⟨h1, h2⟩
        rcases List.mem_cons.mp h1 with h | h
        · exact hx h.symm
        · exact hc ⟨h, h2⟩

theorem oweL_bar (d c : Dev nD) : ∀ l : List KI, oweL d l (barCell c) () = 0
  | [] => rfl
  | x :: l => by
    unfold oweL
    rw [Pi.add_apply, Finsupp.add_apply, oweL_bar d c l, tallyAt_apply, if_neg (fun h => d_ne_bar _ _ _ _ h.1.symm)]

theorem nbr_iff (i : Fin 7) (c d : Dev nD) : c = nbr i d ↔ d = sh (8 - nbrN i) c := by revert i c d; decide

theorem owed_d (d c : Dev nD) (k : Fin 4) (i : Fin 7) (hk : (k, i) ∈ allX) : O₀ d (dcell c k i) () = if d = sh (8 - nbrN i) c then N else 0 := by
  unfold O₀ O₁
  rw [Pi.add_apply, Finsupp.add_apply, Pi.add_apply, Finsupp.add_apply, tallyAt_apply, tallyAt_apply, if_neg (fun h => d_ne_bar _ _ _ _ h.1),
    if_neg (fun h => d_ne_bar _ _ _ _ h.1), add_zero, add_zero, oweL_d d c k i allX (by decide)]
  by_cases h : c = nbr i d
  · rw [if_pos ⟨hk, h⟩, if_pos ((nbr_iff i c d).mp h)]
  · rw [if_neg (fun h' => h h'.2), if_neg (fun h' => h ((nbr_iff i c d).mpr h'))]
theorem owed_bar (d c : Dev nD) : O₀ d (barCell c) () = (if d = sh 7 c then 1 else 0) + (if d = sh 1 c then 1 else 0) := by
  unfold O₀ O₁
  rw [Pi.add_apply, Finsupp.add_apply, Pi.add_apply, Finsupp.add_apply, tallyAt_apply, tallyAt_apply, oweL_bar, Nat.zero_add]
  have h1 : c = sh 1 d ↔ d = sh 7 c := by revert c d; decide
  have h7 : c = sh 7 d ↔ d = sh 1 c := by revert c d; decide
  congr 1
  · by_cases h : d = sh 7 c
    · rw [if_pos ⟨bar_eq_iff.mpr (h1.mpr h), rfl⟩, if_pos h]
    · rw [if_neg (fun h' => h (h1.mp (bar_eq_iff.mp h'.1))), if_neg h]
  · by_cases h : d = sh 1 c
    · rw [if_pos ⟨bar_eq_iff.mpr (h7.mpr h), rfl⟩, if_pos h]
    · rw [if_neg (fun h' => h (h7.mp (bar_eq_iff.mp h'.1))), if_neg h]

theorem launch_bar (c : Dev nD) :
    tallyOn (barCell c) (launchCredit (Pipeline.owing O₀) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib,
    Finset.sum_ite_eq' Finset.univ (sh 7 c) fun _ => 1, Finset.sum_ite_eq' Finset.univ (sh 1 c) fun _ => 1, if_pos (Finset.mem_univ _), if_pos (Finset.mem_univ _)]
theorem launch_d (c : Dev nD) (k : Fin 4) (i : Fin 7) (hk : (k, i) ∈ allX) :
    tallyOn (dcell c k i) (launchCredit (Pipeline.owing O₀) 0 (dcell c k i)) = (tallyAt (dcell c k i) () N : CellTallies nD τ sig Unit) := by
  unfold tallyAt; refine congrArg _ (Finsupp.ext fun u => ?_); cases u
  rw [Pipeline.launchCredit_owing, Finsupp.single_eq_same, Finset.sum_congr rfl fun d _ => owed_d d c k i hk,
    Finset.sum_ite_eq' Finset.univ (sh (8 - nbrN i) c) fun _ => N, if_pos (Finset.mem_univ _)]

theorem creds (c : Dev nD) : (Pipeline.launchCred O₀ c : sProp 𝕄) ⊢ credits (F := F) c := by
  unfold Pipeline.launchCred
  refine (bigSep_subset (t := Finset.univ.map ⟨csem, csem_injective⟩) (Finset.subset_univ _)).trans ?_
  rw [bigSep_map, allOpt]
  show iprop((bigSep Finset.univ fun ki : KI => cred (tallyOn (dcell c ki.1 ki.2) (launchCredit (Pipeline.owing O₀) 0 (dcell c ki.1 ki.2))))
    ∗ cred (tallyOn (barCell c) (launchCredit (Pipeline.owing O₀) 0 (barCell c)))) ⊢ credits (F := F) c
  iintro ⟨H, HB⟩
  ihave H := (Entails.of_eq (all28 (F := F) (fun k i => cred (tallyOn (dcell c k i) (launchCredit (Pipeline.owing O₀) 0 (dcell c k i)))))) $$ H
  icases H with ⟨-, H1, -, H3⟩
  unfold credits
  isplitl [HB]; · iapply (Entails.of_eq (congrArg cred (launch_bar c))); iexact HB
  rw [launch_d c 1 0 (by decide), launch_d c 1 1 (by decide), launch_d c 1 2 (by decide), launch_d c 1 3 (by decide), launch_d c 1 4 (by decide), launch_d c 1 5 (by decide), launch_d c 1 6 (by decide),
    launch_d c 3 0 (by decide), launch_d c 3 1 (by decide), launch_d c 3 2 (by decide), launch_d c 3 3 (by decide), launch_d c 3 4 (by decide), launch_d c 3 5 (by decide), launch_d c 3 6 (by decide)]
  isplitl [H1]; · iexact H1
  iexact H3

/-! ## The run -/

variable (m : (ℓ : Loc nD τ sig) → Buf (Elt F) ℓ) (ρ : Dev nD → PrngReg)

/-- The inputs in memory. -/
def inp : Inp F where
  x c := (win0_0.blk (0 : Fin 1)).view.read (Elt F) (m ((c : Thread nD τ).loc main_arg0))
  wq c := (win0_1.blk (0 : Fin 1)).view.read (Elt F) (m ((c : Thread nD τ).loc main_arg1))
  wk c := (win0_2.blk (0 : Fin 1)).view.read (Elt F) (m ((c : Thread nD τ).loc main_arg2))
  wv c := (win0_3.blk (0 : Fin 1)).view.read (Elt F) (m ((c : Thread nD τ).loc main_arg3))
  wo c := (win0_4.blk (0 : Fin 1)).view.read (Elt F) (m ((c : Thread nD τ).loc main_arg4))

/-- What a device's body starts from besides its buffers: -/
def start (c : Dev nD) : sProp 𝕄 := iprop(G' (inp m) c ∗ credits (F := F) c ∗ levAts L lv)
def Φ₀ (c : Dev nD) : sProp 𝕄 := iprop(start m c ∗ scratch (F := F) c)
/-- and what it leaves. -/
def Φ₁ (c : Dev nD) : sProp 𝕄 :=
  iprop(scratch (F := F) c ∗ semVal (barCell c) 0 ∗ zeros (F := F) c 0 ∗ zeros (F := F) c 1 ∗ zeros (F := F) c 2 ∗ zeros (F := F) c 3)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => (inp m).x c
    | ⟨1, _⟩ => (inp m).wq c
    | ⟨2, _⟩ => (inp m).wk c
    | ⟨3, _⟩ => (inp m).wv c
    | ⟨4, _⟩ => (inp m).wo c
    | ⟨5, _⟩ => OUT (inp m) c
  Φ t := match t with
    | ⟨0, _⟩ => Φ₀ m c
    | ⟨_ + 1, _⟩ => Φ₁ (F := F) c
  q _ := fullShare
  owed t := match t with
    | ⟨0, _⟩ => O₀ c
    | ⟨_ + 1, _⟩ => 0

theorem owns_whole (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

set_option maxRecDepth 60000 in
def bodyPre (c : Dev nD) : sProp 𝕄 :=
  iprop(Φ₀ m c ∗ (dats m ρ 0 c).owesAt () t0_0.castSucc
    ∗ (∃ d, stg c cc0_stg0_0 ((dats m ρ 0 c).before (0 : Fin 6) t0_0 d))
    ∗ (∃ d, stg c cc0_stg1_0 ((dats m ρ 0 c).before (1 : Fin 6) t0_0 d))
    ∗ (∃ d, stg c cc0_stg2_0 ((dats m ρ 0 c).before (2 : Fin 6) t0_0 d))
    ∗ (∃ d, stg c cc0_stg3_0 ((dats m ρ 0 c).before (3 : Fin 6) t0_0 d))
    ∗ (∃ d, stg c cc0_stg4_0 ((dats m ρ 0 c).before (4 : Fin 6) t0_0 d))
    ∗ (∃ d, stg c cc0_stg5_0 ((dats m ρ 0 c).before (5 : Fin 6) t0_0 d)))
def bodyPost (c : Dev nD) : sProp 𝕄 :=
  iprop(Φ₁ (F := F) c ∗ (dats m ρ 0 c).owesAt () t0_0.succ
    ∗ stg c cc0_stg0_0 ((inp m).x c) ∗ stg c cc0_stg1_0 ((inp m).wq c) ∗ stg c cc0_stg2_0 ((inp m).wk c)
    ∗ stg c cc0_stg3_0 ((inp m).wv c) ∗ stg c cc0_stg4_0 ((inp m).wo c) ∗ stg c cc0_stg5_0 (OUT (inp m) c))

set_option maxRecDepth 60000 in
set_option maxHeartbeats 1000000 in
theorem body_run (c : Dev nD) :
    bodyPre m ρ c ⊢ WP c (bodyP (F := F) (Memref.whole cc0_stg0_0) (Memref.whole cc0_stg1_0) (Memref.whole cc0_stg2_0) (Memref.whole cc0_stg3_0) (Memref.whole cc0_stg4_0) (Memref.whole cc0_stg5_0))
      (fun _ => bodyPost m ρ c) := by
  unfold bodyPre Φ₀ start G'
  iintro ⟨⟨⟨⟨%K, #HR, Ht⟩, Hc, #Hlev⟩, Hs⟩, Ho, ⟨%d0, %g0, %h0, H0⟩, ⟨%d1, %g1, %h1, H1⟩, ⟨%d2, %g2, %h2, H2⟩, ⟨%d3, %g3, %h3, H3⟩, ⟨%d4, %g4, %h4, H4⟩, ⟨%d5, %g5, %h5, H5⟩⟩
  have e0 : g0 = (inp m).x c := by rw [h0]; unfold Dat.before; rw [if_pos (fetch0_0 t0_0)]; rfl
  have e1 : g1 = (inp m).wq c := by rw [h1]; unfold Dat.before; rw [if_pos (fetch0_1 t0_0)]; rfl
  have e2 : g2 = (inp m).wk c := by rw [h2]; unfold Dat.before; rw [if_pos (fetch0_2 t0_0)]; rfl
  have e3 : g3 = (inp m).wv c := by rw [h3]; unfold Dat.before; rw [if_pos (fetch0_3 t0_0)]; rfl
  have e4 : g4 = (inp m).wo c := by rw [h4]; unfold Dat.before; rw [if_pos (fetch0_4 t0_0)]; rfl
  subst e0 e1 e2 e3 e4
  unfold Dat.owesAt Pipeline.owesWithin
  icases Ho with ⟨%W, %hW, HO⟩
  rw [show (dats m ρ 0 c).owed t0_0.castSucc = O₀ c from rfl]
  iapply (WP_body (inp m) K c W) $$ [HO Ht Hc Hs H0 H1 H2 H3 H4 H5]
  · isplitr
    · unfold PC; isplitr; · iexact HR
      iexact Hlev
    isplitl [HO]; · iexact HO
    isplitl [Ht]; · iexact Ht
    isplitl [Hc]; · iexact Hc
    isplitl [H0 H1 H2 H3 H4]
    · unfold staged
      isplitl [H0]; · iexact H0
      isplitl [H1]; · iexact H1
      isplitl [H2]; · iexact H2
      isplitl [H3]; · iexact H3
      iexact H4
    isplitl [H5]; · iexists g5; iexact H5
    iexact Hs
  unfold staged
  iintro ⟨HO, ⟨H0, H1, H2, H3, H4⟩, H5, Hs, HB, Z0, Z1, Z2, Z3⟩
  unfold bodyPost Φ₁ Dat.owesAt Pipeline.owesWithin
  rw [show (dats m ρ 0 c).owed t0_0.succ = 0 from rfl]
  isplitl [Hs HB Z0 Z1 Z2 Z3]
  · isplitl [Hs]; · iexact Hs
    isplitl [HB]; · iexact HB
    isplitl [Z0]; · iexact Z0
    isplitl [Z1]; · iexact Z1
    isplitl [Z2]; · iexact Z2
    iexact Z3
  isplitl [HO]
  · unfold owN ow
    icases HO with ⟨%W', HO⟩
    iexists W'
    isplitr; · ipureintro; exact fun _ _ => Or.inl trivial
    iapply (Entails.of_eq (show (owes (c : Thread nD τ) (oweL c (allX.drop 14)) W' : sProp 𝕄) = owes (c : Thread nD τ) 0 W' from rfl)); iexact HO
  isplitl [H0]
  · iexists _; isplitr; · (ipureintro; rfl)
    iexact H0
  isplitl [H1]
  · iexists _; isplitr; · (ipureintro; rfl)
    iexact H1
  isplitl [H2]
  · iexists _; isplitr; · (ipureintro; rfl)
    iexact H2
  isplitl [H3]
  · iexists _; isplitr; · (ipureintro; rfl)
    iexact H3
  isplitl [H4]
  · iexists _; isplitr; · (ipureintro; rfl)
    iexact H4
  iexists _; isplitr; · (ipureintro; rfl)
  iexact H5

set_option maxRecDepth 60000 in
set_option maxHeartbeats 1000000 in
theorem body_obligation (c : Dev nD) : BodyObligation (dats (F := F) m ρ 0 c) (defs₀ (F := F)) 𝒱₀ () Set.univ := fun t => by
  rw [fin_N0 t]
  rw [bigSep_W0, bigSep_W0]
  simp only [owns_whole]
  show bodyPre m ρ c ⊢ wp frame (wpE (defs₀ (F := F)) 𝒱₀ (c : Thread nD τ) none) Set.univ
    (cc0_body (F := F) (Memref.whole cc0_stg0_0) (Memref.isWhole_whole _) (Memref.whole cc0_stg1_0) (Memref.isWhole_whole _) (Memref.whole cc0_stg2_0) (Memref.isWhole_whole _)
      (Memref.whole cc0_stg3_0) (Memref.isWhole_whole _) (Memref.whole cc0_stg4_0) (Memref.isWhole_whole _) (Memref.whole cc0_stg5_0) (Memref.isWhole_whole _)
      xgM (Memref.isWhole_whole _) qM (Memref.isWhole_whole _)
      kM (Memref.isWhole_whole _) vM (Memref.isWhole_whole _) cosM (Memref.isWhole_whole _) sinM (Memref.isWhole_whole _)
      rM (Memref.isWhole_whole _) lM (Memref.isWhole_whole _) cM (Memref.isWhole_whole _)
      cc0_scratch9 cc0_scratch10 cc0_scratch11 cc0_scratch12) (fun _ => bodyPost m ρ c)
  rw [body_eq]
  exact body_run m ρ c

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' (inp m) c)
      ⊢ |={Set.univ}=> iprop(start m c ∗ emp) := by
  iintro ⟨-, Hlev, Hcr, -, HG⟩
  ihave Hc := (creds (F := F) c) $$ Hcr
  imodintro
  unfold start
  isplitl
  · isplitl [HG]; · iexact HG
    isplitl [Hc]; · iexact Hc
    iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ scratch
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ (F := F) c from rfl, scopedRest0_eq, ownSems0_eq, unscopedSems0_eq, all28 (F := F) (fun k i => semVal (dcell c k i) 0)]
  unfold Φ₁ scratch zeros
  iintro ⟨Hr, HzB, Hz⟩
  isplitl [HzB]; · iexact HzB
  isplitl [Hz]; · iexact Hz
  iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-- An array after the run. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 60000 in
/-- Every fair execution on the eight devices ends with each device's arrays as computed and every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G (inp m)) (G' := G' (inp m)) (u₀ := u₀)
    (hu₀ := by
      unfold u₀
      iintro Hu
      ihave H := (ownU_pair _ _) $$ Hu
      icases H with ⟨HP, HX⟩
      imod (fund_ring (inp m)) $$ HX with HG
      imodintro
      isplitl [HP] <;> iassumption)
    (hglob := glob (inp m))
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-! ## The run, read -/

/-- The inputs in memory, as plain arrays. -/
def inp' : Inp F where
  x c := m ((c : Thread nD τ).loc main_arg0)
  wq c := m ((c : Thread nD τ).loc main_arg1)
  wk c := m ((c : Thread nD τ).loc main_arg2)
  wv c := m ((c : Thread nD τ).loc main_arg3)
  wo c := m ((c : Thread nD τ).loc main_arg4)

theorem inp_eq : inp m = inp' m := by
  unfold inp inp'
  rw [Inp.mk.injEq]
  refine ⟨funext fun c => ?_, funext fun c => ?_, funext fun c => ?_, funext fun c => ?_, funext fun c => ?_⟩
  · exact Memref.read_access_unit_zero (Elt F) main_arg0 (show (fun a => (win0_0.index (0 : Fin 1)) a * main_arg0.ty.shape.size a) = fun _ => 0 from funext fun a => by fin_cases a <;> decide) _ (m ((c : Thread nD τ).loc main_arg0))
  · exact Memref.read_access_unit_zero (Elt F) main_arg1 (show (fun a => (win0_1.index (0 : Fin 1)) a * main_arg1.ty.shape.size a) = fun _ => 0 from funext fun a => by fin_cases a <;> decide) _ (m ((c : Thread nD τ).loc main_arg1))
  · exact Memref.read_access_unit_zero (Elt F) main_arg2 (show (fun a => (win0_2.index (0 : Fin 1)) a * main_arg2.ty.shape.size a) = fun _ => 0 from funext fun a => by fin_cases a <;> decide) _ (m ((c : Thread nD τ).loc main_arg2))
  · exact Memref.read_access_unit_zero (Elt F) main_arg3 (show (fun a => (win0_3.index (0 : Fin 1)) a * main_arg3.ty.shape.size a) = fun _ => 0 from funext fun a => by fin_cases a <;> decide) _ (m ((c : Thread nD τ).loc main_arg3))
  · exact Memref.read_access_unit_zero (Elt F) main_arg4 (show (fun a => (win0_4.index (0 : Fin 1)) a * main_arg4.ty.shape.size a) = fun _ => 0 from funext fun a => by fin_cases a <;> decide) _ (m ((c : Thread nD τ).loc main_arg4))

theorem finalA_in (c : Dev nD) (w : Fin 6) (hw : w ≠ 5) : finalA m ρ c w = (s₀ m ρ).mem ((cfg0.win w).arr.view.loc (c : Thread nD τ)) :=
  (dats (F := F) m ρ 0 c).arrAt_in w (by fin_cases w <;> first | rfl | exact absurd rfl hw) _

theorem finalA_out (c : Dev nD) : finalA m ρ c (5 : Fin 6) = OUT (inp' m) c := by
  have h : (win0_5.blk (0 : Fin 1)).view.read (Elt F) (finalA m ρ c (5 : Fin 6)) = OUT (inp' m) c := by
    unfold finalA
    rw [show cfg0.N = ((0 : Fin 1) : Fin cfg0.N).val + 1 from rfl, (dats m ρ 0 c).arrAt_succ (5 : Fin 6) (0 : Fin 1)]
    rw [show (cfg0.win (5 : Fin 6)).flush (0 : Fin 1) = true from by decide, if_pos rfl, ← inp_eq]
    exact View.read_write_univ _ _
  rw [← h]
  exact (Memref.read_access_unit_zero (Elt F) main_v1 (show (fun a => (win0_5.index (0 : Fin 1)) a * main_v1.ty.shape.size a) = fun _ => 0 from funext fun a => by fin_cases a <;> decide) _ (finalA m ρ c (5 : Fin 6))).symm

/-- Each device's result array ends at `OUT` of the inputs, its inputs unchanged, every counter at zero. -/
theorem run : θ_run defs (onTc (τ := τ) (main (F := F))) (s₀ m ρ) (fun r =>
    (∀ c : Dev nD, r.2.mem ((c : Thread nD τ).loc main_v1) = OUT (inp' m) c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)) ∧ r.2.sem = fun _ => 0) :=
  (θ_run defs _ _).mono (fun r h => ⟨fun c => ⟨(h.1 c (5 : Fin 6)).trans (finalA_out m ρ c),
    (h.1 c (0 : Fin 6)).trans (finalA_in m ρ c 0 (by decide)), (h.1 c (1 : Fin 6)).trans (finalA_in m ρ c 1 (by decide)),
    (h.1 c (2 : Fin 6)).trans (finalA_in m ρ c 2 (by decide)), (h.1 c (3 : Fin 6)).trans (finalA_in m ρ c 3 (by decide)),
    (h.1 c (4 : Fin 6)).trans (finalA_in m ρ c 4 (by decide))⟩, h.2⟩) (run_main m ρ)

end Cert.Proof

end
-- ==== Proof.Frames.lean ====
/- The kernel's and the idealized kernel's frames: both read from the run of the whole program. -/
module

public import proofs.«01_k».proof.Defs
public import proofs.«01_k».proof.Proof.Launch
public import proofs.«01_k».proof.Proof.Gen.Kernel

@[expose] public section

noncomputable section

namespace Cert.Proof

set_option maxRecDepth 100000

open Idealize.ShloMosaic Idealize.ShloMosaic.TcCoe Idealize.SL.Sem

theorem frame_ideal : Cert.quiescent_KernelIdeal (hKernelIdeal := Cert.KernelIdeal.Gen.facts) := by
  intro m g _
  exact (θ_run Cert.KernelIdeal.defs _ _).mono (fun r h => ⟨fun c => (h.1 c).2, h.2⟩) (run (F := Ideal) m g)

/-- A named constant, in the kernel as printed, is its bits. -/
local instance : Named Bits where
  named _ _ bits := FloatOps.ofBits bits

local instance : Cert.Kernel.Facts := Cert.Kernel.Gen.facts

/-- At the bits the two programs are one: the constant named in the second is the first's own bits. -/
theorem defs0_eq : Cert.Kernel.defs₀ (F := Bits) = Cert.KernelIdeal.defs₀ (F := Bits) := by
  unfold Cert.Kernel.defs₀ Cert.KernelIdeal.defs₀
  refine congrArg Defs.onTc (funext fun l => funext fun x => ?_)
  match l, x with
  | 0, (t, s) => rfl
  | ⟨_ + 1, h⟩, _ => exact absurd h (Nat.not_lt.2 (Nat.le_add_left _ _))
theorem defs_eq : Cert.Kernel.defs (F := Bits) = Cert.KernelIdeal.defs (F := Bits) := congrArg (Pipeline.defs Cert.KernelIdeal.pcfgs) defs0_eq
theorem main_eq : Cert.Kernel.main (F := Bits) = Cert.KernelIdeal.main (F := Bits) := rfl
theorem frame_kernel : Cert.quiescent_Kernel (hKernel := Cert.Kernel.Gen.facts) := by
  intro m g _
  have h := (θ_run Cert.KernelIdeal.defs _ _).mono (fun r (h : (∀ c, _ ∧ _) ∧ _) =>
    (⟨fun c => (h.1 c).2, h.2⟩ : _ ∧ _)) (run (F := Bits) m g)
  rw [← defs_eq, ← main_eq] at h
  exact h

end Cert.Proof

end
-- ==== Proof.Reals.lean ====
/- The mathematics of the claim about values: which extended reals are reals, a sum times a real, the attention weights in
   base 2 and normalised last against base e and normalised first, the angle of a rotation. -/
module

public import Idealize.ShloMosaic.PureOps.Ideal.Laws
public import Idealize.ShloMosaic.Lib.IdealHost

@[expose] public section

noncomputable section

namespace Cert.Plain

open Idealize.ShloMosaic
open scoped BigOperators

/-- An extended real that is a real. -/
def IsReal (x : EReal) : Prop := ∃ r : ℝ, x = (r : EReal)

theorem isReal_coe (r : ℝ) : IsReal (r : EReal) := ⟨r, rfl⟩
theorem IsReal.mul {x y : EReal} (hx : IsReal x) (hy : IsReal y) : IsReal (x * y) := by
  obtain ⟨a, rfl⟩ := hx; obtain ⟨b, rfl⟩ := hy; exact ⟨a * b, (EReal.coe_mul a b).symm⟩
theorem IsReal.add {x y : EReal} (hx : IsReal x) (hy : IsReal y) : IsReal (x + y) := by
  obtain ⟨a, rfl⟩ := hx; obtain ⟨b, rfl⟩ := hy; exact ⟨a + b, (EReal.coe_add a b).symm⟩
theorem isReal_sum {ι : Type} (s : Finset ι) (f : ι → EReal) (h : ∀ i, IsReal (f i)) : IsReal (∑ i ∈ s, f i) := by
  classical
  induction s using Finset.induction_on with
  | empty => exact ⟨0, by simp⟩
  | insert a s ha ih => rw [Finset.sum_insert ha]; exact (h a).add ih

theorem coe_sum' {ι : Type} (s : Finset ι) (f : ι → ℝ) : (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- A sum times a real that is not negative is the sum of the products, whatever the terms. -/
theorem sum_mul_coe {ι : Type} (s : Finset ι) (f : ι → EReal) (c : ℝ) (hc : 0 ≤ c) :
    (∑ i ∈ s, f i) * (c : EReal) = ∑ i ∈ s, f i * (c : EReal) := by
  classical
  induction s using Finset.induction_on with
  | empty => simp
  | insert a s ha ih =>
    rw [Finset.sum_insert ha, Finset.sum_insert ha, ← ih]
    exact EReal.right_distrib_of_nonneg_of_ne_top (by exact_mod_cast hc) (EReal.coe_ne_top c) _ _

/-- The largest of finitely many reals, at least one, is a real. -/
theorem fold_max_isReal {n : ℕ} (hn : 0 < n) (s : Fin n → EReal) (hs : ∀ j, IsReal (s j)) :
    IsReal ((Finset.univ : Finset (Fin n)).fold max ⊥ s) := by
  classical
  have key : ∀ t : Finset (Fin n), (t = ∅ ∧ t.fold max ⊥ s = ⊥) ∨ IsReal (t.fold max ⊥ s) := by
    intro t
    induction t using Finset.induction_on with
    | empty => left; simp
    | insert a t ha ih =>
      right
      rw [Finset.fold_insert ha]
      rcases ih with ⟨-, h⟩ | h
      · rw [h, max_bot_right]; exact hs a
      · rcases max_choice (s a) (t.fold max ⊥ s) with h' | h' <;> rw [h']
        · exact hs a
        · exact h
  rcases key Finset.univ with ⟨h, -⟩ | h
  · exact absurd h (Finset.univ_nonempty_iff.mpr ⟨⟨0, hn⟩⟩).ne_empty
  · exact h

/-- The weights `2 ^ (s / log 2)`, the average divided by their sum at the end, against the weights `e ^ (s - M)`
    divided by their sum first. -/
theorem softmax_eq {n : ℕ} (hn : 0 < n) (s : Fin n → ℝ) (M : ℝ) (v : Fin n → EReal) :
    (∑ j, Ideal.exp2 ((s j / Real.log 2 : ℝ) : EReal) * v j)
        * Ideal.div 1 (∑ j, Ideal.exp2 ((s j / Real.log 2 : ℝ) : EReal))
      = ∑ j, v j * Ideal.div (Ideal.exp (((s j : ℝ) : EReal) - (M : EReal)))
          (∑ j', Ideal.exp (((s j' : ℝ) : EReal) - (M : EReal))) := by
  have hl : Real.log 2 ≠ 0 := (Real.log_pos (by norm_num)).ne'
  have e2 : ∀ j, Ideal.exp2 ((s j / Real.log 2 : ℝ) : EReal) = ((Real.exp (s j) : ℝ) : EReal) := by
    intro j
    rw [Ideal.exp2_coe, Real.rpow_eq_pow, Real.rpow_def_of_pos (by norm_num)]
    congr 2; field_simp
  have e1 : ∀ j, Ideal.exp (((s j : ℝ) : EReal) - (M : EReal)) = ((Real.exp (s j - M) : ℝ) : EReal) := by
    intro j; rw [← EReal.coe_sub, Ideal.exp_coe]
  haveI : Nonempty (Fin n) := ⟨⟨0, hn⟩⟩
  have hZ : 0 < ∑ j, Real.exp (s j) := Finset.sum_pos (fun j _ => Real.exp_pos _) Finset.univ_nonempty
  have hZ' : 0 < ∑ j, Real.exp (s j - M) := Finset.sum_pos (fun j _ => Real.exp_pos _) Finset.univ_nonempty
  have hZZ : ∑ j, Real.exp (s j - M) = (∑ j, Real.exp (s j)) * Real.exp (-M) := by
    rw [Finset.sum_mul]; refine Finset.sum_congr rfl fun j _ => ?_; rw [← Real.exp_add]; rfl
  simp only [e2, e1, coe_sum']
  rw [Ideal.div_coe hZ.ne', one_mul, sum_mul_coe _ _ _ (by positivity)]
  refine Finset.sum_congr rfl fun j _ => ?_
  rw [Ideal.div_coe hZ'.ne', mul_comm _ (v j), mul_assoc, ← EReal.coe_mul, ← EReal.coe_mul, hZZ, sub_eq_add_neg, Real.exp_add]
  congr 2
  have := Real.exp_pos (-M)
  field_simp

/-- The angle of pair `j` of a head at position `r`. -/
def ang (r j : ℕ) : ℝ := r * Real.exp ((j * 2) * (-(Real.log 10000) / 64))

theorem ang_kernel (r j : ℕ) :
    ((r : ℝ) : EReal) * Ideal.exp (((((j : ℕ) : ℝ) : EReal) * ((2 : ℝ) : EReal))
      * Ideal.div (0 - Ideal.log ((10000 : ℝ) : EReal)) ((64 : ℝ) : EReal)) = ((ang r j : ℝ) : EReal) := by
  rw [Ideal.log_coe, if_neg (by norm_num), zero_sub, ← EReal.coe_neg, Ideal.div_coe (by norm_num), ← EReal.coe_mul, ← EReal.coe_mul,
    ← EReal.coe_mul, Ideal.exp_coe, ← EReal.coe_mul, ang]
  congr 3; ring

theorem ang_reference (r j : ℕ) :
    ((r : ℝ) : EReal) * Ideal.div ((1 : ℝ) : EReal) (Ideal.pow ((10000 : ℝ) : EReal)
      (Ideal.div ((((2 * j : ℕ) : ℝ) : EReal)) ((64 : ℝ) : EReal))) = ((ang r j : ℝ) : EReal) := by
  have h : (0 : ℝ) < 10000 := by norm_num
  rw [Ideal.div_coe (by norm_num : (64 : ℝ) ≠ 0), ← EReal.coe_mul, Ideal.pow_coe_coe, Real.rpow_eq_pow,
    Ideal.div_coe (Real.rpow_pos_of_pos h _).ne', ← EReal.coe_mul, ← EReal.coe_mul, ang]
  congr 2
  rw [one_mul, one_div, ← Real.rpow_neg h.le, Real.rpow_def_of_pos h]
  congr 1; push_cast; ring

end Cert.Plain

end
-- ==== Proof.Finite.lean ====
/- What the precondition says of a device's blocks: every entry of its activations, query and key weights is a real. -/
module

public import proofs.«01_k».proof.Pre_finite_x_wq_wk_KernelIdeal
public import proofs.«01_k».proof.Pre_finite_x_wq_wk_ReferenceIdeal
public import proofs.«01_k».proof.Proof.Reals
public import Idealize.ShloMosaic.Lib.ReduceAll
public import Idealize.ShloMosaic.Lib.ValueIdx

@[expose] public section

noncomputable section

namespace Cert.Plain

open Idealize.ShloMosaic

/-- The side conditions of the precondition's operations, on a device's blocks and on whole arrays. -/
theorem blockFacts : Cert.Pre_finite_x_wq_wk_KernelIdeal.Facts where
  bcast_S_S2x128x512 := by decide
  reducesTo_S2x128x512_S_d0_1_2 := by decide
  h_S_ := by decide
  bcast_S_S512x256 := by decide
  reducesTo_S512x256_S_d0_1 := by decide
theorem wholeFacts : Cert.Pre_finite_x_wq_wk_ReferenceIdeal.Facts where
  bcast_S_S2x1024x512 := by decide
  reducesTo_S2x1024x512_S_d0_1_2 := by decide
  h_S_ := by decide
  bcast_S_S512x2048 := by decide
  reducesTo_S512x2048_S_d0_1 := by decide

/-- An extended real whose size is below infinity is a real. -/
theorem real_of_lt (x : EReal) (h : Ideal.cmp .olt (max x (-x)) (Ideal.ofBits .f32 0x7F800000#32) = 1#1) : IsReal x := by
  have hb : Ideal.ofBits .f32 0x7F800000#32 = ⊤ := by simp [Ideal.ofBits, Ideal.ieee]
  rw [hb] at h
  induction x using EReal.rec with
  | bot => simp [Ideal.cmp] at h
  | coe r => exact ⟨r, rfl⟩
  | top => simp [Ideal.cmp] at h

open Cert.Pre_finite_x_wq_wk_KernelIdeal in
theorem real_of_pre (x : FVec Ideal S2x128x512 .f32) (wq wk wv : FVec Ideal S512x256 .f32) (wo : FVec Ideal S256x512 .f32)
    (h : (haveI := blockFacts; fn (F := Ideal) x wq wk wv wo) (fun a => a.elim0) = 1#1) :
    (∀ i, IsReal (x i)) ∧ (∀ i, IsReal (wq i)) ∧ ∀ i, IsReal (wk i) := by
  haveI : Subsingleton S_.Idx := ⟨fun a b => funext fun d => d.elim0⟩
  have h1 : ∀ a b : BitVec 1, a &&& b = 1#1 → a = 1#1 ∧ b = 1#1 := by decide
  obtain ⟨hxq, hk⟩ := h1 _ _ h
  obtain ⟨hx, hq⟩ := h1 _ _ hxq
  exact ⟨fun i => real_of_lt _ (Host.reduce_andi_all _ _ _ _ _ hx i), fun i => real_of_lt _ (Host.reduce_andi_all _ _ _ _ _ hq i),
    fun i => real_of_lt _ (Host.reduce_andi_all _ _ _ _ _ hk i)⟩

end Cert.Plain

end
-- ==== Proof.Tables.lean ====
/- The kernel's tables over the extended reals: the cosines and signed sines of the rotations, and the matrix that swaps
   neighbouring lanes. -/
module

public import proofs.«01_k».proof.Proof.Contents
public import proofs.«01_k».proof.Proof.Reals
public import Idealize.ShloMosaic.Lib.ValueIdx
public import Idealize.ShloMosaic.Lib.Pipeline.Value

@[expose] public section

noncomputable section

namespace Cert.Plain

open Idealize.ShloMosaic Idealize.ShloMosaic.TcCoe
open Cert.KernelIdeal Cert.KernelIdeal.Gen Cert.Proof

/-- The remainder the kernel takes of a word `w` by `m`, of the sign of `m`. -/
def wrapRem (w m : BitVec 32) : BitVec 32 :=
  Scalar.select (IntOp.andi (IntOp.xori (IntOp.cmpi .slt (IntOp.remsi .vector w m) 0#32) (Scalar.cmpi .slt m 0#32))
    (IntOp.cmpi .ne (IntOp.remsi .vector w m) 0#32)) (IntOp.addi (IntOp.remsi .vector w m) m) (IntOp.remsi .vector w m)

/-- Half a word, rounded down, as the kernel writes it. -/
def wrapHalf (w : BitVec 32) : BitVec 32 :=
  Scalar.select
    (IntOp.andi
      (IntOp.cmpi .ne (IntOp.subi ((IntOp.cmpi .sgt w 0#32).setWidth 32) ((IntOp.cmpi .slt w 0#32).setWidth 32))
        (Scalar.subi (Scalar.extui (Scalar.cmpi .sgt 2#32 0#32)) (Scalar.extui (Scalar.cmpi .slt 2#32 0#32))))
      (IntOp.cmpi .ne (IntOp.remsi .vector w 2#32) 0#32))
    (IntOp.subi (IntOp.divsi .vector w 2#32) 1#32) (IntOp.divsi .vector w 2#32)

set_option maxRecDepth 100000 in
theorem half_word : ∀ n : Fin 256, (wrapHalf (wrapRem (BitVec.ofNat 32 n.val)
    (Scalar.select (Scalar.cmpi .eq 64#32 0#32) 1#32 64#32))).toInt = ((n.val % 64 / 2 : ℕ) : ℤ) := by decide +kernel

set_option maxRecDepth 100000 in
theorem even_word : ∀ n : Fin 256, IntOp.cmpi .eq (wrapRem (BitVec.ofNat 32 n.val)
    (Scalar.select (Scalar.cmpi .eq 2#32 0#32) 1#32 2#32)) 0#32 = if n.val % 2 = 0 then 1#1 else 0#1 := by decide +kernel

/-- The lane next to lane `l` in its pair. -/
def swap (l : ℕ) : ℕ := l + 1 - 2 * (l % 2)

set_option maxRecDepth 100000 in
theorem swap_word : ∀ n : Fin 256, (IntOp.subi (IntOp.addi (BitVec.ofNat 32 n.val) 1#32)
    (IntOp.muli 2#32 (wrapRem (BitVec.ofNat 32 n.val) (Scalar.select (Scalar.cmpi .eq 2#32 0#32) 1#32 2#32)))).toNat = swap n.val := by
  decide +kernel

theorem lit_two : Ideal.ofBits .f32 0x40000000#32 = ((2 : ℝ) : EReal) := by
  simp [Ideal.ofBits, Ideal.ieee, -EReal.coe_mul]; norm_num
theorem lit_ten : Ideal.ofBits .f32 0x461C4000#32 = ((10000 : ℝ) : EReal) := by
  simp [Ideal.ofBits, Ideal.ieee, -EReal.coe_mul]; norm_num
theorem lit_64 : Ideal.ofBits .f32 0x42800000#32 = ((64 : ℝ) : EReal) := by
  simp [Ideal.ofBits, Ideal.ieee, -EReal.coe_mul]; norm_num
theorem lit_neg : Ideal.ofBits .f32 0xBF800000#32 = ((-1 : ℝ) : EReal) := by
  simp [Ideal.ofBits, Ideal.ieee, -EReal.coe_mul]; norm_num
theorem lit_one : Ideal.ofBits .f32 0x3F800000#32 = ((1 : ℝ) : EReal) := by
  simp [Ideal.ofBits, Ideal.ieee, -EReal.coe_mul]; norm_num
theorem lit_zero : Ideal.ofBits .f32 0x00000000#32 = ((0 : ℝ) : EReal) := by
  simp [Ideal.ofBits, Ideal.ieee, -EReal.coe_mul]
theorem lit_eighth : Ideal.ofBits .f32 0x3E000000#32 = ((1 / 8 : ℝ) : EReal) := by
  simp [Ideal.ofBits, Ideal.ieee, -EReal.coe_mul]; norm_num

theorem pos_int (n : ℕ) (h : n < 1024) : (BitVec.ofNat 32 n).toInt = (n : ℤ) := by
  rw [BitVec.toInt_ofNat']; simp [Int.bmod]; omega

/-- The angle at row `y 0`, lane `y 1`. -/
theorem angle_apply (y : S1024x256.Idx) :
    k0_pay5 (F := Ideal) k0_pay2 (k0_pay3 (iota .tc S1024x256 32 [1] iota_S1024x256_d1_w32) 64#32) k0_pay4 y
      = ((ang (y 0).val ((y 1).val % 64 / 2) : ℝ) : EReal) := by
  have e0 : iota .tc S1024x256 32 [0] iota_S1024x256_d0_w32 y = BitVec.ofNat 32 (y 0).val := iota_single_apply _ _ _ _ _ y
  have e1 : iota .tc S1024x256 32 [1] iota_S1024x256_d1_w32 y = BitVec.ofNat 32 (y 1).val := iota_single_apply _ _ _ _ _ y
  show (((iota .tc S1024x256 32 [0] iota_S1024x256_d0_w32 y).toInt : ℝ) : EReal)
      * Ideal.exp (((((wrapHalf (wrapRem (iota .tc S1024x256 32 [1] iota_S1024x256_d1_w32 y)
          (Scalar.select (Scalar.cmpi .eq 64#32 0#32) 1#32 64#32))).toInt : ℝ) : EReal) * Ideal.ofBits .f32 0x40000000#32)
        * Ideal.div (Ideal.ofBits .f32 0x00000000#32 - Ideal.log (Ideal.ofBits .f32 0x461C4000#32)) (Ideal.ofBits .f32 0x42800000#32)) = _
  have h0 : (y 0).val < 1024 := (y 0).isLt
  have h1 : (y 1).val < 256 := (y 1).isLt
  rw [e0, e1, half_word ⟨(y 1).val, h1⟩, pos_int _ h0, lit_two, lit_zero, lit_ten, lit_64, EReal.coe_zero, Int.cast_natCast,
    Int.cast_natCast, ang_kernel]

theorem cosV_apply (y : S1024x256.Idx) :
    cosV (F := Ideal) y = ((Real.cos (ang (y 0).val ((y 1).val % 64 / 2)) : ℝ) : EReal) := by
  have e : cosV (F := Ideal) y = Ideal.cos (k0_pay5 (F := Ideal) k0_pay2 (k0_pay3 (iota .tc S1024x256 32 [1] iota_S1024x256_d1_w32) 64#32) k0_pay4 y) := by
    unfold cosV k0_pay6
    exact congrFun (shapeCast_self _ _) y
  rw [e, angle_apply, Ideal.cos_coe]

/-- The sign of a lane: the first of a pair takes the other's sine with a minus. -/
def sgn (l : ℕ) : ℝ := if l % 2 = 0 then -1 else 1

theorem sinV_apply (y : S1024x256.Idx) :
    sinV (F := Ideal) y = ((Real.sin (ang (y 0).val ((y 1).val % 64 / 2)) * sgn (y 1).val : ℝ) : EReal) := by
  have e1 : iota .tc S1024x256 32 [1] iota_S1024x256_d1_w32 y = BitVec.ofNat 32 (y 1).val := iota_single_apply _ _ _ _ _ y
  have h1 : (y 1).val < 256 := (y 1).isLt
  have e : sinV (F := Ideal) y
      = Ideal.sin (k0_pay5 (F := Ideal) k0_pay2 (k0_pay3 (iota .tc S1024x256 32 [1] iota_S1024x256_d1_w32) 64#32) k0_pay4 y)
        * Scalar.select (IntOp.cmpi .eq (wrapRem (iota .tc S1024x256 32 [1] iota_S1024x256_d1_w32 y)
          (Scalar.select (Scalar.cmpi .eq 2#32 0#32) 1#32 2#32)) 0#32) (Ideal.ofBits .f32 0xBF800000#32) (Ideal.ofBits .f32 0x3F800000#32) := by
    unfold sinV k0_pay7
    exact congrFun (shapeCast_self _ _) y
  rw [e, angle_apply, Ideal.sin_coe, e1, even_word ⟨(y 1).val, h1⟩, lit_neg, lit_one, EReal.coe_mul]
  congr 1
  unfold sgn Scalar.select
  by_cases h : (y 1).val % 2 = 0 <;> simp [h]

theorem permV_apply (y : S256x256.Idx) :
    permV (F := Ideal) y = if (y 0).val = swap (y 1).val then 1 else 0 := by
  have e0 : iota .tc S256x256 32 [0] iota_S256x256_d0_w32 y = BitVec.ofNat 32 (y 0).val := iota_single_apply _ _ _ _ _ y
  have e1 : iota .tc S256x256 32 [1] iota_S256x256_d1_w32 y = BitVec.ofNat 32 (y 1).val := iota_single_apply _ _ _ _ _ y
  have h0 : (y 0).val < 256 := (y 0).isLt
  have h1 : (y 1).val < 256 := (y 1).isLt
  have e : permV (F := Ideal) y
      = (((IntOp.cmpi .eq (iota .tc S256x256 32 [0] iota_S256x256_d0_w32 y)
          (IntOp.subi (IntOp.addi (iota .tc S256x256 32 [1] iota_S256x256_d1_w32 y) 1#32)
            (IntOp.muli 2#32 (wrapRem (iota .tc S256x256 32 [1] iota_S256x256_d1_w32 y)
              (Scalar.select (Scalar.cmpi .eq 2#32 0#32) 1#32 2#32))))).setWidth 32).toInt : ℝ) := rfl
  have hs := swap_word ⟨(y 1).val, h1⟩
  rw [e, e0, e1]
  set u := IntOp.subi (IntOp.addi (BitVec.ofNat 32 (y 1).val) 1#32)
    (IntOp.muli 2#32 (wrapRem (BitVec.ofNat 32 (y 1).val) (Scalar.select (Scalar.cmpi .eq 2#32 0#32) 1#32 2#32)))
  have hu : BitVec.ofNat 32 (y 0).val = u ↔ (y 0).val = swap (y 1).val := by
    rw [← BitVec.toNat_inj, hs, BitVec.toNat_ofNat, Nat.mod_eq_of_lt (by omega)]
  by_cases h : (y 0).val = swap (y 1).val
  · rw [if_pos h, hu.mpr h]; simp [IntOp.cmpi]
  · rw [if_neg h]; simp [IntOp.cmpi, beq_eq_false_iff_ne.mpr (hu.not.mpr h)]

end Cert.Plain

end
-- ==== Proof.Rows.lean ====
/- The query, key and value rows of the kernel over the extended reals: sums of products, turned by the angle of their row. -/
module

public import proofs.«01_k».proof.Proof.Tables
public import Idealize.ShloMosaic.Lib.MatmulPlain
public import Idealize.ShloMosaic.Lib.ValueLayout
public import Idealize.ShloMosaic.Lib.ValueLayoutCasts

@[expose] public section

noncomputable section

namespace Cert.Plain

open Idealize.ShloMosaic Idealize.ShloMosaic.TcCoe Idealize.ShloMosaic.ValueIdx
open Cert.KernelIdeal Cert.KernelIdeal.Gen
open Cert.Proof hiding ix2 ix3 ix4
open scoped BigOperators

theorem ix2_eq {m n : ℕ} (a : Fin m) (b : Fin n) : Cert.Proof.ix2 (n := ![m, n]) a b = ix2 a b := by
  funext i; match i with | ⟨0, _⟩ => rfl | ⟨1, _⟩ => rfl
theorem ix3_eq {m n p : ℕ} (a : Fin m) (b : Fin n) (c : Fin p) : Cert.Proof.ix3 (n := ![m, n, p]) a b c = ix3 a b c := by
  funext i; match i with | ⟨0, _⟩ => rfl | ⟨1, _⟩ => rfl | ⟨2, _⟩ => rfl

/-- The lane next to `l`. -/
def swapF (l : Fin 256) : Fin 256 := ⟨swap l.val, by have := l.isLt; unfold swap; omega⟩

/-- A row of activations times a column of a weight. -/
def proj {n : ℕ} (x : Fin 512 → EReal) (w : Fin 512 → Fin n → EReal) (l : Fin n) : EReal := ∑ D, x D * w D l

/-- A row of lanes turned by the angles of position `p`. -/
def turn (P : Fin 256 → EReal) (p : ℕ) (l : Fin 256) : EReal :=
  P l * ((Real.cos (ang p (l.val % 64 / 2)) : ℝ) : EReal) + P (swapF l) * ((Real.sin (ang p (l.val % 64 / 2)) * sgn l.val : ℝ) : EReal)

/-- The batch and the row of a row of two batches one below the other. -/
def hi2 (R : Fin 256) : Fin 2 := ⟨R.val / 128, by have := R.isLt; omega⟩
def lo2 (R : Fin 256) : Fin 128 := ⟨R.val % 128, Nat.mod_lt _ (by decide)⟩

theorem xrow_apply (x : Vec Ideal S2x128x512 .f32) (R : Fin 256) (D : Fin 512) :
    k0_pay17 (F := Ideal) (k0_pay16 (k0_pay1 x)) (ix2 R D) = x (ix3 (hi2 R) (lo2 R) D) := by
  unfold k0_pay17
  refine (shapeCast_apply _ _ _ (ix3 (hi2 R) (lo2 R) D) ?_).trans ?_
  · rw [Shape.rowMajor_val_three, Shape.rowMajor_val_two]
    show ((R.val / 128) * 128 + R.val % 128) * 512 + D.val = R.val * 512 + D.val
    omega
  unfold k0_pay16
  refine (shapeCast_apply _ _ _ (ix4 0 (hi2 R) (lo2 R) D) ?_).trans ?_
  · rw [Shape.rowMajor_val_three, Shape.rowMajor_val_four]
    show (((0 * 2) + (hi2 R).val) * 128 + (lo2 R).val) * 512 + D.val = ((hi2 R).val * 128 + (lo2 R).val) * 512 + D.val
    omega
  unfold k0_pay1
  refine (shapeCast_apply _ _ _ (ix3 (hi2 R) (lo2 R) D) ?_).trans ?_
  · rw [Shape.rowMajor_val_three, Shape.rowMajor_val_four]
    show ((hi2 R).val * 128 + (lo2 R).val) * 512 + D.val = (((0 * 2) + (hi2 R).val) * 128 + (lo2 R).val) * 512 + D.val
    omega
  exact congrFun (shapeCast_self _ _) _

theorem weight_apply (w : Vec Ideal S512x256 .f32) (D : Fin 512) (l : Fin 256) :
    k0_pay10 (F := Ideal) w (ix2 D l) = w (ix2 D l) := congrFun (shapeCast_self w _) _

/-- A matrix product of the kernel into a zero accumulator, and one with the transposed right factor. -/
theorem dot_zero {M K N : ℕ} {φ₁ φ₂ : FTy} (lhs : FVec Ideal ⟨2, ![M, K]⟩ φ₁) (rhs : FVec Ideal ⟨2, ![K, N]⟩ φ₂) (r : Fin M) (c : Fin N) :
    matmul (DotDims.plain M K N) none lhs rhs (constant ⟨2, ![M, N]⟩ .f32 0x00000000#32) (ix2 r c)
      = ∑ k : Fin K, lhs (ix2 r k) * rhs (ix2 k c) := by
  refine (Ideal.matmul_plain_apply none lhs rhs _ r c).trans ?_
  show Ideal.ofBits .f32 0x00000000#32 + _ = _
  rw [lit_zero, EReal.coe_zero, zero_add]
theorem dot_zero_t {M K N : ℕ} {φ₁ φ₂ : FTy} (lhs : FVec Ideal ⟨2, ![M, K]⟩ φ₁) (rhs : FVec Ideal ⟨2, ![N, K]⟩ φ₂) (r : Fin M) (c : Fin N) :
    matmul (DotDims.transposedRhs M K N) none lhs rhs (constant ⟨2, ![M, N]⟩ .f32 0x00000000#32) (ix2 r c)
      = ∑ k : Fin K, lhs (ix2 r k) * rhs (ix2 c k) := by
  refine (Ideal.matmul_transposedRhs_apply none lhs rhs _ r c).trans ?_
  show Ideal.ofBits .f32 0x00000000#32 + _ = _
  rw [lit_zero, EReal.coe_zero, zero_add]

/-- The product of the rows with a weight. -/
theorem raw_apply (x : Vec Ideal S2x128x512 .f32) (w : Vec Ideal S512x256 .f32) (R : Fin 256) (l : Fin 256) :
    matmul dot_S256x512_S512x256_S256x256_1_0_0_1_n_n none (k0_pay17 (F := Ideal) (k0_pay16 (k0_pay1 x))) (k0_pay10 (F := Ideal) w)
        (constant S256x256 .f32 0x00000000#32) (ix2 R l)
      = proj (fun D => x (ix3 (hi2 R) (lo2 R) D)) (fun D l => w (ix2 D l)) l := by
  refine (dot_zero _ _ R l).trans ?_
  exact Finset.sum_congr rfl fun D _ => by rw [xrow_apply, weight_apply]

/-- A product with the swapping matrix swaps the lanes. -/
theorem perm_apply (P : FVec Ideal S256x256 .bf16) (R l : Fin 256) :
    matmul dot_S256x256_S256x256_S256x256_1_0_0_1_n_n none P (permV (F := Ideal)) (constant S256x256 .f32 0x00000000#32) (ix2 R l)
      = P (ix2 R (swapF l)) := by
  refine (dot_zero _ _ R l).trans ?_
  rw [Finset.sum_eq_single (swapF l)]
  · rw [permV_apply]
    exact (congrArg (P (ix2 R (swapF l)) * ·) (if_pos rfl)).trans (mul_one _)
  · intro m _ hm
    rw [permV_apply]
    exact (congrArg (P (ix2 R m) * ·) (if_neg fun h => hm (Fin.ext h))).trans (mul_zero _)
  · exact fun h => absurd (Finset.mem_univ _) h

theorem tab_apply (f : Vec Ideal S128x256 .f32) (R l : Fin 256) : k0_pay14 (F := Ideal) f (ix2 R l) = f (ix2 (lo2 R) l) := by
  have hR := R.isLt
  unfold k0_pay14
  by_cases h : R.val < 128
  · refine concatenate_pair_apply_left (t := S256x256) (s₁ := S128x256) (s₂ := S128x256) 0 f f _ _ rfl _ fun b => ?_
    match b with
    | ⟨0, _⟩ => show R.val % 128 = R.val; omega
    | ⟨1, _⟩ => rfl
  · refine concatenate_pair_apply_right (t := S256x256) (s₁ := S128x256) (s₂ := S128x256) 0 f f _ _ rfl rfl _ (fun b hb => ?_) ?_
    · match b with
      | ⟨0, _⟩ => exact absurd rfl hb
      | ⟨1, _⟩ => rfl
    · show R.val % 128 + 128 = R.val; omega

section Chunk
variable (I : Inp Ideal) (d k : Dev nD)

theorem cosC_apply (r : Fin 128) (l : Fin 256) :
    cosC (F := Ideal) k (ix2 r l) = ((Real.cos (ang (rowOf k r).val (l.val % 64 / 2)) : ℝ) : EReal) := cosV_apply _
theorem sinC_apply (r : Fin 128) (l : Fin 256) :
    sinC (F := Ideal) k (ix2 r l) = ((Real.sin (ang (rowOf k r).val (l.val % 64 / 2)) * sgn l.val : ℝ) : EReal) := sinV_apply _

/-- Turned rows of a chunk, from any weight. -/
theorem turned_apply (w : Vec Ideal S512x256 .f32) (R l : Fin 256) :
    k0_pay19 (F := Ideal) permV (k0_pay10 w) (k0_pay14 (cosC k)) (k0_pay15 (sinC k)) (k0_pay16 (k0_pay1 (F := Ideal) (I.x k))) (ix2 R l)
      = turn (proj (fun D => I.x k (ix3 (hi2 R) (lo2 R) D)) (fun D l => w (ix2 D l))) (rowOf k (lo2 R)).val l := by
  have e : k0_pay19 (F := Ideal) permV (k0_pay10 w) (k0_pay14 (cosC k)) (k0_pay15 (sinC k)) (k0_pay16 (k0_pay1 (F := Ideal) (I.x k))) (ix2 R l)
      = matmul dot_S256x512_S512x256_S256x256_1_0_0_1_n_n none (k0_pay17 (F := Ideal) (k0_pay16 (k0_pay1 (F := Ideal) (I.x k)))) (k0_pay10 (F := Ideal) w)
            (constant S256x256 .f32 0x00000000#32) (ix2 R l) * k0_pay14 (F := Ideal) (cosC k) (ix2 R l)
        + matmul dot_S256x256_S256x256_S256x256_1_0_0_1_n_n none
            (truncf .bf16 (matmul dot_S256x512_S512x256_S256x256_1_0_0_1_n_n none (k0_pay17 (F := Ideal) (k0_pay16 (k0_pay1 (F := Ideal) (I.x k)))) (k0_pay10 (F := Ideal) w)
            (constant S256x256 .f32 0x00000000#32)) bitsLt_bf16_f32)
            (permV (F := Ideal)) (constant S256x256 .f32 0x00000000#32) (ix2 R l) * k0_pay14 (F := Ideal) (sinC k) (ix2 R l) := rfl
  rw [e, perm_apply, truncf_apply, raw_apply, raw_apply, tab_apply, tab_apply, cosC_apply, sinC_apply]
  rfl

/-- The factor of the queries. -/
def kap : EReal := (((8 * Real.log 2)⁻¹ : ℝ) : EReal)

theorem scaled_apply (w : Vec Ideal S512x256 .f32) (R l : Fin 256) :
    k0_pay18 (F := Ideal) permV (k0_pay10 w) (k0_pay14 (cosC k)) (k0_pay15 (sinC k)) (k0_pay16 (k0_pay1 (F := Ideal) (I.x k))) (ix2 R l)
      = turn (proj (fun D => I.x k (ix3 (hi2 R) (lo2 R) D)) (fun D l => w (ix2 D l))) (rowOf k (lo2 R)).val l * kap := by
  rw [← turned_apply]; rfl

/-- Batch `b`'s rows out of both batches' rows. -/
def both (b : Fin 2) (r : Fin 128) : Fin 256 := ⟨128 * b.val + r.val, by have := b.isLt; have := r.isLt; omega⟩
theorem hi2_both (b : Fin 2) (r : Fin 128) : hi2 (both b r) = b := by
  apply Fin.ext; have := r.isLt; simp only [hi2, both]; omega
theorem lo2_both (b : Fin 2) (r : Fin 128) : lo2 (both b r) = r := by
  apply Fin.ext; have := r.isLt; simp only [lo2, both]; omega

theorem part_apply {o : Fin 2 → ℕ} {h : S256x256.Slices o S128x256} {h' : S128x256.ShapeCasts S1x128x256} (f : FVec Ideal S256x256 .bf16) (b : Fin 2) (ho : o = ![128 * b.val, 0]) (r : Fin 128) (l : Fin 256) :
    shapeCast S1x128x256 (extractStridedSlice S128x256 o f h) h' (ix3 0 r l) = f (ix2 (both b r) l) := by
  subst ho
  refine (shapeCast_apply _ _ _ (ix2 r l) ?_).trans ?_
  · rw [Shape.rowMajor_val_three, Shape.rowMajor_val_two]
    show r.val * 256 + l.val = (0 * 128 + r.val) * 256 + l.val
    omega
  refine extractStridedSlice_apply _ _ _ _ _ fun a => ?_
  match a with
  | ⟨0, _⟩ => rfl
  | ⟨1, _⟩ => show l.val = 0 + l.val; omega

theorem qC_apply (b : Fin 2) (r : Fin 128) (l : Fin 256) :
    qC I d k b (ix3 0 r l)
      = turn (proj (fun D => I.x k (ix3 b r D)) (fun D l => I.wq d (ix2 D l))) (rowOf k r).val l * kap := by
  have key := scaled_apply I k (I.wq d) (both b r) l
  rw [hi2_both, lo2_both] at key
  rw [← key]
  fin_cases b
  · show qV0 (F := Ideal) _ _ _ _ (ix3 0 r l) = _
    exact part_apply (h := slices_S256x256_o0_0_S128x256) (k0_pay18 (F := Ideal) permV (k0_pay10 (I.wq d)) (k0_pay14 (cosC k)) (k0_pay15 (sinC k)) (k0_pay16 (k0_pay1 (F := Ideal) (I.x k)))) 0 (by rfl) r l
  · show qV1 (F := Ideal) _ _ _ _ (ix3 0 r l) = _
    exact part_apply (h := slices_S256x256_o128_0_S128x256) (k0_pay18 (F := Ideal) permV (k0_pay10 (I.wq d)) (k0_pay14 (cosC k)) (k0_pay15 (sinC k)) (k0_pay16 (k0_pay1 (F := Ideal) (I.x k)))) 1 (by rfl) r l

theorem kC_apply (b : Fin 2) (r : Fin 128) (l : Fin 256) :
    kC I d k b (ix3 0 r l)
      = turn (proj (fun D => I.x k (ix3 b r D)) (fun D l => I.wk d (ix2 D l))) (rowOf k r).val l := by
  have key := turned_apply I k (I.wk d) (both b r) l
  rw [hi2_both, lo2_both] at key
  rw [← key]
  fin_cases b
  · show kV0 (F := Ideal) _ _ _ _ (ix3 0 r l) = _
    exact part_apply (h := slices_S256x256_o0_0_S128x256) (k0_pay19 (F := Ideal) permV (k0_pay10 (I.wk d)) (k0_pay14 (cosC k)) (k0_pay15 (sinC k)) (k0_pay16 (k0_pay1 (F := Ideal) (I.x k)))) 0 (by rfl) r l
  · show kV1 (F := Ideal) _ _ _ _ (ix3 0 r l) = _
    exact part_apply (h := slices_S256x256_o128_0_S128x256) (k0_pay19 (F := Ideal) permV (k0_pay10 (I.wk d)) (k0_pay14 (cosC k)) (k0_pay15 (sinC k)) (k0_pay16 (k0_pay1 (F := Ideal) (I.x k)))) 1 (by rfl) r l

theorem vC_apply (b : Fin 2) (r : Fin 128) (l : Fin 256) :
    vC I d k b (ix3 0 r l) = proj (fun D => I.x k (ix3 b r D)) (fun D l => I.wv d (ix2 D l)) l := by
  have key := raw_apply (I.x k) (I.wv d) (both b r) l
  rw [hi2_both, lo2_both] at key
  rw [← key]
  fin_cases b
  · show vV0 (F := Ideal) _ _ (ix3 0 r l) = _
    exact part_apply (h := slices_S256x256_o0_0_S128x256) (k0_pay20 (F := Ideal) (k0_pay10 (I.wv d)) (k0_pay16 (k0_pay1 (F := Ideal) (I.x k)))) 0 (by rfl) r l
  · show vV1 (F := Ideal) _ _ (ix3 0 r l) = _
    exact part_apply (h := slices_S256x256_o128_0_S128x256) (k0_pay20 (F := Ideal) (k0_pay10 (I.wv d)) (k0_pay16 (k0_pay1 (F := Ideal) (I.x k)))) 1 (by rfl) r l

end Chunk

end Cert.Plain

end
-- ==== Proof.Heads.lean ====
/- A device's share of the result of one chunk over the extended reals: for each head the average of the value rows with the
   weights of the scores, times the output weight. -/
module

public import proofs.«01_k».proof.Proof.Rows

@[expose] public section

noncomputable section

namespace Cert.Plain

open Idealize.ShloMosaic Idealize.ShloMosaic.TcCoe Idealize.ShloMosaic.ValueIdx
open Cert.KernelIdeal Cert.KernelIdeal.Gen
open Cert.Proof hiding ix2 ix3 ix4
open scoped BigOperators

/-- The average of `v` with the weights `2 ^ s`, divided by the sum of the weights at the end. -/
def avg {n : ℕ} (s v : Fin n → EReal) : EReal := (∑ j, Ideal.exp2 (s j) * v j) * Ideal.div 1 (∑ j, Ideal.exp2 (s j))

/-- The scores of 128 query rows of one head with all keys. -/
def scoreV (q : FVec Ideal S128x64 .bf16) (k : Vec Ideal S1x1024x64 .bf16) : FVec Ideal S128x1024 .f32 :=
  matmul dot_S128x64_S1024x64_S128x1024_1_1_0_0_n_n none q (shapeCast S1024x64 k shapeCasts_S1x1024x64_S1024x64 : FVec Ideal S1024x64 .bf16)
    (constant S128x1024 .f32 0x00000000#32)

/-- One head's averages. -/
def headV (q : FVec Ideal S128x64 .bf16) (k v : Vec Ideal S1x1024x64 .bf16) : FVec Ideal S128x64 .bf16 :=
  truncf .bf16 (mulf
    (matmul dot_S128x1024_S1024x64_S128x64_1_0_0_1_n_n none (truncf .bf16 (exp2 (scoreV q k)) bitsLt_bf16_f32 : FVec Ideal S128x1024 .bf16)
      (shapeCast S1024x64 v shapeCasts_S1x1024x64_S1024x64 : FVec Ideal S1024x64 .bf16) (constant S128x64 .f32 0x00000000#32))
    (broadcastTo S128x64
      (divf (broadcast S128x1 (Scalar.ofBits .f32 0x3F800000#32))
        (shapeCast S128x1 (multiReduction .add [1] S128 (exp2 (scoreV q k)) 0x00000000#32 reduces_S128x1024_S128 (.inl rfl) rfl)
          shapeCasts_S128_S128x1 : FVec Ideal S128x1 .f32))
      broadcasts_S128x1_S128x64)) bitsLt_bf16_f32

theorem slab_apply (k : Vec Ideal S1x1024x64 .bf16) (j : Fin 1024) (m : Fin 64) :
    shapeCast S1024x64 k shapeCasts_S1x1024x64_S1024x64 (ix2 j m) = k (ix3 0 j m) := by
  refine shapeCast_apply _ _ _ _ ?_
  rw [Shape.rowMajor_val_three, Shape.rowMajor_val_two]
  show (0 * 1024 + j.val) * 64 + m.val = j.val * 64 + m.val
  omega

theorem scoreV_apply (q : FVec Ideal S128x64 .bf16) (k : Vec Ideal S1x1024x64 .bf16) (r : Fin 128) (j : Fin 1024) :
    scoreV q k (ix2 r j) = ∑ m : Fin 64, q (ix2 r m) * k (ix3 0 j m) := by
  refine (dot_zero_t _ _ r j).trans ?_
  exact Finset.sum_congr rfl fun m _ => by rw [slab_apply]

theorem headV_apply (q : FVec Ideal S128x64 .bf16) (k v : Vec Ideal S1x1024x64 .bf16) (r : Fin 128) (e : Fin 64) :
    headV q k v (ix2 r e) = avg (fun j => ∑ m : Fin 64, q (ix2 r m) * k (ix3 0 j m)) (fun j => v (ix3 0 j e)) := by
  unfold headV
  rw [truncf_apply, mulf_apply]
  unfold avg
  congr 1
  · refine (dot_zero _ _ r e).trans ?_
    refine Finset.sum_congr rfl fun j _ => ?_
    rw [slab_apply]
    congr 1
    show Ideal.exp2 (scoreV q k (ix2 r j)) = _
    rw [scoreV_apply]
  · refine (broadcastTo_apply _ _ _ (ix2 r 0) fun a => ?_).trans ?_
    · match a with
      | ⟨0, _⟩ => rfl
      | ⟨1, _⟩ => rfl
    rw [divf_apply]
    show Ideal.div (Ideal.ofBits .f32 0x3F800000#32) _ = _
    rw [lit_one, EReal.coe_one]
    congr 1
    refine (shapeCast_apply _ _ _ (ix1 r) ?_).trans ?_
    · rw [Shape.rowMajor_val_two]
      show (S128.rowMajor (ix1 r)).val = r.val * 1 + 0
      rw [Shape.rowMajor_val_one]; show r.val = r.val * 1 + 0; omega
    refine (Ideal.multiReduction_add_single (s := S128x1024) (t := S128) (a := 1) (exp2 (scoreV q k)) 0x00000000#32 reduces_S128x1024_S128 (.inl rfl) rfl (ix1 r)).trans ?_
    refine Finset.sum_congr rfl fun j _ => ?_
    have hl : reduces_S128x1024_S128.lift (ix1 r) (j : Fin 1024) = (ix2 r j : S128x1024.Idx) := by
      funext a; match a with | ⟨0, _⟩ => rfl | ⟨1, _⟩ => rfl
    exact (congrArg (fun i => Ideal.exp2 (scoreV q k i)) hl).trans (congrArg Ideal.exp2 (scoreV_apply q k r j))

/-- Lane `m` of head `h`, and the head of a lane. -/
def lane (h : Fin 4) (m : Fin 64) : Fin 256 := ⟨64 * h.val + m.val, by have := h.isLt; have := m.isLt; omega⟩
def headIx (l : Fin 256) : Fin 4 := ⟨l.val / 64, by have := l.isLt; omega⟩
def laneIx (l : Fin 256) : Fin 64 := ⟨l.val % 64, Nat.mod_lt _ (by decide)⟩
theorem lane_ix (l : Fin 256) : lane (headIx l) (laneIx l) = l := by
  apply Fin.ext; simp only [lane, headIx, laneIx]; omega

theorem attV_eq (wo : FVec Ideal S256x512 .bf16) (q : Vec Ideal S1x128x256 .bf16) (k0 v0 k1 v1 k2 v2 k3 v3 : Vec Ideal S1x1024x64 .bf16) :
    attV wo q k0 v0 k1 v1 k2 v2 k3 v3
      = matmul dot_S128x256_S256x512_S128x512_1_0_0_1_n_n none
          (concatenate S128x256 1 [
            ⟨S128x64, headV (extractStridedSlice S128x64 ![0, 0] (k0_pay170 (F := Ideal) q) slices_S128x256_o0_0_S128x64) k0 v0⟩,
            ⟨S128x64, headV (extractStridedSlice S128x64 ![0, 64] (k0_pay170 (F := Ideal) q) slices_S128x256_o0_64_S128x64) k1 v1⟩,
            ⟨S128x64, headV (extractStridedSlice S128x64 ![0, 128] (k0_pay170 (F := Ideal) q) slices_S128x256_o0_128_S128x64) k2 v2⟩,
            ⟨S128x64, headV (extractStridedSlice S128x64 ![0, 192] (k0_pay170 (F := Ideal) q) slices_S128x256_o0_192_S128x64) k3 v3⟩]
            concatenates_S128x64_S128x64_S128x64_S128x64_S128x256_d1 : FVec Ideal S128x256 .bf16)
          wo (constant S128x512 .f32 0x00000000#32) := rfl

theorem qslice_apply (q : Vec Ideal S1x128x256 .bf16) {o : Fin 2 → ℕ} {hs : S128x256.Slices o S128x64} (h : Fin 4) (ho : o = ![0, 64 * h.val])
    (r : Fin 128) (m : Fin 64) :
    extractStridedSlice S128x64 o (k0_pay170 (F := Ideal) q) hs (ix2 r m) = q (ix3 0 r (lane h m)) := by
  subst ho
  refine (extractStridedSlice_apply _ _ _ _ (ix2 r (lane h m)) fun a => ?_).trans ?_
  · match a with
    | ⟨0, _⟩ => show r.val = 0 + r.val; omega
    | ⟨1, _⟩ => rfl
  unfold k0_pay170
  refine shapeCast_apply _ _ _ _ ?_
  rw [Shape.rowMajor_val_three, Shape.rowMajor_val_two]
  show (0 * 128 + r.val) * 256 + (lane h m).val = r.val * 256 + (lane h m).val
  omega

variable (I : Inp Ideal) (d k : Dev nD) (b : Fin 2)

/-- The scores of query row `r` of chunk `k` with every key, on head `h`; the values of lane `l`. -/
def kscore (r : Fin 128) (h : Fin 4) (j : Fin 1024) : EReal :=
  ∑ m : Fin 64, qC I d k b (ix3 0 r (lane h m)) * kC I d (chunk j) b (ix3 0 (place j) (lane h m))
def kvalue (l : Fin 256) (j : Fin 1024) : EReal := vC I d (chunk j) b (ix3 0 (place j) l)

theorem keyOf_apply (g : Dev nD → Fin 2 → FVec Ideal S1x128x256 .bf16) (h : Fin 4) (hl : 64 * h.val ≤ 192) (j : Fin 1024) (m : Fin 64) :
    headOf (F := Ideal) (rowsOf g) b (64 * h.val) hl (ix3 0 j m) = g (chunk j) b (ix3 0 (place j) (lane h m)) := by
  exact congrArg (g (chunk j) b) (ix3_eq (0 : Fin 1) (place j) (lane h m))

theorem head_apply {o : Fin 2 → ℕ} {hs : S128x256.Slices o S128x64} (h : Fin 4) (ho : o = ![0, 64 * h.val]) (hl : 64 * h.val ≤ 192)
    (r : Fin 128) (m : Fin 64) :
    headV (extractStridedSlice S128x64 o (k0_pay170 (F := Ideal) (qC I d k b)) hs) (headOf (KS I d) b (64 * h.val) hl)
      (headOf (VS I d) b (64 * h.val) hl) (ix2 r m) = avg (kscore I d k b r h) (kvalue I d b (lane h m)) := by
  rw [headV_apply]
  congr 1
  · funext j
    unfold kscore
    refine Finset.sum_congr rfl fun m' _ => ?_
    rw [qslice_apply _ h ho]
    exact congrArg (qC I d k b (ix3 0 r (lane h m')) * ·) (keyOf_apply b (kC I d) h hl j m')
  · funext j
    exact keyOf_apply b (vC I d) h hl j m

/-- A device's share of a chunk. -/
theorem ATT_apply (r : Fin 128) (n : Fin 512) :
    ATT I d k b (ix2 r n)
      = ∑ l : Fin 256, avg (kscore I d k b r (headIx l)) (kvalue I d b l) * I.wo d (ix2 l n) := by
  unfold ATT
  rw [attV_eq]
  refine (dot_zero _ _ r n).trans ?_
  refine Finset.sum_congr rfl fun l _ => ?_
  have hw : WO I d (ix2 l n) = I.wo d (ix2 l n) := congrFun (shapeCast_self (I.wo d) _) _
  rw [hw]
  congr 1
  have key : ∀ (h : Fin 4) (m : Fin 64), lane h m = l →
      avg (kscore I d k b r h) (kvalue I d b (lane h m)) = avg (kscore I d k b r (headIx l)) (kvalue I d b l) := by
    intro h m e
    have : headIx l = h := by
      rw [← e]; apply Fin.ext; have := m.isLt; simp only [headIx, lane]; omega
    rw [this, e]
  have hL := lane_ix l
  generalize headIx l = h at hL key
  generalize laneIx l = m at hL
  rw [← key h m hL]
  fin_cases h
  · refine (concatenate_apply_piece (t := S128x256) 1 _ _ _ 0 (by simp) S128x64 _ rfl rfl 0 rfl (ix2 r m) (fun c hc => ?_) ?_).trans
      (head_apply I d k b (hs := slices_S128x256_o0_0_S128x64) 0 (by rfl) (by decide) r m)
    · match c with
      | ⟨0, _⟩ => rfl
      | ⟨1, _⟩ => exact absurd rfl hc
    · show 0 + m.val = l.val; rw [← hL]; rfl
  · refine (concatenate_apply_piece (t := S128x256) 1 _ _ _ 1 (by simp) S128x64 _ rfl rfl 64 rfl (ix2 r m) (fun c hc => ?_) ?_).trans
      (head_apply I d k b (hs := slices_S128x256_o0_64_S128x64) 1 (by rfl) (by decide) r m)
    · match c with
      | ⟨0, _⟩ => rfl
      | ⟨1, _⟩ => exact absurd rfl hc
    · show 64 + m.val = l.val; rw [← hL]; rfl
  · refine (concatenate_apply_piece (t := S128x256) 1 _ _ _ 2 (by simp) S128x64 _ rfl rfl 128 rfl (ix2 r m) (fun c hc => ?_) ?_).trans
      (head_apply I d k b (hs := slices_S128x256_o0_128_S128x64) 2 (by rfl) (by decide) r m)
    · match c with
      | ⟨0, _⟩ => rfl
      | ⟨1, _⟩ => exact absurd rfl hc
    · show 128 + m.val = l.val; rw [← hL]; rfl
  · refine (concatenate_apply_piece (t := S128x256) 1 _ _ _ 3 (by simp) S128x64 _ rfl rfl 192 rfl (ix2 r m) (fun c hc => ?_) ?_).trans
      (head_apply I d k b (hs := slices_S128x256_o0_192_S128x64) 3 (by rfl) (by decide) r m)
    · match c with
      | ⟨0, _⟩ => rfl
      | ⟨1, _⟩ => exact absurd rfl hc
    · show 192 + m.val = l.val; rw [← hL]; rfl

end Cert.Plain

end
-- ==== Proof.Total.lean ====
/- The result of a device over the extended reals: the sum over all devices of their shares. -/
module

public import proofs.«01_k».proof.Proof.Heads

@[expose] public section

noncomputable section

namespace Cert.Plain

open Idealize.ShloMosaic Idealize.ShloMosaic.TcCoe Idealize.ShloMosaic.ValueIdx
open Cert.KernelIdeal Cert.KernelIdeal.Gen
open Cert.Proof hiding ix2 ix3 ix4
open scoped BigOperators

theorem packV_apply (a : FVec Ideal S128x512 .f32) (r : Fin 128) (n : Fin 512) : packV (F := Ideal) a (ix4 0 0 r n) = a (ix2 r n) := by
  refine shapeCast_apply _ _ _ (ix2 r n) ?_
  rw [Shape.rowMajor_val_four, Shape.rowMajor_val_two]
  show r.val * 512 + n.val = ((0 * 1 + 0) * 128 + r.val) * 512 + n.val
  omega

theorem unpack_apply (p : Vec Ideal S1x1x128x512 .bf16) (r : Fin 128) (n : Fin 512) :
    shapeCast S128x512 p shapeCasts_S1x1x128x512_S128x512 (ix2 r n) = p (ix4 0 0 r n) := by
  refine shapeCast_apply _ _ _ (ix4 0 0 r n) ?_
  rw [Shape.rowMajor_val_four, Shape.rowMajor_val_two]
  show ((0 * 1 + 0) * 128 + r.val) * 512 + n.val = r.val * 512 + n.val
  omega

theorem addV_apply (a : FVec Ideal S128x512 .f32) (p : Vec Ideal S1x1x128x512 .bf16) (r : Fin 128) (n : Fin 512) :
    addV (F := Ideal) a p (ix2 r n) = p (ix4 0 0 r n) + a (ix2 r n) := by
  rw [← unpack_apply p]; rfl

theorem outV_apply (a : FVec Ideal S128x512 .f32) (p q : Vec Ideal S1x1x128x512 .bf16) (r : Fin 128) (n : Fin 512) :
    outV (F := Ideal) a p q (ix3 0 r n) = p (ix4 0 0 r n) + q (ix4 0 0 r n) + a (ix2 r n) := by
  rw [← unpack_apply p, ← unpack_apply q]
  have e : outV (F := Ideal) a p q = shapeCast S1x128x512
      (fun i => shapeCast S128x512 p shapeCasts_S1x1x128x512_S128x512 i + shapeCast S128x512 q shapeCasts_S1x1x128x512_S128x512 i + a i)
      shapeCasts_S128x512_S1x128x512 := rfl
  rw [e]
  refine shapeCast_apply _ _ _ (ix2 r n) ?_
  rw [Shape.rowMajor_val_three, Shape.rowMajor_val_two]
  show r.val * 512 + n.val = (0 * 128 + r.val) * 512 + n.val
  omega

theorem sum_ring (f : Dev nD → EReal) (c : Dev nD) :
    ∑ d, f d = (f (sh 4 c) + f (sh 5 c) + f (sh 6 c) + f (sh 7 c)) + (f (sh 3 c) + f (sh 2 c) + f (sh 1 c)) + f c := by
  have h8 : ∑ d : Dev nD, f d = ∑ d : Fin 8, f d := rfl
  rw [h8, Fin.sum_univ_eight]
  have hv : c = 0 ∨ c = 1 ∨ c = 2 ∨ c = 3 ∨ c = 4 ∨ c = 5 ∨ c = 6 ∨ c = 7 := by revert c; decide
  rcases hv with h | h | h | h | h | h | h | h <;> subst h
  · show f 0 + f 1 + f 2 + f 3 + f 4 + f 5 + f 6 + f 7 = (f 4 + f 5 + f 6 + f 7) + (f 3 + f 2 + f 1) + f 0; abel
  · show f 0 + f 1 + f 2 + f 3 + f 4 + f 5 + f 6 + f 7 = (f 5 + f 6 + f 7 + f 0) + (f 4 + f 3 + f 2) + f 1; abel
  · show f 0 + f 1 + f 2 + f 3 + f 4 + f 5 + f 6 + f 7 = (f 6 + f 7 + f 0 + f 1) + (f 5 + f 4 + f 3) + f 2; abel
  · show f 0 + f 1 + f 2 + f 3 + f 4 + f 5 + f 6 + f 7 = (f 7 + f 0 + f 1 + f 2) + (f 6 + f 5 + f 4) + f 3; abel
  · show f 0 + f 1 + f 2 + f 3 + f 4 + f 5 + f 6 + f 7 = (f 0 + f 1 + f 2 + f 3) + (f 7 + f 6 + f 5) + f 4; abel
  · show f 0 + f 1 + f 2 + f 3 + f 4 + f 5 + f 6 + f 7 = (f 1 + f 2 + f 3 + f 4) + (f 0 + f 7 + f 6) + f 5; abel
  · show f 0 + f 1 + f 2 + f 3 + f 4 + f 5 + f 6 + f 7 = (f 2 + f 3 + f 4 + f 5) + (f 1 + f 0 + f 7) + f 6; abel
  · show f 0 + f 1 + f 2 + f 3 + f 4 + f 5 + f 6 + f 7 = (f 3 + f 4 + f 5 + f 6) + (f 2 + f 1 + f 0) + f 7; abel

variable (I : Inp Ideal)

theorem SR_zero_apply (c : Dev nD) (b : Fin 2) (r : Fin 128) (n : Fin 512) :
    SR I 0 c b (ix4 0 0 r n) = ATT I c (sh 4 c) b (ix2 r n) := packV_apply _ r n
theorem SR_succ_apply (t : ℕ) (c : Dev nD) (b : Fin 2) (r : Fin 128) (n : Fin 512) :
    SR I (t + 1) c b (ix4 0 0 r n) = SR I t (sh 7 c) b (ix4 0 0 r n) + ATT I c (sh (3 - t) c) b (ix2 r n) :=
  (packV_apply _ r n).trans (addV_apply _ _ r n)
theorem SL_zero_apply (c : Dev nD) (b : Fin 2) (r : Fin 128) (n : Fin 512) :
    SL I 0 c b (ix4 0 0 r n) = ATT I c (sh 5 c) b (ix2 r n) := packV_apply _ r n
theorem SL_succ_apply (t : ℕ) (c : Dev nD) (b : Fin 2) (r : Fin 128) (n : Fin 512) :
    SL I (t + 1) c b (ix4 0 0 r n) = SL I t (sh 1 c) b (ix4 0 0 r n) + ATT I c (sh (6 + t) c) b (ix2 r n) :=
  (packV_apply _ r n).trans (addV_apply _ _ r n)

theorem OUT_apply (c : Dev nD) (b : Fin 2) (r : Fin 128) (n : Fin 512) :
    OUT I c (ix3 b r n) = ∑ d, ATT I d c b (ix2 r n) := by
  have e : OUT I c (ix3 b r n) = outV (F := Ideal) (ATT I c c b) (SR I 3 (sh 7 c) b) (SL I 2 (sh 1 c) b) (ix3 0 r n) :=
    congrArg (outV (F := Ideal) (ATT I c c b) (SR I 3 (sh 7 c) b) (SL I 2 (sh 1 c) b)) (ix3_eq (0 : Fin 1) r n)
  have hm : ∀ a a', a % 8 = a' % 8 → sh a c = sh a' c := fun a a' h => by rw [← sh_mod a, ← sh_mod a', h]
  have h0 : ∀ a, a % 8 = 0 → sh a c = c := fun a h => (hm a 0 h).trans (sh_zero c)
  rw [e, outV_apply, SR_succ_apply, SR_succ_apply, SR_succ_apply, SR_zero_apply, SL_succ_apply, SL_succ_apply, SL_zero_apply]
  simp only [sh_sh]
  rw [sum_ring _ c]
  norm_num only [Nat.reduceAdd, Nat.reduceSub]
  rw [h0 32 rfl, h0 24 rfl, h0 16 rfl, h0 8 rfl, hm 28 4 rfl, hm 21 5 rfl, hm 14 6 rfl]

end Cert.Plain

end
-- ==== Proof.Stages.lean ====
/- The reference over the extended reals, stage by stage, and each stage read at an index. -/
module

public import proofs.«01_k».proof.Proof.Tables
public import proofs.«01_k».proof.Proof.Gen.ReferenceIdeal.Run
public import Idealize.ShloMosaic.Lib.ValueIdx
public import Idealize.ShloMosaic.Lib.Pipeline.Value

@[expose] public section

noncomputable section

namespace Cert.Plain.Reference

open Idealize.ShloMosaic Idealize.ShloMosaic.TcCoe Idealize.ShloMosaic.ValueIdx
open Cert.ReferenceIdeal Cert.ReferenceIdeal.Gen
open scoped BigOperators

/-! ## The stages -/

/-- The activations times a weight, cut into heads. -/
def heads (x : Vec Ideal S2x1024x512 .f32) (w : Vec Ideal S512x2048 .f32) : Vec Ideal S2x1024x32x64 .f32 :=
  shapeCast S2x1024x32x64 (Host.dotGeneral (F := Ideal) (φ₁ := .f32) (φ₂ := .f32) dot_S2x1024x512_S512x2048_S2x1024x2048_2_0_01_1_n_n none x w)
    shapeCasts_S2x1024x2048_S2x1024x32x64

/-- The angles. -/
def angles : FVec Ideal S1024x32 .f32 :=
  mulf (broadcastInDim S1024x32 ![0, 1] bcast_S1024x1_S1024x32_0_1 (sitofp .f32 (broadcastInDim S1024x1 ![0] bcast_S1024_S1024x1_0 (iotaInDim S1024 32 0))))
    (broadcastInDim S1024x32 ![0, 1] bcast_S1x32_S1024x32_0_1 (broadcastInDim S1x32 ![1] bcast_S32_S1x32_1
      (Host.divf (broadcastInDim S32 ![] bcast_S_S32 (constant S_ .f32 0x3F800000#32))
        (Host.powf (broadcastInDim S32 ![] bcast_S_S32 (constant S_ .f32 0x461C4000#32))
          (Host.divf (sitofp .f32 (addi (broadcastInDim S32 ![] bcast_S_S32 (constantI S_ 32 0#32))
              (muli (broadcastInDim S32 ![] bcast_S_S32 (constantI S_ 32 2#32)) (iotaInDim S32 32 0))))
            (broadcastInDim S32 ![] bcast_S_S32 (constant S_ .f32 0x42800000#32)))))))

/-- A table of one entry per pair, with each entry on both lanes, for all batches and heads. -/
def spread (t : FVec Ideal S1024x32 .f32) : FVec Ideal S2x1024x32x64 .f32 :=
  broadcastInDim S2x1024x32x64 ![0, 1, 2, 3] bcast_S1x1024x1x64_S2x1024x32x64_0_1_2_3
    (broadcastInDim S1x1024x1x64 ![1, 3] bcast_S1024x64_S1x1024x1x64_1_3
      (shapeCast S1024x64 (broadcastInDim S1024x32x2 ![0, 1] bcast_S1024x32_S1024x32x2_0_1 t) shapeCasts_S1024x32x2_S1024x64))

/-- One lane of each pair. -/
def odd (P : FVec Ideal S2x1024x32x64 .f32) : FVec Ideal S2x1024x32x32 .f32 :=
  shapeCast S2x1024x32x32 (extractStridedSlice S2x1024x32x32x1 ![0, 0, 0, 0, 1]
    (shapeCast S2x1024x32x32x2 P shapeCasts_S2x1024x32x64_S2x1024x32x32x2) slices_S2x1024x32x32x2_S2x1024x32x32x1_0_0_0_0_1)
    shapeCasts_S2x1024x32x32x1_S2x1024x32x32
def even (P : FVec Ideal S2x1024x32x64 .f32) : FVec Ideal S2x1024x32x32 .f32 :=
  shapeCast S2x1024x32x32 (extractStridedSlice S2x1024x32x32x1 ![0, 0, 0, 0, 0]
    (shapeCast S2x1024x32x32x2 P shapeCasts_S2x1024x32x64_S2x1024x32x32x2) slices_S2x1024x32x32x2_S2x1024x32x32x1_0_0_0_0_0)
    shapeCasts_S2x1024x32x32x1_S2x1024x32x32

/-- The rows with the lanes of each pair swapped, the first with a minus. -/
def swapped (P : FVec Ideal S2x1024x32x64 .f32) : FVec Ideal S2x1024x32x64 .f32 :=
  shapeCast S2x1024x32x64 (concatenate S2x1024x32x32x2 4
    [⟨S2x1024x32x32x1, broadcastInDim S2x1024x32x32x1 ![0, 1, 2, 3] bcast_S2x1024x32x32_S2x1024x32x32x1_0_1_2_3 (Host.negf (odd P))⟩,
     ⟨S2x1024x32x32x1, broadcastInDim S2x1024x32x32x1 ![0, 1, 2, 3] bcast_S2x1024x32x32_S2x1024x32x32x1_0_1_2_3 (even P)⟩]
    concatenates_S2x1024x32x32x1_S2x1024x32x32x1_S2x1024x32x32x2_d4) shapeCasts_S2x1024x32x32x2_S2x1024x32x64

/-- The rows turned. -/
def turned (P : FVec Ideal S2x1024x32x64 .f32) : FVec Ideal S2x1024x32x64 .f32 :=
  addf (mulf P (spread (Host.cos angles))) (mulf (swapped P) (spread (Host.sin angles)))

/-- The scores. -/
def scores (q k : FVec Ideal S2x1024x32x64 .f32) : FVec Ideal S2x32x1024x1024 .f32 :=
  mulf (Host.dotGeneral (F := Ideal) dot_S2x1024x32x64_S2x1024x32x64_S2x32x1024x1024_3_3_1_1_02_02 none q k)
    (broadcastInDim S2x32x1024x1024 ![] bcast_S_S2x32x1024x1024 (constant S_ .f32 0x3E000000#32))

/-- A quantity of a row, at every place of the row. -/
def along (t : FVec Ideal S2x32x1024 .f32) : FVec Ideal S2x32x1024x1024 .f32 :=
  broadcastInDim S2x32x1024x1024 ![0, 1, 2, 3] bcast_S2x32x1024x1_S2x32x1024x1024_0_1_2_3
    (broadcastInDim S2x32x1024x1 ![0, 1, 2] bcast_S2x32x1024_S2x32x1024x1_0_1_2 t)

/-- The largest score of a row. -/
def largest (s : FVec Ideal S2x32x1024x1024 .f32) : FVec Ideal S2x32x1024 .f32 :=
  Host.reduce (FloatOps.maximumf (F := Ideal) (φ := .f32)) s (constant S_ .f32 0xFF800000#32) reducesTo_S2x32x1024x1024_S2x32x1024_d3 h_S_

/-- The exponentials, and the weights. -/
def expo (s : FVec Ideal S2x32x1024x1024 .f32) : FVec Ideal S2x32x1024x1024 .f32 := Host.exp (subf s (along (largest s)))
def weights (s : FVec Ideal S2x32x1024x1024 .f32) : FVec Ideal S2x32x1024x1024 .f32 :=
  Host.divf (expo s) (along (Host.reduceAdd (expo s) (constant S_ .f32 0x00000000#32) reducesTo_S2x32x1024x1024_S2x32x1024_d3 h_S_))

/-- The averages of the values, all heads of a row side by side. -/
def averages (v : FVec Ideal S2x1024x32x64 .f32) (w : FVec Ideal S2x32x1024x1024 .f32) : FVec Ideal S2x1024x2048 .f32 :=
  shapeCast S2x1024x2048 (transpose S2x1024x32x64 [0, 3, 1, 2]
    (Host.dotGeneral (F := Ideal) dot_S2x1024x32x64_S2x32x1024x1024_S2x32x64x1024_1_3_3_2_02_01 none v w)
    transposes_S2x32x64x1024_S2x1024x32x64_0_3_1_2) shapeCasts_S2x1024x32x64_S2x1024x2048

/-- The reference as a function of its arguments. -/
def result (x : Vec Ideal S2x1024x512 .f32) (wq wk wv : Vec Ideal S512x2048 .f32) (wo : Vec Ideal S2048x512 .f32) : Vec Ideal S2x1024x512 .f32 :=
  Host.dotGeneral (F := Ideal) (φ₁ := .f32) (φ₂ := .f32) dot_S2x1024x2048_S2048x512_S2x1024x512_2_0_01_1_n_n none
    (averages (heads x wv) (weights (scores (turned (heads x wq)) (turned (heads x wk))))) wo

set_option maxRecDepth 8192 in
theorem res_eq (m : (ℓ : Loc nD τ sig) → Buf (Elt Ideal) ℓ) (c : Dev nD) :
    Cert.ReferenceIdeal.Value.res_main_v80 (F := Ideal) m c
      = result (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) := rfl

end Cert.Plain.Reference

end
-- ==== Proof.Values.lean ====
/- Each stage of the reference over the extended reals, read at an index. -/
module

public import proofs.«01_k».proof.Proof.Stages

@[expose] public section

noncomputable section

namespace Cert.Plain.Reference

open Idealize.ShloMosaic Idealize.ShloMosaic.TcCoe Idealize.ShloMosaic.ValueIdx
open Cert.ReferenceIdeal Cert.ReferenceIdeal.Gen
open scoped BigOperators

/-! ## The products -/

theorem rows_dot (x : Vec Ideal S2x1024x512 .f32) (w : Vec Ideal S512x2048 .f32) (b : Fin 2) (r : Fin 1024) (l : Fin 2048) :
    Host.dotGeneral (F := Ideal) (φ₁ := .f32) (φ₂ := .f32) dot_S2x1024x512_S512x2048_S2x1024x2048_2_0_01_1_n_n none x w (ix3 b r l)
      = ∑ D : Fin 512, x (ix3 b r D) * w (ix2 D l) := by
  refine (Ideal.dotGeneral_apply _ _ _ _ _ _).trans ?_
  let e := contrEquiv1 dot_S2x1024x512_S512x2048_S2x1024x2048_2_0_01_1_n_n 512 rfl rfl
  rw [← Equiv.sum_comp e.symm]
  refine Finset.sum_congr rfl fun D _ => ?_
  have hD := contrEquiv1_symm_val dot_S2x1024x512_S512x2048_S2x1024x2048_2_0_01_1_n_n 512 rfl rfl D
  refine congrArg₂ (· * ·) (congrArg x ?_) (congrArg w ?_)
  · funext a; apply Fin.ext
    match a with | ⟨0, _⟩ => rfl | ⟨1, _⟩ => rfl | ⟨2, _⟩ => exact hD
  · funext a; apply Fin.ext
    match a with | ⟨0, _⟩ => exact hD | ⟨1, _⟩ => rfl

theorem out_dot (x : FVec Ideal S2x1024x2048 .f32) (w : Vec Ideal S2048x512 .f32) (b : Fin 2) (r : Fin 1024) (n : Fin 512) :
    Host.dotGeneral (F := Ideal) (φ₁ := .f32) (φ₂ := .f32) dot_S2x1024x2048_S2048x512_S2x1024x512_2_0_01_1_n_n none x w (ix3 b r n)
      = ∑ l : Fin 2048, x (ix3 b r l) * w (ix2 l n) := by
  refine (Ideal.dotGeneral_apply _ _ _ _ _ _).trans ?_
  let e := contrEquiv1 dot_S2x1024x2048_S2048x512_S2x1024x512_2_0_01_1_n_n 2048 rfl rfl
  rw [← Equiv.sum_comp e.symm]
  refine Finset.sum_congr rfl fun D _ => ?_
  have hD := contrEquiv1_symm_val dot_S2x1024x2048_S2048x512_S2x1024x512_2_0_01_1_n_n 2048 rfl rfl D
  refine congrArg₂ (· * ·) (congrArg x ?_) (congrArg w ?_)
  · funext a; apply Fin.ext
    match a with | ⟨0, _⟩ => rfl | ⟨1, _⟩ => rfl | ⟨2, _⟩ => exact hD
  · funext a; apply Fin.ext
    match a with | ⟨0, _⟩ => exact hD | ⟨1, _⟩ => rfl

theorem score_dot (q k : FVec Ideal S2x1024x32x64 .f32) (b : Fin 2) (h : Fin 32) (i j : Fin 1024) :
    Host.dotGeneral (F := Ideal) dot_S2x1024x32x64_S2x1024x32x64_S2x32x1024x1024_3_3_1_1_02_02 none q k (ix4 b h i j)
      = ∑ m : Fin 64, q (ix4 b i h m) * k (ix4 b j h m) := by
  refine (Ideal.dotGeneral_apply _ _ _ _ _ _).trans ?_
  let e := contrEquiv1 dot_S2x1024x32x64_S2x1024x32x64_S2x32x1024x1024_3_3_1_1_02_02 64 rfl rfl
  rw [← Equiv.sum_comp e.symm]
  refine Finset.sum_congr rfl fun D _ => ?_
  have hD := contrEquiv1_symm_val dot_S2x1024x32x64_S2x1024x32x64_S2x32x1024x1024_3_3_1_1_02_02 64 rfl rfl D
  refine congrArg₂ (· * ·) (congrArg q ?_) (congrArg k ?_)
  · funext a; apply Fin.ext
    match a with | ⟨0, _⟩ => rfl | ⟨1, _⟩ => rfl | ⟨2, _⟩ => rfl | ⟨3, _⟩ => exact hD
  · funext a; apply Fin.ext
    match a with | ⟨0, _⟩ => rfl | ⟨1, _⟩ => rfl | ⟨2, _⟩ => rfl | ⟨3, _⟩ => exact hD

theorem value_dot (v : FVec Ideal S2x1024x32x64 .f32) (w : FVec Ideal S2x32x1024x1024 .f32) (b : Fin 2) (h : Fin 32) (m : Fin 64) (i : Fin 1024) :
    Host.dotGeneral (F := Ideal) dot_S2x1024x32x64_S2x32x1024x1024_S2x32x64x1024_1_3_3_2_02_01 none v w (ix4 b h m i)
      = ∑ j : Fin 1024, v (ix4 b j h m) * w (ix4 b h i j) := by
  refine (Ideal.dotGeneral_apply _ _ _ _ _ _).trans ?_
  let e := contrEquiv1 dot_S2x1024x32x64_S2x32x1024x1024_S2x32x64x1024_1_3_3_2_02_01 1024 rfl rfl
  rw [← Equiv.sum_comp e.symm]
  refine Finset.sum_congr rfl fun D _ => ?_
  have hD := contrEquiv1_symm_val dot_S2x1024x32x64_S2x32x1024x1024_S2x32x64x1024_1_3_3_2_02_01 1024 rfl rfl D
  refine congrArg₂ (· * ·) (congrArg v ?_) (congrArg w ?_)
  · funext a; apply Fin.ext
    match a with | ⟨0, _⟩ => rfl | ⟨1, _⟩ => exact hD | ⟨2, _⟩ => rfl | ⟨3, _⟩ => rfl
  · funext a; apply Fin.ext
    match a with | ⟨0, _⟩ => rfl | ⟨1, _⟩ => rfl | ⟨2, _⟩ => rfl | ⟨3, _⟩ => exact hD

/-! ## The heads and the turns -/

/-- Lane `m` of head `h`. -/
def wide (h : Fin 32) (m : Fin 64) : Fin 2048 := ⟨64 * h.val + m.val, by have := h.isLt; have := m.isLt; omega⟩
def pairIx (m : Fin 64) : Fin 32 := ⟨m.val / 2, by have := m.isLt; omega⟩
def parity (m : Fin 64) : Fin 2 := ⟨m.val % 2, Nat.mod_lt _ (by decide)⟩
def swap64 (m : Fin 64) : Fin 64 := ⟨swap m.val, by have := m.isLt; unfold swap; omega⟩

theorem heads_apply (x : Vec Ideal S2x1024x512 .f32) (w : Vec Ideal S512x2048 .f32) (b : Fin 2) (r : Fin 1024) (h : Fin 32) (m : Fin 64) :
    heads x w (ix4 b r h m) = ∑ D : Fin 512, x (ix3 b r D) * w (ix2 D (wide h m)) := by
  rw [← rows_dot]
  refine shapeCast_apply _ _ _ _ ?_
  rw [Shape.rowMajor_val_three, Shape.rowMajor_val_four]
  show (b.val * 1024 + r.val) * 2048 + (64 * h.val + m.val) = ((b.val * 1024 + r.val) * 32 + h.val) * 64 + m.val
  omega

theorem angles_apply (r : Fin 1024) (p : Fin 32) : angles (ix2 r p) = ((ang r.val p.val : ℝ) : EReal) := by
  have hr := r.isLt
  have hp := p.isLt
  have e : angles (ix2 r p) = (((BitVec.ofNat 32 r.val).toInt : ℝ) : EReal)
      * Ideal.div (Ideal.ofBits .f32 0x3F800000#32) (Ideal.pow (Ideal.ofBits .f32 0x461C4000#32)
        (Ideal.div (((0#32 + 2#32 * BitVec.ofNat 32 p.val).toInt : ℝ) : EReal) (Ideal.ofBits .f32 0x42800000#32))) := rfl
  have h2 : (0#32 + 2#32 * BitVec.ofNat 32 p.val) = BitVec.ofNat 32 (2 * p.val) := by
    apply BitVec.eq_of_toNat_eq; simp
  rw [e, h2, pos_int _ hr, pos_int _ (by omega), lit_one, lit_ten, lit_64, Int.cast_natCast, Int.cast_natCast, ang_reference]

theorem spread_apply (t : FVec Ideal S1024x32 .f32) (b : Fin 2) (r : Fin 1024) (h : Fin 32) (m : Fin 64) :
    spread t (ix4 b r h m) = t (ix2 r (pairIx m)) := by
  unfold spread
  refine (broadcastInDim_apply _ _ _ _ (ix4 0 r 0 m) fun a => ?_).trans ?_
  · match a with | ⟨0, _⟩ => rfl | ⟨1, _⟩ => rfl | ⟨2, _⟩ => rfl | ⟨3, _⟩ => rfl
  refine (broadcastInDim_apply _ _ _ _ (ix2 r m) fun a => ?_).trans ?_
  · match a with | ⟨0, _⟩ => rfl | ⟨1, _⟩ => rfl
  refine (shapeCast_apply _ _ _ (ix3 r (pairIx m) (parity m)) ?_).trans ?_
  · rw [Shape.rowMajor_val_three, Shape.rowMajor_val_two]
    show (r.val * 32 + m.val / 2) * 2 + m.val % 2 = r.val * 64 + m.val
    omega
  refine broadcastInDim_apply _ _ _ _ (ix2 r (pairIx m)) fun a => ?_
  match a with | ⟨0, _⟩ => rfl | ⟨1, _⟩ => rfl

theorem odd_apply (P : FVec Ideal S2x1024x32x64 .f32) (b : Fin 2) (r : Fin 1024) (h p : Fin 32) :
    odd P (ix4 b r h p) = P (ix4 b r h ⟨2 * p.val + 1, by have := p.isLt; omega⟩) := by
  unfold odd
  refine (shapeCast_apply _ _ _ (ix5 b r h p 0) ?_).trans ?_
  · rw [Shape.rowMajor_val_five, Shape.rowMajor_val_four]
    show (((b.val * 1024 + r.val) * 32 + h.val) * 32 + p.val) * 1 + 0 = ((b.val * 1024 + r.val) * 32 + h.val) * 32 + p.val
    omega
  refine (extractStridedSlice_apply _ _ _ _ (ix5 b r h p 1) fun a => ?_).trans ?_
  · match a with
    | ⟨0, _⟩ => show b.val = 0 + b.val; omega
    | ⟨1, _⟩ => show r.val = 0 + r.val; omega
    | ⟨2, _⟩ => show h.val = 0 + h.val; omega
    | ⟨3, _⟩ => show p.val = 0 + p.val; omega
    | ⟨4, _⟩ => rfl
  refine shapeCast_apply _ _ _ _ ?_
  rw [Shape.rowMajor_val_five, Shape.rowMajor_val_four]
  show ((b.val * 1024 + r.val) * 32 + h.val) * 64 + (2 * p.val + 1) = (((b.val * 1024 + r.val) * 32 + h.val) * 32 + p.val) * 2 + 1
  omega

theorem even_apply (P : FVec Ideal S2x1024x32x64 .f32) (b : Fin 2) (r : Fin 1024) (h p : Fin 32) :
    even P (ix4 b r h p) = P (ix4 b r h ⟨2 * p.val, by have := p.isLt; omega⟩) := by
  unfold even
  refine (shapeCast_apply _ _ _ (ix5 b r h p 0) ?_).trans ?_
  · rw [Shape.rowMajor_val_five, Shape.rowMajor_val_four]
    show (((b.val * 1024 + r.val) * 32 + h.val) * 32 + p.val) * 1 + 0 = ((b.val * 1024 + r.val) * 32 + h.val) * 32 + p.val
    omega
  refine (extractStridedSlice_apply _ _ _ _ (ix5 b r h p 0) fun a => ?_).trans ?_
  · match a with
    | ⟨0, _⟩ => show b.val = 0 + b.val; omega
    | ⟨1, _⟩ => show r.val = 0 + r.val; omega
    | ⟨2, _⟩ => show h.val = 0 + h.val; omega
    | ⟨3, _⟩ => show p.val = 0 + p.val; omega
    | ⟨4, _⟩ => rfl
  refine shapeCast_apply _ _ _ _ ?_
  rw [Shape.rowMajor_val_five, Shape.rowMajor_val_four]
  show ((b.val * 1024 + r.val) * 32 + h.val) * 64 + 2 * p.val = (((b.val * 1024 + r.val) * 32 + h.val) * 32 + p.val) * 2 + 0
  omega

theorem swapped_apply (P : FVec Ideal S2x1024x32x64 .f32) (b : Fin 2) (r : Fin 1024) (h : Fin 32) (m : Fin 64) :
    swapped P (ix4 b r h m) = if m.val % 2 = 0 then -P (ix4 b r h (swap64 m)) else P (ix4 b r h (swap64 m)) := by
  unfold swapped
  refine (shapeCast_apply _ _ _ (ix5 b r h (pairIx m) (parity m)) ?_).trans ?_
  · rw [Shape.rowMajor_val_five, Shape.rowMajor_val_four]
    show (((b.val * 1024 + r.val) * 32 + h.val) * 32 + m.val / 2) * 2 + m.val % 2 = ((b.val * 1024 + r.val) * 32 + h.val) * 64 + m.val
    omega
  by_cases hm : m.val % 2 = 0
  · rw [if_pos hm]
    refine (concatenate_pair_apply_left (t := S2x1024x32x32x2) (s₁ := S2x1024x32x32x1) (s₂ := S2x1024x32x32x1) 4 _ _ _ _ rfl
      (ix5 b r h (pairIx m) 0) fun a => ?_).trans ?_
    · match a with
      | ⟨0, _⟩ => rfl | ⟨1, _⟩ => rfl | ⟨2, _⟩ => rfl | ⟨3, _⟩ => rfl
      | ⟨4, _⟩ => show 0 = m.val % 2; omega
    refine (broadcastInDim_apply _ _ _ _ (ix4 b r h (pairIx m)) fun a => ?_).trans ?_
    · match a with | ⟨0, _⟩ => rfl | ⟨1, _⟩ => rfl | ⟨2, _⟩ => rfl | ⟨3, _⟩ => rfl
    refine (congrArg (fun z : EReal => -z) (odd_apply P b r h (pairIx m))).trans ?_
    have : (⟨2 * (pairIx m).val + 1, by have := (pairIx m).isLt; omega⟩ : Fin 64) = swap64 m := by
      apply Fin.ext; show 2 * (m.val / 2) + 1 = m.val + 1 - 2 * (m.val % 2); omega
    rw [this]
  · rw [if_neg hm]
    refine (concatenate_pair_apply_right (t := S2x1024x32x32x2) (s₁ := S2x1024x32x32x1) (s₂ := S2x1024x32x32x1) 4 _ _ _ _ rfl rfl
      (ix5 b r h (pairIx m) 0) (fun a ha => ?_) ?_).trans ?_
    · match a with
      | ⟨0, _⟩ => rfl | ⟨1, _⟩ => rfl | ⟨2, _⟩ => rfl | ⟨3, _⟩ => rfl
      | ⟨4, _⟩ => exact absurd rfl ha
    · show 0 + 1 = m.val % 2; omega
    refine (broadcastInDim_apply _ _ _ _ (ix4 b r h (pairIx m)) fun a => ?_).trans ?_
    · match a with | ⟨0, _⟩ => rfl | ⟨1, _⟩ => rfl | ⟨2, _⟩ => rfl | ⟨3, _⟩ => rfl
    refine (even_apply P b r h (pairIx m)).trans ?_
    have : (⟨2 * (pairIx m).val, by have := (pairIx m).isLt; omega⟩ : Fin 64) = swap64 m := by
      apply Fin.ext; show 2 * (m.val / 2) = m.val + 1 - 2 * (m.val % 2); omega
    rw [this]

theorem turned_apply (P : FVec Ideal S2x1024x32x64 .f32) (b : Fin 2) (r : Fin 1024) (h : Fin 32) (m : Fin 64) :
    turned P (ix4 b r h m) = P (ix4 b r h m) * ((Real.cos (ang r.val (m.val / 2)) : ℝ) : EReal)
      + P (ix4 b r h (swap64 m)) * ((Real.sin (ang r.val (m.val / 2)) * sgn m.val : ℝ) : EReal) := by
  unfold turned
  rw [addf_apply, mulf_apply, mulf_apply, spread_apply, spread_apply, swapped_apply]
  have hc : Host.cos (F := Ideal) angles (ix2 r (pairIx m)) = ((Real.cos (ang r.val (m.val / 2)) : ℝ) : EReal) :=
    (congrArg Ideal.cos (angles_apply r (pairIx m))).trans (Ideal.cos_coe _)
  have hs : Host.sin (F := Ideal) angles (ix2 r (pairIx m)) = ((Real.sin (ang r.val (m.val / 2)) : ℝ) : EReal) :=
    (congrArg Ideal.sin (angles_apply r (pairIx m))).trans (Ideal.sin_coe _)
  rw [hc, hs]
  congr 1
  unfold sgn
  by_cases hm : m.val % 2 = 0
  · rw [if_pos hm, if_pos hm, mul_neg_one, EReal.coe_neg, mul_neg, neg_mul]
  · rw [if_neg hm, if_neg hm, mul_one]

/-! ## The weights -/

theorem scores_apply (q k : FVec Ideal S2x1024x32x64 .f32) (b : Fin 2) (h : Fin 32) (i j : Fin 1024) :
    scores q k (ix4 b h i j) = (∑ m : Fin 64, q (ix4 b i h m) * k (ix4 b j h m)) * ((1 / 8 : ℝ) : EReal) := by
  unfold scores
  rw [mulf_apply, score_dot, ← lit_eighth]
  rfl

theorem along_apply (t : FVec Ideal S2x32x1024 .f32) (b : Fin 2) (h : Fin 32) (i j : Fin 1024) : along t (ix4 b h i j) = t (ix3 b h i) := by
  unfold along
  refine (broadcastInDim_apply _ _ _ _ (ix4 b h i 0) fun a => ?_).trans ?_
  · match a with | ⟨0, _⟩ => rfl | ⟨1, _⟩ => rfl | ⟨2, _⟩ => rfl | ⟨3, _⟩ => rfl
  refine broadcastInDim_apply _ _ _ _ (ix3 b h i) fun a => ?_
  match a with | ⟨0, _⟩ => rfl | ⟨1, _⟩ => rfl | ⟨2, _⟩ => rfl

theorem red4 : S2x32x1024x1024.Reduces [3] S2x32x1024 := by decide

theorem lift4 (b : Fin 2) (h : Fin 32) (i j : Fin 1024) : red4.lift (ix3 b h i : S2x32x1024.Idx) j = (ix4 b h i j : S2x32x1024x1024.Idx) := by
  funext a; match a with | ⟨0, _⟩ => rfl | ⟨1, _⟩ => rfl | ⟨2, _⟩ => rfl | ⟨3, _⟩ => rfl

theorem largest_apply (s : FVec Ideal S2x32x1024x1024 .f32) (b : Fin 2) (h : Fin 32) (i : Fin 1024) :
    largest s (ix3 b h i) = (Finset.univ : Finset (Fin 1024)).fold max ⊥ (fun j => s (ix4 b h i j)) := by
  have hb : Ideal.ofBits .f32 0xFF800000#32 = ⊥ := by simp [Ideal.ofBits, Ideal.ieee]
  have e := Host.reduce_eq_fold_single (FloatOps.maximumf (F := Ideal) (φ := .f32)) s (constant (F := Ideal) S_ .f32 0xFF800000#32)
    reducesTo_S2x32x1024x1024_S2x32x1024_d3 red4 h_S_ (ix3 b h i)
  refine e.trans ?_
  have hi : constant (F := Ideal) S_ .f32 0xFF800000#32 (Shape.Idx.first h_S_) = (⊥ : EReal) := hb
  have hf : (s ∘ red4.lift (ix3 b h i)) = fun j : Fin 1024 => s (ix4 b h i j) := funext fun j => congrArg s (lift4 b h i j)
  rw [hi, hf]
  rfl

theorem expo_apply (s : FVec Ideal S2x32x1024x1024 .f32) (b : Fin 2) (h : Fin 32) (i j : Fin 1024) :
    expo s (ix4 b h i j) = Ideal.exp (s (ix4 b h i j) - (Finset.univ : Finset (Fin 1024)).fold max ⊥ (fun j => s (ix4 b h i j))) := by
  rw [← largest_apply, ← along_apply (largest s) b h i j]
  rfl

theorem weights_apply (s : FVec Ideal S2x32x1024x1024 .f32) (b : Fin 2) (h : Fin 32) (i j : Fin 1024) :
    weights s (ix4 b h i j) = Ideal.div (expo s (ix4 b h i j)) (∑ j', expo s (ix4 b h i j')) := by
  unfold weights
  rw [hostDivf_apply, along_apply]
  refine congrArg (Ideal.div _) ?_
  refine (Ideal.hostReduceAdd_single reducesTo_S2x32x1024x1024_S2x32x1024_d3 red4 (expo s) (Ideal.ofBits .f32 0x00000000#32) (ix3 b h i)).trans ?_
  rw [lit_zero, EReal.coe_zero, zero_add]
  exact Finset.sum_congr rfl fun j' _ => congrArg (expo s) (lift4 b h i j')

theorem averages_apply (v : FVec Ideal S2x1024x32x64 .f32) (w : FVec Ideal S2x32x1024x1024 .f32) (b : Fin 2) (i : Fin 1024) (h : Fin 32) (m : Fin 64) :
    averages v w (ix3 b i (wide h m)) = ∑ j : Fin 1024, v (ix4 b j h m) * w (ix4 b h i j) := by
  rw [← value_dot]
  refine (shapeCast_apply _ _ _ (ix4 b i h m) ?_).trans ?_
  · rw [Shape.rowMajor_val_three, Shape.rowMajor_val_four]
    show ((b.val * 1024 + i.val) * 32 + h.val) * 64 + m.val = (b.val * 1024 + i.val) * 2048 + (64 * h.val + m.val)
    omega
  refine transpose_apply _ _ _ _ (ix4 b h m i) fun a => ?_
  match a with | ⟨0, _⟩ => rfl | ⟨1, _⟩ => rfl | ⟨2, _⟩ => rfl | ⟨3, _⟩ => rfl

theorem result_apply (x : Vec Ideal S2x1024x512 .f32) (wq wk wv : Vec Ideal S512x2048 .f32) (wo : Vec Ideal S2048x512 .f32)
    (b : Fin 2) (i : Fin 1024) (n : Fin 512) :
    result x wq wk wv wo (ix3 b i n)
      = ∑ l : Fin 2048, averages (heads x wv) (weights (scores (turned (heads x wq)) (turned (heads x wk)))) (ix3 b i l) * wo (ix2 l n) :=
  out_dot _ _ b i n

end Cert.Plain.Reference

end
-- ==== Proof.Agree.lean ====
/- The kernel's result is the reference's: of inputs cut over the devices, with real activations, query and key weights. -/
module

public import proofs.«01_k».proof.Proof.Total
public import proofs.«01_k».proof.Proof.Values

@[expose] public section

noncomputable section

namespace Cert.Plain

open Idealize.ShloMosaic Idealize.ShloMosaic.TcCoe Idealize.ShloMosaic.ValueIdx
open Cert.KernelIdeal (nD)
open Cert.Proof hiding ix2 ix3 ix4
open Cert.Plain.Reference
open scoped BigOperators

/-- The lane of the whole weight that is lane `l` of device `d`'s columns, and the head that is its head `h`. -/
def glob (d : Dev nD) (l : Fin 256) : Fin 2048 := ⟨256 * d.val + l.val, by have h : d.val < 8 := d.isLt; have := l.isLt; omega⟩
def globH (d : Dev nD) (h : Fin 4) : Fin 32 := ⟨4 * d.val + h.val, by have h : d.val < 8 := d.isLt; have := h; omega⟩

theorem glob_lane (d : Dev nD) (h : Fin 4) (m : Fin 64) : glob d (lane h m) = wide (globH d h) m := by
  apply Fin.ext; simp only [glob, lane, wide, globH]; omega

/-- Inputs of the devices cut out of whole arrays. -/
structure Cut (I : Inp Ideal) (x : Vec Ideal ⟨3, ![2, 1024, 512]⟩ .f32) (wq wk wv : Vec Ideal ⟨2, ![512, 2048]⟩ .f32)
    (wo : Vec Ideal ⟨2, ![2048, 512]⟩ .f32) : Prop where
  /-- Rows of the activations, -/
  hx : ∀ k b r D, I.x k (ix3 b r D) = x (ix3 b (rowOf k r) D)
  /-- columns of the query weight, -/
  hq : ∀ d D l, I.wq d (ix2 D l) = wq (ix2 D (glob d l))
  /-- of the key weight, -/
  hk : ∀ d D l, I.wk d (ix2 D l) = wk (ix2 D (glob d l))
  /-- of the value weight, -/
  hv : ∀ d D l, I.wv d (ix2 D l) = wv (ix2 D (glob d l))
  /-- and rows of the output weight. -/
  ho : ∀ d l n, I.wo d (ix2 l n) = wo (ix2 (glob d l) n)

theorem swapF_lane (h : Fin 4) (m : Fin 64) : swapF (lane h m) = lane h (swap64 m) := by
  apply Fin.ext; have := m.isLt; simp only [swapF, lane, swap64, swap]; omega
theorem pair_lane (h : Fin 4) (m : Fin 64) : (lane h m).val % 64 / 2 = m.val / 2 := by
  have := m.isLt; simp only [lane]; omega
theorem sgn_lane (h : Fin 4) (m : Fin 64) : sgn (lane h m).val = sgn m.val := by
  have : (lane h m).val % 2 = m.val % 2 := by simp only [lane]; omega
  unfold sgn; rw [this]

/-- A device's turned rows are the reference's. -/
theorem turn_eq (x : Vec Ideal ⟨3, ![2, 1024, 512]⟩ .f32) (w : Vec Ideal ⟨2, ![512, 2048]⟩ .f32)
    (xr : Fin 512 → EReal) (wc : Fin 512 → Fin 256 → EReal) (d : Dev nD) (b : Fin 2) (i : Fin 1024)
    (hx : ∀ D, xr D = x (ix3 b i D)) (hw : ∀ D l, wc D l = w (ix2 D (glob d l))) (h : Fin 4) (m : Fin 64) :
    turn (proj xr wc) i.val (lane h m) = turned (heads x w) (ix4 b i (globH d h) m) := by
  have hp : ∀ m, proj xr wc (lane h m) = heads x w (ix4 b i (globH d h) m) := by
    intro m
    rw [heads_apply, ← glob_lane]
    exact Finset.sum_congr rfl fun D _ => by rw [hx, hw]
  unfold turn
  rw [swapF_lane, pair_lane, sgn_lane, hp, hp, Reference.turned_apply]

theorem heads_real (x : Vec Ideal ⟨3, ![2, 1024, 512]⟩ .f32) (w : Vec Ideal ⟨2, ![512, 2048]⟩ .f32) (hx : ∀ i, IsReal (x i)) (hw : ∀ i, IsReal (w i))
    (b : Fin 2) (i : Fin 1024) (h : Fin 32) (m : Fin 64) : IsReal (heads x w (ix4 b i h m)) := by
  rw [heads_apply]
  exact isReal_sum _ _ fun D => (hx _).mul (hw _)

theorem turned_real (x : Vec Ideal ⟨3, ![2, 1024, 512]⟩ .f32) (w : Vec Ideal ⟨2, ![512, 2048]⟩ .f32) (hx : ∀ i, IsReal (x i)) (hw : ∀ i, IsReal (w i))
    (b : Fin 2) (i : Fin 1024) (h : Fin 32) (m : Fin 64) : IsReal (turned (heads x w) (ix4 b i h m)) := by
  rw [Reference.turned_apply]
  exact ((heads_real x w hx hw b i h m).mul (isReal_coe _)).add ((heads_real x w hx hw b i h _).mul (isReal_coe _))

section
variable {I : Inp Ideal} {x : Vec Ideal ⟨3, ![2, 1024, 512]⟩ .f32} {wq wk wv : Vec Ideal ⟨2, ![512, 2048]⟩ .f32}
  {wo : Vec Ideal ⟨2, ![2048, 512]⟩ .f32} (C : Cut I x wq wk wv wo)
include C

theorem kscore_eq (d k : Dev nD) (b : Fin 2) (r : Fin 128) (h : Fin 4) (j : Fin 1024) :
    kscore I d k b r h j = ∑ m : Fin 64, turned (heads x wq) (ix4 b (rowOf k r) (globH d h) m) * kap
      * turned (heads x wk) (ix4 b j (globH d h) m) := by
  unfold kscore
  refine Finset.sum_congr rfl fun m _ => ?_
  rw [qC_apply, kC_apply, turn_eq x wq _ _ d b (rowOf k r) (fun D => C.hx k b r D) (fun D l => C.hq d D l) h m,
    turn_eq x wk _ _ d b (rowOf (chunk j) (place j)) (fun D => C.hx (chunk j) b (place j) D) (fun D l => C.hk d D l) h m, rowOf_chunk]

theorem kvalue_eq (d : Dev nD) (b : Fin 2) (h : Fin 4) (m : Fin 64) (j : Fin 1024) :
    kvalue I d b (lane h m) j = heads x wv (ix4 b j (globH d h) m) := by
  unfold kvalue
  rw [vC_apply, heads_apply, ← glob_lane]
  refine Finset.sum_congr rfl fun D _ => ?_
  show I.x (chunk j) (ix3 b (place j) D) * I.wv d (ix2 D (lane h m)) = _
  rw [C.hx, C.hv, rowOf_chunk]

/-- Each average of a device is the reference's. -/
theorem avg_eq (hx : ∀ i, IsReal (x i)) (hq : ∀ i, IsReal (wq i)) (hk : ∀ i, IsReal (wk i))
    (d k : Dev nD) (b : Fin 2) (r : Fin 128) (h : Fin 4) (m : Fin 64) :
    avg (kscore I d k b r h) (kvalue I d b (lane h m))
      = averages (heads x wv) (weights (scores (turned (heads x wq)) (turned (heads x wk)))) (ix3 b (rowOf k r) (wide (globH d h) m)) := by
  have hl : Real.log 2 ≠ 0 := (Real.log_pos (by norm_num)).ne'
  choose q hqr using fun m => turned_real x wq hx hq b (rowOf k r) (globH d h) m
  choose kk hkr using fun j m => turned_real x wk hx hk b j (globH d h) m
  let s : Fin 1024 → ℝ := fun j => (∑ m, q m * kk j m) * (1 / 8)
  have hs : ∀ j, scores (turned (heads x wq)) (turned (heads x wk)) (ix4 b (globH d h) (rowOf k r) j) = ((s j : ℝ) : EReal) := by
    intro j
    rw [scores_apply]
    simp only [hqr, hkr, ← EReal.coe_mul, coe_sum']
    rfl
  have hks : ∀ j, kscore I d k b r h j = ((s j / Real.log 2 : ℝ) : EReal) := by
    intro j
    rw [kscore_eq C]
    simp only [hqr, hkr, kap, ← EReal.coe_mul, coe_sum']
    congr 1
    show _ = (∑ m, q m * kk j m) * (1 / 8) / Real.log 2
    rw [mul_div_assoc, Finset.sum_mul]
    refine Finset.sum_congr rfl fun m _ => ?_
    field_simp
  obtain ⟨M, hM⟩ := fold_max_isReal (n := 1024) (by norm_num)
    (fun j => scores (turned (heads x wq)) (turned (heads x wk)) (ix4 b (globH d h) (rowOf k r) j)) (fun j => ⟨s j, hs j⟩)
  have he : ∀ j, expo (scores (turned (heads x wq)) (turned (heads x wk))) (ix4 b (globH d h) (rowOf k r) j)
      = Ideal.exp (((s j : ℝ) : EReal) - (M : EReal)) := by
    intro j; rw [expo_apply, hM, hs]
  rw [averages_apply]
  unfold avg
  simp only [hks, kvalue_eq C, weights_apply, he]
  exact softmax_eq (by norm_num) s M _

/-- The result of a device is the reference's rows. -/
theorem out_eq (hx : ∀ i, IsReal (x i)) (hq : ∀ i, IsReal (wq i)) (hk : ∀ i, IsReal (wk i))
    (c : Dev nD) (b : Fin 2) (r : Fin 128) (n : Fin 512) :
    OUT I c (ix3 b r n) = result x wq wk wv wo (ix3 b (rowOf c r) n) := by
  rw [OUT_apply, result_apply]
  have e : ∀ d, ATT I d c b (ix2 r n) = ∑ l : Fin 256,
      averages (heads x wv) (weights (scores (turned (heads x wq)) (turned (heads x wk)))) (ix3 b (rowOf c r) (glob d l)) * wo (ix2 (glob d l) n) := by
    intro d
    rw [ATT_apply]
    refine Finset.sum_congr rfl fun l _ => ?_
    rw [C.ho]
    have := avg_eq C hx hq hk d c b r (headIx l) (laneIx l)
    rw [← glob_lane, lane_ix] at this
    rw [this]
  simp only [e]
  have hsum : ∀ f : Fin 2048 → EReal, ∑ L, f L = ∑ d : Dev nD, ∑ l : Fin 256, f (glob d l) := by
    intro f
    have h1 : ∑ L : Fin 2048, f L = ∑ p : Fin 8 × Fin 256, f ((finProdFinEquiv : Fin 8 × Fin 256 ≃ Fin (8 * 256)) p) :=
      (Equiv.sum_comp (finProdFinEquiv : Fin 8 × Fin 256 ≃ Fin (8 * 256)) f).symm
    rw [h1, Fintype.sum_prod_type]
    refine Finset.sum_congr rfl fun d _ => Finset.sum_congr rfl fun l _ => congrArg f (Fin.ext ?_)
    show l.val + 256 * d.val = 256 * d.val + l.val
    omega
  exact (hsum fun L => averages (heads x wv) (weights (scores (turned (heads x wq)) (turned (heads x wk)))) (ix3 b (rowOf c r) L) * wo (ix2 L n)).symm

end

end Cert.Plain

end
-- ==== Proof.Algebraic.lean ====
/- The value claim: of inputs cut over the devices, the kernel's results are the reference's, cut the same way. -/
module

public import proofs.«01_k».proof.Defs
public import proofs.«01_k».proof.Proof.Agree
public import proofs.«01_k».proof.Proof.Finite
public import proofs.«01_k».proof.Proof.Launch
public import proofs.«01_k».proof.Proof.Gen.ReferenceIdeal.Run

@[expose] public section

noncomputable section

namespace Cert.Plain

set_option maxRecDepth 100000

open Idealize.ShloMosaic Idealize.ShloMosaic.TcCoe Idealize.ShloMosaic.ValueIdx Idealize.SL.Sem
open Cert.KernelIdeal (nD)
open Cert.Proof hiding ix2 ix3 ix4
open Cert.Plain.Reference

/-- Where an entry of a device's block lies in the whole: rows of activations, columns of a weight, rows of a weight. -/
theorem place_x (h : Layout.Tiles ⟨3, ![2, 128, 512]⟩ ⟨3, ![2, 1024, 512]⟩ 1 8) (c : Fin 8) (b : Fin 2) (r : Fin 128) (D : Fin 512) :
    h.idx c (ix3 b r D) = ix3 b (rowOf c r) D := by
  funext a
  match a with
  | 0 => exact Fin.ext rfl
  | 1 => exact Fin.ext (congrArg (· + r.val) (Nat.mul_comm c.val 128))
  | 2 => exact Fin.ext rfl
theorem place_col (h : Layout.Tiles ⟨2, ![512, 256]⟩ ⟨2, ![512, 2048]⟩ 1 8) (c : Fin 8) (D : Fin 512) (l : Fin 256) :
    h.idx c (ix2 D l) = ix2 D (glob c l) := by
  funext a
  match a with
  | 0 => exact Fin.ext rfl
  | 1 => exact Fin.ext (congrArg (· + l.val) (Nat.mul_comm c.val 256))
theorem place_row (h : Layout.Tiles ⟨2, ![256, 512]⟩ ⟨2, ![2048, 512]⟩ 0 8) (c : Fin 8) (l : Fin 256) (n : Fin 512) :
    h.idx c (ix2 l n) = ix2 (glob c l) n := by
  funext a
  match a with
  | 0 => exact Fin.ext (congrArg (· + l.val) (Nat.mul_comm c.val 256))
  | 1 => exact Fin.ext rfl

/-- Every lane of the whole weight is a lane of some device's. -/
theorem glob_onto (L : Fin 2048) : ∃ (d : Dev nD) (l : Fin 256), glob d l = L :=
  ⟨⟨L.val / 256, by have := L.isLt; show _ < 8; omega⟩, ⟨L.val % 256, by omega⟩, Fin.ext (by simp only [glob]; omega)⟩

/-- Blocks of reals make an array of reals. -/
theorem real_x (x : Vec Ideal ⟨3, ![2, 1024, 512]⟩ .f32) (h : ∀ (c : Dev nD) b r D, IsReal (x (ix3 b (rowOf c r) D))) (i) : IsReal (x i) := by
  obtain ⟨b, q, D, rfl⟩ : ∃ (b : Fin 2) (q : Fin 1024) (D : Fin 512), i = ix3 b q D := ⟨i 0, i 1, i 2, eq_ix3 i⟩
  have e := h (chunk q) b (place q) D
  rw [rowOf_chunk] at e
  exact e
theorem real_w (w : Vec Ideal ⟨2, ![512, 2048]⟩ .f32) (h : ∀ (c : Dev nD) D l, IsReal (w (ix2 D (glob c l)))) (i) : IsReal (w i) := by
  obtain ⟨D, L, rfl⟩ : ∃ (D : Fin 512) (L : Fin 2048), i = ix2 D L := ⟨i 0, i 1, eq_ix2 i⟩
  obtain ⟨d, l, rfl⟩ := glob_onto L
  exact h d D l

theorem algebraic : Cert.algebraic_KernelIdeal_ReferenceIdeal_pre_finite_x_wq_wk_KernelIdeal (hKernelIdeal := Cert.KernelIdeal.Gen.facts)
    (hReferenceIdeal := Cert.ReferenceIdeal.Gen.facts) (hPre_finite_x_wq_wk_KernelIdeal := blockFacts) := by
  intro m g m' g' hpre hin
  have hr := fun c => real_of_pre _ _ _ _ _ (congrFun (hpre c) fun a => a.elim0)
  have C : Cut (inp' m) (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1))
      (m' (((0 : Dev Cert.ReferenceIdeal.nD).tc : Thread Cert.ReferenceIdeal.nD Cert.ReferenceIdeal.τ).loc Cert.ReferenceIdeal.main_arg2))
      (m' (((0 : Dev Cert.ReferenceIdeal.nD).tc : Thread Cert.ReferenceIdeal.nD Cert.ReferenceIdeal.τ).loc Cert.ReferenceIdeal.main_arg3))
      (m' (((0 : Dev Cert.ReferenceIdeal.nD).tc : Thread Cert.ReferenceIdeal.nD Cert.ReferenceIdeal.τ).loc Cert.ReferenceIdeal.main_arg4)) :=
    { hx := fun k b r D => (congrFun (hin k).1 (ix3 b r D)).trans (congrArg _ (place_x _ k b r D))
      hq := fun k D l => (congrFun (hin k).2.1 (ix2 D l)).trans (congrArg _ (place_col _ k D l))
      hk := fun k D l => (congrFun (hin k).2.2.1 (ix2 D l)).trans (congrArg _ (place_col _ k D l))
      hv := fun k D l => (congrFun (hin k).2.2.2.1 (ix2 D l)).trans (congrArg _ (place_col _ k D l))
      ho := fun k l n => (congrFun (hin k).2.2.2.2 (ix2 l n)).trans (congrArg _ (place_row _ k l n)) }
  have rx := real_x _ fun c b r D => (congrArg IsReal (C.hx c b r D)).mp ((hr c).1 (ix3 b r D))
  have rq := real_w _ fun c D l => (congrArg IsReal (C.hq c D l)).mp ((hr c).2.1 (ix2 D l))
  have rk := real_w _ fun c D l => (congrArg IsReal (C.hk c D l)).mp ((hr c).2.2 (ix2 D l))
  refine ⟨Cert.ReferenceIdeal.Value.res_main_v80 (F := Ideal) m' 0, ?_, ?_⟩
  · refine (θ_run Cert.KernelIdeal.defs _ _).mono (fun r h c => ⟨(h.1 c).1.trans ?_, (h.1 c).2⟩) (run (F := Ideal) m g)
    funext i
    obtain ⟨b, q, D, rfl⟩ : ∃ (b : Fin 2) (q : Fin 128) (D : Fin 512), i = ix3 b q D := ⟨i 0, i 1, i 2, eq_ix3 i⟩
    exact (out_eq C rx rq rk c b q D).trans ((congrFun (res_eq m' 0).symm _).trans (congrArg _ (place_x _ c b q D).symm))
  · exact (θ_run Cert.ReferenceIdeal.defs _ _).mono (fun r h => h 0) (Cert.ReferenceIdeal.Value.run (F := Ideal) m' g')

end Cert.Plain

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Frames
public import proofs.«01_k».proof.Proof.Finite
public import proofs.«01_k».proof.Proof.Algebraic
public import Idealize.ShloMosaic.Adequacy
public import Idealize.ShloMosaic.Init
public import Idealize.ShloMosaic.Lib.Quiescent

@[expose] public section

noncomputable section

namespace Cert.Proof

open Idealize.ShloMosaic Idealize.SL.Sem Cert.Kernel

/-- The reference runs and leaves its arguments unchanged. -/
theorem frame_reference : Cert.quiescent_ReferenceIdeal (hReferenceIdeal := Cert.ReferenceIdeal.Gen.facts) := by
  intro m g _
  exact (θ_run Cert.ReferenceIdeal.defs _ _).mono (fun r h => ⟨fun c => (h c).2, sem_eq_zero_of_no_sems (by decide) r.2⟩)
    (Cert.ReferenceIdeal.Value.run (F := Ideal) m g)

/-- The constant named in the idealized kernel is the one that its name gives. -/
theorem preserves : Cert.preserves_Kernel_KernelIdeal :=
  IdealRules.named_const.statement Cert.KernelIdeal.κ "scale_log2e" .f32 0x3E38AA3B#32 (((8 * (Real.log 2))⁻¹ : ℝ) : EReal) rfl

theorem claim : Cert.Claim := ⟨Cert.Kernel.Gen.facts, Cert.KernelIdeal.Gen.facts, Cert.ReferenceIdeal.Gen.facts,
  Cert.Plain.blockFacts, Cert.Plain.wholeFacts,
  frame_kernel, frame_ideal, fun m g _ => frame_ideal m g trivial, frame_reference, fun m g _ => frame_reference m g trivial,
  preserves, Cert.Plain.algebraic⟩

end Cert.Proof

end
